-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_floats_finite [hPre_floats_finite : Cert.Pre_floats_finite.Facts] (m : (ℓ : Loc Cert.AttnIdeal.nD Cert.AttnIdeal.τ Cert.AttnIdeal.sig) → Buf (Elt Ideal) ℓ) : Prop :=
  ∀ c : Dev Cert.AttnIdeal.nD,
    (Cert.Pre_floats_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_floats_finite [hPre_floats_finite : Cert.Pre_floats_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_floats_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6))) = (fun _ => 1#1)

def Pre_Rank (m : (ℓ : Loc Cert.Rank.nD Cert.Rank.τ Cert.Rank.sig) → Buf (Elt Bits) ℓ) : Prop :=
  True

def Pre_RankIdeal (m : (ℓ : Loc Cert.RankIdeal.nD Cert.RankIdeal.τ Cert.RankIdeal.sig) → Buf (Elt Ideal) ℓ) : Prop :=
  True

def Pre_RankReferenceIdeal (m : (ℓ : Loc Cert.RankReferenceIdeal.nD Cert.RankReferenceIdeal.τ Cert.RankReferenceIdeal.sig) → Buf (Elt Ideal) ℓ) : Prop :=
  True

def Pre_Pad (m : (ℓ : Loc Cert.Pad.nD Cert.Pad.τ Cert.Pad.sig) → Buf (Elt Bits) ℓ) : Prop :=
  True

def Pre_PadIdeal (m : (ℓ : Loc Cert.PadIdeal.nD Cert.PadIdeal.τ Cert.PadIdeal.sig) → Buf (Elt Ideal) ℓ) : Prop :=
  True

def Pre_PadReferenceIdeal (m : (ℓ : Loc Cert.PadReferenceIdeal.nD Cert.PadReferenceIdeal.τ Cert.PadReferenceIdeal.sig) → Buf (Elt Ideal) ℓ) : Prop :=
  True

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_floats_finite [hAttnIdeal : Cert.AttnIdeal.Facts] [hPre_floats_finite : Cert.Pre_floats_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_floats_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6))
      ∧ r.2.sem = fun _ => 0)

def quiescent_AttnReferenceIdeal_pre_floats_finite [hAttnReferenceIdeal : Cert.AttnReferenceIdeal.Facts] [hPre_floats_finite : Cert.Pre_floats_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_floats_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6))
      ∧ r.2.sem = fun _ => 0)

def quiescent_Rank [hRank : Cert.Rank.Facts] : Prop :=
  ∀ (m : (ℓ : Loc Cert.Rank.nD Cert.Rank.τ Cert.Rank.sig) → Buf (Elt Bits) ℓ) (g : Dev Cert.Rank.nD → PrngReg), Pre_Rank m →
    θ_run (Cert.Rank.defs (F := Bits)) (onTc (τ := Cert.Rank.τ) (Cert.Rank.main (F := Bits))) ⟨m, fun _ => 0, g⟩ (fun r => (∀ c : Dev Cert.Rank.nD,
      r.2.mem ((c.tc : Thread Cert.Rank.nD Cert.Rank.τ).loc Cert.Rank.main_arg0) = m ((c.tc : Thread Cert.Rank.nD Cert.Rank.τ).loc Cert.Rank.main_arg0)
      ∧ r.2.mem ((c.tc : Thread Cert.Rank.nD Cert.Rank.τ).loc Cert.Rank.main_arg1) = m ((c.tc : Thread Cert.Rank.nD Cert.Rank.τ).loc Cert.Rank.main_arg1)
      ∧ r.2.mem ((c.tc : Thread Cert.Rank.nD Cert.Rank.τ).loc Cert.Rank.main_arg2) = m ((c.tc : Thread Cert.Rank.nD Cert.Rank.τ).loc Cert.Rank.main_arg2))
      ∧ r.2.sem = fun _ => 0)

def quiescent_RankIdeal [hRankIdeal : Cert.RankIdeal.Facts] : Prop :=
  ∀ (m : (ℓ : Loc Cert.RankIdeal.nD Cert.RankIdeal.τ Cert.RankIdeal.sig) → Buf (Elt Ideal) ℓ) (g : Dev Cert.RankIdeal.nD → PrngReg), Pre_RankIdeal m →
    θ_run (Cert.RankIdeal.defs (F := Ideal)) (onTc (τ := Cert.RankIdeal.τ) (Cert.RankIdeal.main (F := Ideal))) ⟨m, fun _ => 0, g⟩ (fun r => (∀ c : Dev Cert.RankIdeal.nD,
      r.2.mem ((c.tc : Thread Cert.RankIdeal.nD Cert.RankIdeal.τ).loc Cert.RankIdeal.main_arg0) = m ((c.tc : Thread Cert.RankIdeal.nD Cert.RankIdeal.τ).loc Cert.RankIdeal.main_arg0)
      ∧ r.2.mem ((c.tc : Thread Cert.RankIdeal.nD Cert.RankIdeal.τ).loc Cert.RankIdeal.main_arg1) = m ((c.tc : Thread Cert.RankIdeal.nD Cert.RankIdeal.τ).loc Cert.RankIdeal.main_arg1)
      ∧ r.2.mem ((c.tc : Thread Cert.RankIdeal.nD Cert.RankIdeal.τ).loc Cert.RankIdeal.main_arg2) = m ((c.tc : Thread Cert.RankIdeal.nD Cert.RankIdeal.τ).loc Cert.RankIdeal.main_arg2))
      ∧ r.2.sem = fun _ => 0)

def quiescent_RankReferenceIdeal [hRankReferenceIdeal : Cert.RankReferenceIdeal.Facts] : Prop :=
  ∀ (m : (ℓ : Loc Cert.RankReferenceIdeal.nD Cert.RankReferenceIdeal.τ Cert.RankReferenceIdeal.sig) → Buf (Elt Ideal) ℓ) (g : Dev Cert.RankReferenceIdeal.nD → PrngReg), Pre_RankReferenceIdeal m →
    θ_run (Cert.RankReferenceIdeal.defs (F := Ideal)) (onTc (τ := Cert.RankReferenceIdeal.τ) (Cert.RankReferenceIdeal.main (F := Ideal))) ⟨m, fun _ => 0, g⟩ (fun r => (∀ c : Dev Cert.RankReferenceIdeal.nD,
      r.2.mem ((c.tc : Thread Cert.RankReferenceIdeal.nD Cert.RankReferenceIdeal.τ).loc Cert.RankReferenceIdeal.main_arg0) = m ((c.tc : Thread Cert.RankReferenceIdeal.nD Cert.RankReferenceIdeal.τ).loc Cert.RankReferenceIdeal.main_arg0)
      ∧ r.2.mem ((c.tc : Thread Cert.RankReferenceIdeal.nD Cert.RankReferenceIdeal.τ).loc Cert.RankReferenceIdeal.main_arg1) = m ((c.tc : Thread Cert.RankReferenceIdeal.nD Cert.RankReferenceIdeal.τ).loc Cert.RankReferenceIdeal.main_arg1)
      ∧ r.2.mem ((c.tc : Thread Cert.RankReferenceIdeal.nD Cert.RankReferenceIdeal.τ).loc Cert.RankReferenceIdeal.main_arg2) = m ((c.tc : Thread Cert.RankReferenceIdeal.nD Cert.RankReferenceIdeal.τ).loc Cert.RankReferenceIdeal.main_arg2))
      ∧ r.2.sem = fun _ => 0)

def quiescent_Pad [hPad : Cert.Pad.Facts] : Prop :=
  ∀ (m : (ℓ : Loc Cert.Pad.nD Cert.Pad.τ Cert.Pad.sig) → Buf (Elt Bits) ℓ) (g : Dev Cert.Pad.nD → PrngReg), Pre_Pad m →
    θ_run (Cert.Pad.defs (F := Bits)) (onTc (τ := Cert.Pad.τ) (Cert.Pad.main (F := Bits))) ⟨m, fun _ => 0, g⟩ (fun r => (∀ c : Dev Cert.Pad.nD,
      r.2.mem ((c.tc : Thread Cert.Pad.nD Cert.Pad.τ).loc Cert.Pad.main_arg0) = m ((c.tc : Thread Cert.Pad.nD Cert.Pad.τ).loc Cert.Pad.main_arg0))
      ∧ r.2.sem = fun _ => 0)

def quiescent_PadIdeal [hPadIdeal : Cert.PadIdeal.Facts] : Prop :=
  ∀ (m : (ℓ : Loc Cert.PadIdeal.nD Cert.PadIdeal.τ Cert.PadIdeal.sig) → Buf (Elt Ideal) ℓ) (g : Dev Cert.PadIdeal.nD → PrngReg), Pre_PadIdeal m →
    θ_run (Cert.PadIdeal.defs (F := Ideal)) (onTc (τ := Cert.PadIdeal.τ) (Cert.PadIdeal.main (F := Ideal))) ⟨m, fun _ => 0, g⟩ (fun r => (∀ c : Dev Cert.PadIdeal.nD,
      r.2.mem ((c.tc : Thread Cert.PadIdeal.nD Cert.PadIdeal.τ).loc Cert.PadIdeal.main_arg0) = m ((c.tc : Thread Cert.PadIdeal.nD Cert.PadIdeal.τ).loc Cert.PadIdeal.main_arg0))
      ∧ r.2.sem = fun _ => 0)

def quiescent_PadReferenceIdeal [hPadReferenceIdeal : Cert.PadReferenceIdeal.Facts] : Prop :=
  ∀ (m : (ℓ : Loc Cert.PadReferenceIdeal.nD Cert.PadReferenceIdeal.τ Cert.PadReferenceIdeal.sig) → Buf (Elt Ideal) ℓ) (g : Dev Cert.PadReferenceIdeal.nD → PrngReg), Pre_PadReferenceIdeal m →
    θ_run (Cert.PadReferenceIdeal.defs (F := Ideal)) (onTc (τ := Cert.PadReferenceIdeal.τ) (Cert.PadReferenceIdeal.main (F := Ideal))) ⟨m, fun _ => 0, g⟩ (fun r => (∀ c : Dev Cert.PadReferenceIdeal.nD,
      r.2.mem ((c.tc : Thread Cert.PadReferenceIdeal.nD Cert.PadReferenceIdeal.τ).loc Cert.PadReferenceIdeal.main_arg0) = m ((c.tc : Thread Cert.PadReferenceIdeal.nD Cert.PadReferenceIdeal.τ).loc Cert.PadReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_v31) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Attn_AttnIdeal : Prop :=
  True

def algebraic_AttnIdeal_AttnReferenceIdeal_pre_floats_finite [hAttnIdeal : Cert.AttnIdeal.Facts] [hAttnReferenceIdeal : Cert.AttnReferenceIdeal.Facts] [hPre_floats_finite : Cert.Pre_floats_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_floats_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)
      ∧ m' ((c.tc : Thread Cert.AttnReferenceIdeal.nD Cert.AttnReferenceIdeal.τ).loc Cert.AttnReferenceIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v13)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v13) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v81) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6))

def preserves_Rank_RankIdeal : Prop :=
  True

def algebraic_RankIdeal_RankReferenceIdeal [hRankIdeal : Cert.RankIdeal.Facts] [hRankReferenceIdeal : Cert.RankReferenceIdeal.Facts] : Prop :=
  ∀ (m : (ℓ : Loc Cert.RankIdeal.nD Cert.RankIdeal.τ Cert.RankIdeal.sig) → Buf (Elt Ideal) ℓ) (g : Dev Cert.RankIdeal.nD → PrngReg)
    (m' : (ℓ : Loc Cert.RankReferenceIdeal.nD Cert.RankReferenceIdeal.τ Cert.RankReferenceIdeal.sig) → Buf (Elt Ideal) ℓ) (g' : Dev Cert.RankReferenceIdeal.nD → PrngReg), Pre_RankIdeal m →
    (∀ c : Dev Cert.RankIdeal.nD,
      m' ((c.tc : Thread Cert.RankReferenceIdeal.nD Cert.RankReferenceIdeal.τ).loc Cert.RankReferenceIdeal.main_arg0) = m ((c.tc : Thread Cert.RankIdeal.nD Cert.RankIdeal.τ).loc Cert.RankIdeal.main_arg0)
      ∧ m' ((c.tc : Thread Cert.RankReferenceIdeal.nD Cert.RankReferenceIdeal.τ).loc Cert.RankReferenceIdeal.main_arg1) = m ((c.tc : Thread Cert.RankIdeal.nD Cert.RankIdeal.τ).loc Cert.RankIdeal.main_arg1)
      ∧ m' ((c.tc : Thread Cert.RankReferenceIdeal.nD Cert.RankReferenceIdeal.τ).loc Cert.RankReferenceIdeal.main_arg2) = m ((c.tc : Thread Cert.RankIdeal.nD Cert.RankIdeal.τ).loc Cert.RankIdeal.main_arg2)) →
    ∃ (v0 : (c : Dev Cert.RankIdeal.nD) → Buf (Elt Ideal) ((c.tc : Thread Cert.RankIdeal.nD Cert.RankIdeal.τ).loc Cert.RankIdeal.main_v3_0)) (v1 : (c : Dev Cert.RankIdeal.nD) → Buf (Elt Ideal) ((c.tc : Thread Cert.RankIdeal.nD Cert.RankIdeal.τ).loc Cert.RankIdeal.main_v3_1)) (v2 : (c : Dev Cert.RankIdeal.nD) → Buf (Elt Ideal) ((c.tc : Thread Cert.RankIdeal.nD Cert.RankIdeal.τ).loc Cert.RankIdeal.main_v3_2)),
      θ_run (Cert.RankIdeal.defs (F := Ideal)) (onTc (τ := Cert.RankIdeal.τ) (Cert.RankIdeal.main (F := Ideal))) ⟨m, fun _ => 0, g⟩ (fun r => ∀ c : Dev Cert.RankIdeal.nD,
          r.2.mem ((c.tc : Thread Cert.RankIdeal.nD Cert.RankIdeal.τ).loc Cert.RankIdeal.main_v3_0) = v0 c
          ∧ r.2.mem ((c.tc : Thread Cert.RankIdeal.nD Cert.RankIdeal.τ).loc Cert.RankIdeal.main_v3_1) = v1 c
          ∧ r.2.mem ((c.tc : Thread Cert.RankIdeal.nD Cert.RankIdeal.τ).loc Cert.RankIdeal.main_v3_2) = v2 c
          ∧ r.2.mem ((c.tc : Thread Cert.RankIdeal.nD Cert.RankIdeal.τ).loc Cert.RankIdeal.main_arg0) = m ((c.tc : Thread Cert.RankIdeal.nD Cert.RankIdeal.τ).loc Cert.RankIdeal.main_arg0)
          ∧ r.2.mem ((c.tc : Thread Cert.RankIdeal.nD Cert.RankIdeal.τ).loc Cert.RankIdeal.main_arg1) = m ((c.tc : Thread Cert.RankIdeal.nD Cert.RankIdeal.τ).loc Cert.RankIdeal.main_arg1)
          ∧ r.2.mem ((c.tc : Thread Cert.RankIdeal.nD Cert.RankIdeal.τ).loc Cert.RankIdeal.main_arg2) = m ((c.tc : Thread Cert.RankIdeal.nD Cert.RankIdeal.τ).loc Cert.RankIdeal.main_arg2))
      ∧ θ_run (Cert.RankReferenceIdeal.defs (F := Ideal)) (onTc (τ := Cert.RankReferenceIdeal.τ) (Cert.RankReferenceIdeal.main (F := Ideal))) ⟨m', fun _ => 0, g'⟩ (fun r => ∀ c : Dev Cert.RankReferenceIdeal.nD,
          r.2.mem ((c.tc : Thread Cert.RankReferenceIdeal.nD Cert.RankReferenceIdeal.τ).loc Cert.RankReferenceIdeal.main_v207) = v0 c
          ∧ r.2.mem ((c.tc : Thread Cert.RankReferenceIdeal.nD Cert.RankReferenceIdeal.τ).loc Cert.RankReferenceIdeal.main_v210) = v1 c
          ∧ r.2.mem ((c.tc : Thread Cert.RankReferenceIdeal.nD Cert.RankReferenceIdeal.τ).loc Cert.RankReferenceIdeal.main_v213) = v2 c
          ∧ r.2.mem ((c.tc : Thread Cert.RankReferenceIdeal.nD Cert.RankReferenceIdeal.τ).loc Cert.RankReferenceIdeal.main_arg0) = m' ((c.tc : Thread Cert.RankReferenceIdeal.nD Cert.RankReferenceIdeal.τ).loc Cert.RankReferenceIdeal.main_arg0)
          ∧ r.2.mem ((c.tc : Thread Cert.RankReferenceIdeal.nD Cert.RankReferenceIdeal.τ).loc Cert.RankReferenceIdeal.main_arg1) = m' ((c.tc : Thread Cert.RankReferenceIdeal.nD Cert.RankReferenceIdeal.τ).loc Cert.RankReferenceIdeal.main_arg1)
          ∧ r.2.mem ((c.tc : Thread Cert.RankReferenceIdeal.nD Cert.RankReferenceIdeal.τ).loc Cert.RankReferenceIdeal.main_arg2) = m' ((c.tc : Thread Cert.RankReferenceIdeal.nD Cert.RankReferenceIdeal.τ).loc Cert.RankReferenceIdeal.main_arg2))

def preserves_Pad_PadIdeal : Prop :=
  True

def algebraic_PadIdeal_PadReferenceIdeal [hPadIdeal : Cert.PadIdeal.Facts] [hPadReferenceIdeal : Cert.PadReferenceIdeal.Facts] : Prop :=
  ∀ (m : (ℓ : Loc Cert.PadIdeal.nD Cert.PadIdeal.τ Cert.PadIdeal.sig) → Buf (Elt Ideal) ℓ) (g : Dev Cert.PadIdeal.nD → PrngReg)
    (m' : (ℓ : Loc Cert.PadReferenceIdeal.nD Cert.PadReferenceIdeal.τ Cert.PadReferenceIdeal.sig) → Buf (Elt Ideal) ℓ) (g' : Dev Cert.PadReferenceIdeal.nD → PrngReg), Pre_PadIdeal m →
    (∀ c : Dev Cert.PadIdeal.nD,
      m' ((c.tc : Thread Cert.PadReferenceIdeal.nD Cert.PadReferenceIdeal.τ).loc Cert.PadReferenceIdeal.main_arg0) = m ((c.tc : Thread Cert.PadIdeal.nD Cert.PadIdeal.τ).loc Cert.PadIdeal.main_arg0)) →
    ∃ (v0 : (c : Dev Cert.PadIdeal.nD) → Buf (Elt Ideal) ((c.tc : Thread Cert.PadIdeal.nD Cert.PadIdeal.τ).loc Cert.PadIdeal.main_v1)),
      θ_run (Cert.PadIdeal.defs (F := Ideal)) (onTc (τ := Cert.PadIdeal.τ) (Cert.PadIdeal.main (F := Ideal))) ⟨m, fun _ => 0, g⟩ (fun r => ∀ c : Dev Cert.PadIdeal.nD,
          r.2.mem ((c.tc : Thread Cert.PadIdeal.nD Cert.PadIdeal.τ).loc Cert.PadIdeal.main_v1) = v0 c
          ∧ r.2.mem ((c.tc : Thread Cert.PadIdeal.nD Cert.PadIdeal.τ).loc Cert.PadIdeal.main_arg0) = m ((c.tc : Thread Cert.PadIdeal.nD Cert.PadIdeal.τ).loc Cert.PadIdeal.main_arg0))
      ∧ θ_run (Cert.PadReferenceIdeal.defs (F := Ideal)) (onTc (τ := Cert.PadReferenceIdeal.τ) (Cert.PadReferenceIdeal.main (F := Ideal))) ⟨m', fun _ => 0, g'⟩ (fun r => ∀ c : Dev Cert.PadReferenceIdeal.nD,
          r.2.mem ((c.tc : Thread Cert.PadReferenceIdeal.nD Cert.PadReferenceIdeal.τ).loc Cert.PadReferenceIdeal.main_v1) = v0 c
          ∧ r.2.mem ((c.tc : Thread Cert.PadReferenceIdeal.nD Cert.PadReferenceIdeal.τ).loc Cert.PadReferenceIdeal.main_arg0) = m' ((c.tc : Thread Cert.PadReferenceIdeal.nD Cert.PadReferenceIdeal.τ).loc Cert.PadReferenceIdeal.main_arg0))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnReferenceIdeal : Cert.AttnReferenceIdeal.Facts) (hRank : Cert.Rank.Facts) (hRankIdeal : Cert.RankIdeal.Facts) (hRankReferenceIdeal : Cert.RankReferenceIdeal.Facts) (hPad : Cert.Pad.Facts) (hPadIdeal : Cert.PadIdeal.Facts) (hPadReferenceIdeal : Cert.PadReferenceIdeal.Facts) (hPre_indices_in_range : Cert.Pre_indices_in_range.Facts) (hPre_floats_finite : Cert.Pre_floats_finite.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ quiescent_Attn (hAttn := hAttn)
    ∧ quiescent_AttnIdeal (hAttnIdeal := hAttnIdeal)
    ∧ quiescent_AttnIdeal_pre_floats_finite (hAttnIdeal := hAttnIdeal) (hPre_floats_finite := hPre_floats_finite)
    ∧ quiescent_AttnReferenceIdeal (hAttnReferenceIdeal := hAttnReferenceIdeal)
    ∧ quiescent_AttnReferenceIdeal_pre_floats_finite (hAttnReferenceIdeal := hAttnReferenceIdeal) (hPre_floats_finite := hPre_floats_finite)
    ∧ quiescent_Rank (hRank := hRank)
    ∧ quiescent_RankIdeal (hRankIdeal := hRankIdeal)
    ∧ quiescent_RankReferenceIdeal (hRankReferenceIdeal := hRankReferenceIdeal)
    ∧ quiescent_Pad (hPad := hPad)
    ∧ quiescent_PadIdeal (hPadIdeal := hPadIdeal)
    ∧ quiescent_PadReferenceIdeal (hPadReferenceIdeal := hPadReferenceIdeal)
    ∧ preserves_Kernel_KernelIdeal
    ∧ algebraic_KernelIdeal_ReferenceIdeal (hKernelIdeal := hKernelIdeal) (hReferenceIdeal := hReferenceIdeal) (hPre_indices_in_range := hPre_indices_in_range)
    ∧ preserves_Attn_AttnIdeal
    ∧ algebraic_AttnIdeal_AttnReferenceIdeal_pre_floats_finite (hAttnIdeal := hAttnIdeal) (hAttnReferenceIdeal := hAttnReferenceIdeal) (hPre_floats_finite := hPre_floats_finite)
    ∧ preserves_Rank_RankIdeal
    ∧ algebraic_RankIdeal_RankReferenceIdeal (hRankIdeal := hRankIdeal) (hRankReferenceIdeal := hRankReferenceIdeal)
    ∧ preserves_Pad_PadIdeal
    ∧ algebraic_PadIdeal_PadReferenceIdeal (hPadIdeal := hPadIdeal) (hPadReferenceIdeal := hPadReferenceIdeal)
-- ==== Pre_floats_finite.lean ====
abbrev S32x8192x128 : Shape := ⟨3, ![32, 8192, 128]⟩
abbrev S32x128x128 : Shape := ⟨3, ![32, 128, 128]⟩
abbrev S2x16x128 : Shape := ⟨3, ![2, 16, 128]⟩
abbrev S32x1x8192 : Shape := ⟨3, ![32, 1, 8192]⟩
abbrev S_ : Shape := ⟨0, ![]⟩

class Facts : Prop where
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel
  bcast_S_S32x128x128 : S_.BroadcastsInDim S32x128x128 (![] : Fin 0 → Fin S32x128x128.rank)
  reducesTo_S32x128x128_S_d0_1_2 : S32x128x128.ReducesTo [0, 1, 2] S_

variable [Facts]

def fn {F : FTy → Type} [FloatOps F] (main_arg0 : FVec F S32x8192x128 .f32) (main_arg1 : FVec F S32x8192x128 .f32) (main_arg2 : FVec F S32x8192x128 .f32) (main_arg3 : FVec F S32x128x128 .f32) (main_arg4 : FVec F S32x128x128 .f32) (main_arg5 : IVec S2x16x128 32) (main_arg6 : IVec S32x1x8192 32) : IVec S_ 1 :=
  let main_v0 : FVec F S32x8192x128 .f32 := Host.absf main_arg0
  let main_cst : FVec F S_ .f32 := constant S_ .f32 0x7F800000#32
  let main_v1 : FVec F S32x8192x128 .f32 := broadcastInDim S32x8192x128 ![] bcast_S_S32x8192x128 main_cst
  let main_v2 : IVec S32x8192x128 1 := cmpf .olt main_v0 main_v1
  let main_c : IVec S_ 1 := constantI S_ 1 1#1
  let main_v3 : IVec S_ 1 := (fun x v => Host.reduce IntOp.andi x v reducesTo_S32x8192x128_S_d0_1_2 h_S_) main_v2 main_c
  let main_v4 : FVec F S32x128x128 .f32 := Host.absf main_arg3
  let main_cst_0 : FVec F S_ .f32 := constant S_ .f32 0x7F800000#32
  let main_v5 : FVec F S32x128x128 .f32 := broadcastInDim S32x128x128 ![] bcast_S_S32x128x128 main_cst_0
  let main_v6 : IVec S32x128x128 1 := cmpf .olt main_v4 main_v5
  let main_c_1 : IVec S_ 1 := constantI S_ 1 1#1
  let main_v7 : IVec S_ 1 := (fun x v => Host.reduce IntOp.andi x v reducesTo_S32x128x128_S_d0_1_2 h_S_) main_v6 main_c_1
  let main_v8 : IVec S_ 1 := andi main_v3 main_v7
  main_v8
-- ==== Pre_indices_in_range.lean ====
abbrev S262144x128 : Shape := ⟨2, ![262144, 128]⟩
abbrev S32x64x128 : Shape := ⟨3, ![32, 64, 128]⟩
abbrev S2x16x128 : Shape := ⟨3, ![2, 16, 128]⟩
abbrev S_ : Shape := ⟨0, ![]⟩

class Facts : Prop where
  bcast_S_S32x64x128 : S_.BroadcastsInDim S32x64x128 (![] : Fin 0 → Fin S32x64x128.rank)
  reducesTo_S32x64x128_S_d0_1_2 : S32x64x128.ReducesTo [0, 1, 2] S_
  h_S_ : 0 < S_.numel
  bcast_S_S2x16x128 : S_.BroadcastsInDim S2x16x128 (![] : Fin 0 → Fin S2x16x128.rank)
  reducesTo_S2x16x128_S_d0_1_2 : S2x16x128.ReducesTo [0, 1, 2] S_

variable [Facts]

def fn_part1 {F : FTy → Type} [FloatOps F] (main_arg5 : IVec S2x16x128 32) (main_v12 : IVec S_ 1) (main_v14 : IVec S2x16x128 1) (main_v15 : IVec S2x16x128 32) : IVec S_ 1 :=
  let main_v16 : IVec S2x16x128 1 := cmpi .slt main_arg5 main_v15
  let main_v17 : IVec S2x16x128 1 := andi main_v14 main_v16
  let main_c_7 : IVec S_ 1 := constantI S_ 1 1#1
  let main_v18 : IVec S_ 1 := (fun x v => Host.reduce IntOp.andi x v reducesTo_S2x16x128_S_d0_1_2 h_S_) main_v17 main_c_7
  let main_v19 : IVec S_ 1 := andi main_v12 main_v18
  main_v19

def fn {F : FTy → Type} [FloatOps F] (main_arg0 : FVec F S262144x128 .f32) (main_arg1 : FVec F S262144x128 .f32) (main_arg2 : FVec F S262144x128 .f32) (main_arg3 : IVec S32x64x128 32) (main_arg4 : IVec S32x64x128 32) (main_arg5 : IVec S2x16x128 32) : IVec S_ 1 :=
  let main_c : IVec S_ 32 := constantI S_ 32 0#32
  let main_v0 : IVec S32x64x128 32 := broadcastInDim S32x64x128 ![] bcast_S_S32x64x128 main_c
  let main_v1 : IVec S32x64x128 1 := cmpi .sge main_arg3 main_v0
  let main_c_0 : IVec S_ 32 := constantI S_ 32 262144#32
  let main_v2 : IVec S32x64x128 32 := broadcastInDim S32x64x128 ![] bcast_S_S32x64x128 main_c_0
  let main_v3 : IVec S32x64x128 1 := cmpi .slt main_arg3 main_v2
  let main_v4 : IVec S32x64x128 1 := andi main_v1 main_v3
  let main_c_1 : IVec S_ 1 := constantI S_ 1 1#1
  let main_v5 : IVec S_ 1 := (fun x v => Host.reduce IntOp.andi x v reducesTo_S32x64x128_S_d0_1_2 h_S_) main_v4 main_c_1
  let main_c_2 : IVec S_ 32 := constantI S_ 32 0#32
  let main_v6 : IVec S32x64x128 32 := broadcastInDim S32x64x128 ![] bcast_S_S32x64x128 main_c_2
  let main_v7 : IVec S32x64x128 1 := cmpi .sge main_arg4 main_v6
  let main_c_3 : IVec S_ 32 := constantI S_ 32 262144#32
  let main_v8 : IVec S32x64x128 32 := broadcastInDim S32x64x128 ![] bcast_S_S32x64x128 main_c_3
  let main_v9 : IVec S32x64x128 1 := cmpi .slt main_arg4 main_v8
  let main_v10 : IVec S32x64x128 1 := andi main_v7 main_v9
  let main_c_4 : IVec S_ 1 := constantI S_ 1 1#1
  let main_v11 : IVec S_ 1 := (fun x v => Host.reduce IntOp.andi x v reducesTo_S32x64x128_S_d0_1_2 h_S_) main_v10 main_c_4
  let main_v12 : IVec S_ 1 := andi main_v5 main_v11
  let main_c_5 : IVec S_ 32 := constantI S_ 32 0#32
  let main_v13 : IVec S2x16x128 32 := broadcastInDim S2x16x128 ![] bcast_S_S2x16x128 main_c_5
  let main_v14 : IVec S2x16x128 1 := cmpi .sge main_arg5 main_v13
  let main_c_6 : IVec S_ 32 := constantI S_ 32 8192#32
  let main_v15 : IVec S2x16x128 32 := broadcastInDim S2x16x128 ![] bcast_S_S2x16x128 main_c_6
  fn_part1 (F := F) main_arg5 main_v12 main_v14 main_v15
-- ==== Kernel.lean ====
abbrev S262144x128 : Shape := ⟨2, ![262144, 128]⟩
abbrev S32x64x128 : Shape := ⟨3, ![32, 64, 128]⟩
abbrev S2x16x128 : Shape := ⟨3, ![2, 16, 128]⟩
abbrev S32x128 : Shape := ⟨2, ![32, 128]⟩
abbrev S4096x128 : Shape := ⟨2, ![4096, 128]⟩
abbrev S64x128 : Shape := ⟨2, ![64, 128]⟩
abbrev S128x128 : Shape := ⟨2, ![128, 128]⟩
abbrev S128 : Shape := ⟨1, ![128]⟩
abbrev S_ : Shape := ⟨0, ![]⟩
abbrev S1x64x128 : Shape := ⟨3, ![1, 64, 128]⟩
abbrev S1x128 : Shape := ⟨2, ![1, 128]⟩
abbrev S8192x128 : Shape := ⟨2, ![8192, 128]⟩

abbrev nBuf : Table → Nat
  | .hbm => 12
  | .local .scVector .vmem => 3
  | _ => 0

abbrev bufTy : (tb : Table) → Fin (nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S32x64x128, .i32⟩
  | .hbm, ⟨4, _⟩ => ⟨S32x64x128, .i32⟩
  | .hbm, ⟨5, _⟩ => ⟨S2x16x128, .i32⟩
  | .hbm, ⟨6, _⟩ => ⟨S32x128, .i32⟩
  | .hbm, ⟨7, _⟩ => ⟨S262144x128, .f32⟩
  | .hbm, ⟨8, _⟩ => ⟨S262144x128, .f32⟩
  | .hbm, ⟨9, _⟩ => ⟨S262144x128, .f32⟩
  | .hbm, ⟨10, _⟩ => ⟨S4096x128, .f32⟩
  | .hbm, ⟨11, _⟩ => ⟨S4096x128, .f32⟩
  | .local .scVector .vmem, ⟨0, _⟩ => ⟨S64x128, .i32⟩
  | .local .scVector .vmem, ⟨1, _⟩ => ⟨S128x128, .f32⟩
  | .local .scVector .vmem, ⟨2, _⟩ => ⟨S128, .i32⟩
  | _, _ => ⟨S262144x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_scv : Ref sig .scVector := ⟨.hbm, 6, rfl⟩
abbrev main_v1_0_scv : Ref sig .scVector := ⟨.hbm, 7, rfl⟩
abbrev main_v1_1_scv : Ref sig .scVector := ⟨.hbm, 8, rfl⟩
abbrev main_v1_2_scv : Ref sig .scVector := ⟨.hbm, 9, rfl⟩
abbrev main_v1_3_scv : Ref sig .scVector := ⟨.hbm, 10, rfl⟩
abbrev main_v1_4_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_26_r0 : BitVec 32 := 0#32
  let c0_i32_27_r0 : BitVec 32 := 0#32
  ![v1.toNat, 0, 0]
@[reducible] def k0_t1_loop : Scf.Loop 32 :=
  let c0_i32_0 : BitVec 32 := 0#32
  let c64_i32 : BitVec 32 := 64#32
  let v2 : BitVec 32 := Scalar.addi c0_i32_0 c64_i32
  let c1_i32 : BitVec 32 := 1#32
  ⟨c0_i32_0, v2, c1_i32⟩
def k0_off2 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let c0_i32_26 : BitVec 32 := 0#32
  ![arg17.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32_32 : BitVec 32 := 8192#32
  let v26 : BitVec 32 := Scalar.muli v1 c8192_i32_32
  let c0_i32_0 : BitVec 32 := 0#32
  let c1_i32 : BitVec 32 := 1#32
  let arg17 : BitVec 32 := Scf.iv c0_i32_0 c1_i32 k0_t1
  let c128_i32_33 : BitVec 32 := 128#32
  let v27 : BitVec 32 := Scalar.muli arg17 c128_i32_33
  let v28 : BitVec 32 := Scalar.addi v26 v27
  let c0_i32_35_r1 : BitVec 32 := 0#32
  ![v28.toNat, 0]
@[reducible] def k0_t2_loop : Scf.Loop 32 :=
  let c0_i32_3 : BitVec 32 := 0#32
  let c64_i32_4 : BitVec 32 := 64#32
  let v4 : BitVec 32 := Scalar.addi c0_i32_3 c64_i32_4
  let c1_i32_5 : BitVec 32 := 1#32
  ⟨c0_i32_3, v4, c1_i32_5⟩
def k0_off4 (k0_t2 : Fin k0_t2_loop.trips) : Fin 2 → Nat :=
  let c0_i32_3 : BitVec 32 := 0#32
  let c1_i32_5 : BitVec 32 := 1#32
  let arg17 : BitVec 32 := Scf.iv c0_i32_3 c1_i32_5 k0_t2
  let c0_i32_26 : BitVec 32 := 0#32
  ![arg17.toNat, 0]
def k0_off5 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32_32 : BitVec 32 := 8192#32
  let v26 : BitVec 32 := Scalar.muli v1 c8192_i32_32
  let c0_i32_3 : BitVec 32 := 0#32
  let c1_i32_5 : BitVec 32 := 1#32
  let arg17 : BitVec 32 := Scf.iv c0_i32_3 c1_i32_5 k0_t2
  let c128_i32_33 : BitVec 32 := 128#32
  let v27 : BitVec 32 := Scalar.muli arg17 c128_i32_33
  let v28 : BitVec 32 := Scalar.addi v26 v27
  let c0_i32_35_r3 : BitVec 32 := 0#32
  ![v28.toNat, 0]
@[reducible] def k0_t3_loop : Scf.Loop 32 :=
  let c0_i32_8 : BitVec 32 := 0#32
  let c64_i32_9 : BitVec 32 := 64#32
  let v6 : BitVec 32 := Scalar.addi c0_i32_8 c64_i32_9
  let c1_i32_10 : BitVec 32 := 1#32
  ⟨c0_i32_8, v6, c1_i32_10⟩
def k0_off6 (k0_t3 : Fin k0_t3_loop.trips) : Fin 2 → Nat :=
  let c0_i32_8 : BitVec 32 := 0#32
  let c1_i32_10 : BitVec 32 := 1#32
  let arg17 : BitVec 32 := Scf.iv c0_i32_8 c1_i32_10 k0_t3
  let c0_i32_26 : BitVec 32 := 0#32
  ![arg17.toNat, 0]
def k0_off7 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32_32 : BitVec 32 := 8192#32
  let v26 : BitVec 32 := Scalar.muli v1 c8192_i32_32
  let c0_i32_8 : BitVec 32 := 0#32
  let c1_i32_10 : BitVec 32 := 1#32
  let arg17 : BitVec 32 := Scf.iv c0_i32_8 c1_i32_10 k0_t3
  let c128_i32_33 : BitVec 32 := 128#32
  let v27 : BitVec 32 := Scalar.muli arg17 c128_i32_33
  let v28 : BitVec 32 := Scalar.addi v26 v27
  let c0_i32_35_r4 : BitVec 32 := 0#32
  ![v28.toNat, 0]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_26_r5 : BitVec 32 := 0#32
  ![v1.toNat, 0]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v8 : BitVec 32 := Scalar.muli v1 c8192_i32
  let c0_i32_12 : BitVec 32 := 0#32
  ![v8.toNat, 0]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v13 : BitVec 32 := Scalar.muli v1 c128_i32
  let c0_i32_26_r6 : BitVec 32 := 0#32
  ![v13.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S262144x128 : Shape := ⟨2, ![262144, 128]⟩
abbrev S32x64x128 : Shape := ⟨3, ![32, 64, 128]⟩
abbrev S2x16x128 : Shape := ⟨3, ![2, 16, 128]⟩
abbrev S262144 : Shape := ⟨1, ![262144]⟩
abbrev S_ : Shape := ⟨0, ![]⟩
abbrev S262144x1 : Shape := ⟨2, ![262144, 1]⟩
abbrev S2x16x8192x128 : Shape := ⟨4, ![2, 16, 8192, 128]⟩
abbrev S2x16x128x1 : Shape := ⟨4, ![2, 16, 128, 1]⟩
abbrev S1 : Shape := ⟨1, ![1]⟩
abbrev S1x1x1x1 : Shape := ⟨4, ![1, 1, 1, 1]⟩
abbrev S2x16x128x128 : Shape := ⟨4, ![2, 16, 128, 128]⟩
abbrev S4096x128 : Shape := ⟨2, ![4096, 128]⟩

abbrev nBuf : Space → Nat
  | .hbm => 86
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S32x64x128, .i32⟩
  | .hbm, ⟨4, _⟩ => ⟨S32x64x128, .i32⟩
  | .hbm, ⟨5, _⟩ => ⟨S2x16x128, .i32⟩
  | .hbm, ⟨6, _⟩ => ⟨S262144, .i32⟩
  | .hbm, ⟨7, _⟩ => ⟨S_, .i32⟩
  | .hbm, ⟨8, _⟩ => ⟨S262144, .i32⟩
  | .hbm, ⟨9, _⟩ => ⟨S262144, .i1⟩
  | .hbm, ⟨10, _⟩ => ⟨S_, .i32⟩
  | .hbm, ⟨11, _⟩ => ⟨S262144, .i32⟩
  | .hbm, ⟨12, _⟩ => ⟨S262144, .i32⟩
  | .hbm, ⟨13, _⟩ => ⟨S262144, .i32⟩
  | .hbm, ⟨14, _⟩ => ⟨S262144x1, .i32⟩
  | .hbm, ⟨15, _⟩ => ⟨S262144x128, .f32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x128, .f32⟩
  | .hbm, ⟨26, _⟩ => ⟨S262144, .i32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144x128, .f32⟩
  | .hbm, ⟨36, _⟩ => ⟨S2x16x8192x128, .f32⟩
  | .hbm, ⟨37, _⟩ => ⟨S2x16x128x1, .i32⟩
  | .hbm, ⟨38, _⟩ => ⟨S_, .i32⟩
  | .hbm, ⟨39, _⟩ => ⟨S2x16x128x1, .i32⟩
  | .hbm, ⟨40, _⟩ => ⟨S2x16x128x1, .i1⟩
  | .hbm, ⟨41, _⟩ => ⟨S_, .i32⟩
  | .hbm, ⟨42, _⟩ => ⟨S2x16x128x1, .i32⟩
  | .hbm, ⟨43, _⟩ => ⟨S2x16x128x1, .i32⟩
  | .hbm, ⟨44, _⟩ => ⟨S2x16x128x1, .i32⟩
  | .hbm, ⟨45, _⟩ => ⟨S1, .i32⟩
  | .hbm, ⟨46, _⟩ => ⟨S_, .i32⟩
  | .hbm, ⟨47, _⟩ => ⟨S2x16x128x1, .i32⟩
  | .hbm, ⟨48, _⟩ => ⟨S2x16x128x1, .i1⟩
  | .hbm, ⟨49, _⟩ => ⟨S1x1x1x1, .i32⟩
  | .hbm, ⟨50, _⟩ => ⟨S2x16x128x1, .i32⟩
  | .hbm, ⟨51, _⟩ => ⟨S2x16x128x1, .i1⟩
  | .hbm, ⟨52, _⟩ => ⟨S2x16x128x1, .i1⟩
  | .hbm, ⟨53, _⟩ => ⟨S_, .i1⟩
  | .hbm, ⟨54, _⟩ => ⟨S2x16x128, .i1⟩
  | .hbm, ⟨55, _⟩ => ⟨S2x16x128x128, .f32⟩
  | .hbm, ⟨56, _⟩ => ⟨S2x16x128x128, .i1⟩
  | .hbm, ⟨57, _⟩ => ⟨S_, .f32⟩
  | .hbm, ⟨58, _⟩ => ⟨S2x16x128x128, .f32⟩
  | .hbm, ⟨59, _⟩ => ⟨S2x16x128x128, .f32⟩
  | .hbm, ⟨60, _⟩ => ⟨S2x16x8192x128, .f32⟩
  | .hbm, ⟨61, _⟩ => ⟨S2x16x128x1, .i32⟩
  | .hbm, ⟨62, _⟩ => ⟨S_, .i32⟩
  | .hbm, ⟨63, _⟩ => ⟨S2x16x128x1, .i32⟩
  | .hbm, ⟨64, _⟩ => ⟨S2x16x128x1, .i1⟩
  | .hbm, ⟨65, _⟩ => ⟨S_, .i32⟩
  | .hbm, ⟨66, _⟩ => ⟨S2x16x128x1, .i32⟩
  | .hbm, ⟨67, _⟩ => ⟨S2x16x128x1, .i32⟩
  | .hbm, ⟨68, _⟩ => ⟨S2x16x128x1, .i32⟩
  | .hbm, ⟨69, _⟩ => ⟨S1, .i32⟩
  | .hbm, ⟨70, _⟩ => ⟨S_, .i32⟩
  | .hbm, ⟨71, _⟩ => ⟨S2x16x128x1, .i32⟩
  | .hbm, ⟨72, _⟩ => ⟨S2x16x128x1, .i1⟩
  | .hbm, ⟨73, _⟩ => ⟨S1x1x1x1, .i32⟩
  | .hbm, ⟨74, _⟩ => ⟨S2x16x128x1, .i32⟩
  | .hbm, ⟨75, _⟩ => ⟨S2x16x128x1, .i1⟩
  | .hbm, ⟨76, _⟩ => ⟨S2x16x128x1, .i1⟩
  | .hbm, ⟨77, _⟩ => ⟨S_, .i1⟩
  | .hbm, ⟨78, _⟩ => ⟨S2x16x128, .i1⟩
  | .hbm, ⟨79, _⟩ => ⟨S2x16x128x128, .f32⟩
  | .hbm, ⟨80, _⟩ => ⟨S2x16x128x128, .i1⟩
  | .hbm, ⟨81, _⟩ => ⟨S_, .f32⟩
  | .hbm, ⟨82, _⟩ => ⟨S2x16x128x128, .f32⟩
  | .hbm, ⟨83, _⟩ => ⟨S2x16x128x128, .f32⟩
  | .hbm, ⟨84, _⟩ => ⟨S4096x128, .f32⟩
  | .hbm, ⟨85, _⟩ => ⟨S4096x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_1 : Ref sig .tc := ⟨.hbm, 45, rfl⟩
abbrev main_call0_c_2 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_c_3 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_cst : Ref sig .tc := ⟨.hbm, 57, rfl⟩
abbrev main_call0_v14 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_c_1 : Ref sig .tc := ⟨.hbm, 69, rfl⟩
abbrev main_call1_c_2 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_c_3 : Ref sig .tc := ⟨.hbm, 77, rfl⟩
abbrev main_call1_v11 : Ref sig .tc := ⟨.hbm, 78, rfl⟩
abbrev main_call1_v12 : Ref sig .tc := ⟨.hbm, 79, rfl⟩
abbrev main_call1_v13 : Ref sig .tc := ⟨.hbm, 80, rfl⟩
abbrev main_call1_cst : Ref sig .tc := ⟨.hbm, 81, rfl⟩
abbrev main_call1_v14 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩

abbrev nD : Nat := 1
abbrev τ : Topo := Topo.v7x

variable {F : FTy → Type} [FloatOps F]
-- ==== Attn.lean ====
abbrev S32x8192x128 : Shape := ⟨3, ![32, 8192, 128]⟩
abbrev S32x128x128 : Shape := ⟨3, ![32, 128, 128]⟩
abbrev S2x16x128 : Shape := ⟨3, ![2, 16, 128]⟩
abbrev S32x1x8192 : Shape := ⟨3, ![32, 1, 8192]⟩
abbrev S_ : Shape := ⟨0, ![]⟩
abbrev S32x1x128 : Shape := ⟨3, ![32, 1, 128]⟩
abbrev S1x128x128 : Shape := ⟨3, ![1, 128, 128]⟩
abbrev S1x1x128 : Shape := ⟨3, ![1, 1, 128]⟩
abbrev S128x128 : Shape := ⟨2, ![128, 128]⟩
abbrev S128x64 : Shape := ⟨2, ![128, 64]⟩
abbrev S128 : Shape := ⟨1, ![128]⟩
abbrev S128x1 : Shape := ⟨2, ![128, 1]⟩
abbrev S1x128 : Shape := ⟨2, ![1, 128]⟩
abbrev S262144x128 : Shape := ⟨2, ![262144, 128]⟩
abbrev S262144 : Shape := ⟨1, ![262144]⟩
abbrev S262144x1 : Shape := ⟨2, ![262144, 1]⟩
abbrev S262144x64 : Shape := ⟨2, ![262144, 64]⟩
abbrev S2x16x8192x64 : Shape := ⟨4, ![2, 16, 8192, 64]⟩

abbrev nBuf : Space → Nat
  | .hbm => 40
  | .vmem => 14
  | .smem => 0
  | _ => 0

abbrev bufTy : (tb : Table) → Fin (tcTables nBuf tb) → BufTy
  | .hbm, ⟨0, _⟩ => ⟨S32x8192x128, .f32⟩
  | .hbm, ⟨1, _⟩ => ⟨S32x8192x128, .f32⟩
  | .hbm, ⟨2, _⟩ => ⟨S32x8192x128, .f32⟩
  | .hbm, ⟨3, _⟩ => ⟨S32x128x128, .f32⟩
  | .hbm, ⟨4, _⟩ => ⟨S32x128x128, .f32⟩
  | .hbm, ⟨5, _⟩ => ⟨S2x16x128, .i32⟩
  | .hbm, ⟨6, _⟩ => ⟨S32x1x8192, .i32⟩
  | .hbm, ⟨7, _⟩ => ⟨S_, .i32⟩
  | .hbm, ⟨8, _⟩ => ⟨S_, .i32⟩
  | .hbm, ⟨9, _⟩ => ⟨S2x16x128, .i32⟩
  | .hbm, ⟨10, _⟩ => ⟨S2x16x128, .i32⟩
  | .hbm, ⟨11, _⟩ => ⟨S2x16x128, .i32⟩
  | .hbm, ⟨12, _⟩ => ⟨S_, .i32⟩
  | .hbm, ⟨13, _⟩ => ⟨S2x16x128, .i32⟩
  | .hbm, ⟨14, _⟩ => ⟨S2x16x128, .i1⟩
  | .hbm, ⟨15, _⟩ => ⟨S2x16x128, .i32⟩
  | .hbm, ⟨16, _⟩ => ⟨S2x16x128, .i32⟩
  | .hbm, ⟨17, _⟩ => ⟨S_, .i32⟩
  | .hbm, ⟨18, _⟩ => ⟨S2x16x128, .i32⟩
  | .hbm, ⟨19, _⟩ => ⟨S2x16x128, .i1⟩
  | .hbm, ⟨20, _⟩ => ⟨S2x16x128, .i1⟩
  | .hbm, ⟨21, _⟩ => ⟨S_, .i32⟩
  | .hbm, ⟨22, _⟩ => ⟨S2x16x128, .i32⟩
  | .hbm, ⟨23, _⟩ => ⟨S2x16x128, .i32⟩
  | .hbm, ⟨24, _⟩ => ⟨S2x16x128, .i32⟩
  | .hbm, ⟨25, _⟩ => ⟨S32x1x128, .i32⟩
  | .hbm, ⟨26, _⟩ => ⟨S32x8192x128, .f32⟩
  | .hbm, ⟨27, _⟩ => ⟨S262144x128, .f32⟩
  | .hbm, ⟨28, _⟩ => ⟨S262144, .i32⟩
  | .hbm, ⟨29, _⟩ => ⟨S_, .i32⟩
  | .hbm, ⟨30, _⟩ => ⟨S262144, .i32⟩
  | .hbm, ⟨31, _⟩ => ⟨S262144, .i1⟩
  | .hbm, ⟨32, _⟩ => ⟨S_, .i32⟩
  | .hbm, ⟨33, _⟩ => ⟨S262144, .i32⟩
  | .hbm, ⟨34, _⟩ => ⟨S262144, .i32⟩
  | .hbm, ⟨35, _⟩ => ⟨S262144, .i32⟩
  | .hbm, ⟨36, _⟩ => ⟨S262144x1, .i32⟩
  | .hbm, ⟨37, _⟩ => ⟨S262144x128, .f32⟩
  | .hbm, ⟨38, _⟩ => ⟨S262144x64, .f32⟩
  | .hbm, ⟨39, _⟩ => ⟨S2x16x8192x64, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x1x128, .i32⟩
  | .local _ .vmem, ⟨11, _⟩ => ⟨S1x1x128, .i32⟩
  | .local _ .vmem, ⟨12, _⟩ => ⟨S1x128x128, .f32⟩
  | .local _ .vmem, ⟨13, _⟩ => ⟨S1x128x128, .f32⟩
  | _, _ => ⟨S32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnReferenceIdeal.lean ====
abbrev S32x8192x128 : Shape := ⟨3, ![32, 8192, 128]⟩
abbrev S32x128x128 : Shape := ⟨3, ![32, 128, 128]⟩
abbrev S2x16x128 : Shape := ⟨3, ![2, 16, 128]⟩
abbrev S32x1x8192 : Shape := ⟨3, ![32, 1, 8192]⟩
abbrev S2x16x8192x128 : Shape := ⟨4, ![2, 16, 8192, 128]⟩
abbrev S2x16x8192x64 : Shape := ⟨4, ![2, 16, 8192, 64]⟩
abbrev S2x16x128x128 : Shape := ⟨4, ![2, 16, 128, 128]⟩
abbrev S2x16x128x64 : Shape := ⟨4, ![2, 16, 128, 64]⟩
abbrev S2x16x64x128x64 : Shape := ⟨5, ![2, 16, 64, 128, 64]⟩
abbrev S2x16x64x128x128 : Shape := ⟨5, ![2, 16, 64, 128, 128]⟩
abbrev S_ : Shape := ⟨0, ![]⟩
abbrev S2x16x64x128 : Shape := ⟨4, ![2, 16, 64, 128]⟩
abbrev S2x16x64x128x1 : Shape := ⟨5, ![2, 16, 64, 128, 1]⟩
abbrev S8192 : Shape := ⟨1, ![8192]⟩
abbrev S1x1x8192x1 : Shape := ⟨4, ![1, 1, 8192, 1]⟩
abbrev S2x16x1x128 : Shape := ⟨4, ![2, 16, 1, 128]⟩
abbrev S2x16x8192 : Shape := ⟨3, ![2, 16, 8192]⟩
abbrev S2x16x8192x1 : Shape := ⟨4, ![2, 16, 8192, 1]⟩
abbrev S262144x64 : Shape := ⟨2, ![262144, 64]⟩
abbrev S262144 : Shape := ⟨1, ![262144]⟩
abbrev S262144x1 : Shape := ⟨2, ![262144, 1]⟩

abbrev nBuf : Space → Nat
  | .hbm => 139
  | .vmem => 0
  | .smem => 0
  | _ => 0

abbrev hbmTy0_0 (i : Nat) : BufTy := match i % 128 with
  | 0 => ⟨S32x8192x128, .f32⟩
  | 1 => ⟨S32x8192x128, .f32⟩
  | 2 => ⟨S32x8192x128, .f32⟩
  | 3 => ⟨S32x128x128, .f32⟩
  | 4 => ⟨S32x128x128, .f32⟩
  | 5 => ⟨S2x16x128, .i32⟩
  | 6 => ⟨S32x1x8192, .i32⟩
  | 7 => ⟨S2x16x8192x128, .f32⟩
  | 8 => ⟨S2x16x8192x64, .f32⟩
  | 9 => ⟨S2x16x8192x128, .f32⟩
  | 10 => ⟨S2x16x8192x64, .f32⟩
  | 11 => ⟨S2x16x8192x128, .f32⟩
  | 12 => ⟨S2x16x8192x64, .f32⟩
  | 13 => ⟨S2x16x128x128, .f32⟩
  | 14 => ⟨S2x16x128x64, .f32⟩
  | 15 => ⟨S2x16x128x128, .f32⟩
  | 16 => ⟨S2x16x128x64, .f32⟩
  | 17 => ⟨S2x16x64x128x64, .f32⟩
  | 18 => ⟨S2x16x64x128x64, .f32⟩
  | 19 => ⟨S2x16x64x128x64, .f32⟩
  | 20 => ⟨S2x16x64x128x128, .f32⟩
  | 21 => ⟨S_, .f32⟩
  | 22 => ⟨S2x16x64x128x128, .f32⟩
  | 23 => ⟨S2x16x64x128x128, .f32⟩
  | 24 => ⟨S_, .f32⟩
  | 25 => ⟨S2x16x64x128, .f32⟩
  | 26 => ⟨S2x16x64x128x1, .f32⟩
  | 27 => ⟨S2x16x64x128x128, .f32⟩
  | 28 => ⟨S2x16x64x128x128, .f32⟩
  | 29 => ⟨S2x16x64x128x128, .f32⟩
  | 30 => ⟨S_, .f32⟩
  | 31 => ⟨S2x16x64x128, .f32⟩
  | 32 => ⟨S2x16x64x128x1, .f32⟩
  | 33 => ⟨S2x16x64x128x1, .f32⟩
  | 34 => ⟨S2x16x64x128x1, .f32⟩
  | 35 => ⟨S2x16x64x128x128, .f32⟩
  | 36 => ⟨S2x16x64x128x128, .f32⟩
  | 37 => ⟨S2x16x64x128x128, .f32⟩
  | 38 => ⟨S2x16x64x128x64, .f32⟩
  | 39 => ⟨S8192, .i32⟩
  | 40 => ⟨S1x1x8192x1, .i32⟩
  | 41 => ⟨S_, .i32⟩
  | 42 => ⟨S_, .i32⟩
  | 43 => ⟨S1x1x8192x1, .i32⟩
  | 44 => ⟨S1x1x8192x1, .i32⟩
  | 45 => ⟨S1x1x8192x1, .i32⟩
  | 46 => ⟨S_, .i32⟩
  | 47 => ⟨S1x1x8192x1, .i32⟩
  | 48 => ⟨S1x1x8192x1, .i1⟩
  | 49 => ⟨S1x1x8192x1, .i32⟩
  | 50 => ⟨S1x1x8192x1, .i32⟩
  | 51 => ⟨S_, .i32⟩
  | 52 => ⟨S1x1x8192x1, .i32⟩
  | 53 => ⟨S1x1x8192x1, .i1⟩
  | 54 => ⟨S1x1x8192x1, .i1⟩
  | 55 => ⟨S_, .i32⟩
  | 56 => ⟨S1x1x8192x1, .i32⟩
  | 57 => ⟨S1x1x8192x1, .i32⟩
  | 58 => ⟨S1x1x8192x1, .i32⟩
  | 59 => ⟨S2x16x1x128, .i32⟩
  | 60 => ⟨S_, .i32⟩
  | 61 => ⟨S_, .i32⟩
  | 62 => ⟨S2x16x1x128, .i32⟩
  | 63 => ⟨S2x16x1x128, .i32⟩
  | 64 => ⟨S2x16x1x128, .i32⟩
  | 65 => ⟨S_, .i32⟩
  | 66 => ⟨S2x16x1x128, .i32⟩
  | 67 => ⟨S2x16x1x128, .i1⟩
  | 68 => ⟨S2x16x1x128, .i32⟩
  | 69 => ⟨S2x16x1x128, .i32⟩
  | 70 => ⟨S_, .i32⟩
  | 71 => ⟨S2x16x1x128, .i32⟩
  | 72 => ⟨S2x16x1x128, .i1⟩
  | 73 => ⟨S2x16x1x128, .i1⟩
  | 74 => ⟨S_, .i32⟩
  | 75 => ⟨S2x16x1x128, .i32⟩
  | 76 => ⟨S2x16x1x128, .i32⟩
  | 77 => ⟨S2x16x1x128, .i32⟩
  | 78 => ⟨S2x16x8192x128, .i32⟩
  | 79 => ⟨S2x16x8192x128, .i32⟩
  | 80 => ⟨S2x16x8192x128, .i1⟩
  | 81 => ⟨S_, .f32⟩
  | 82 => ⟨S_, .f32⟩
  | 83 => ⟨S2x16x8192x128, .f32⟩
  | 84 => ⟨S2x16x8192x128, .f32⟩
  | 85 => ⟨S2x16x8192x128, .f32⟩
  | 86 => ⟨S2x16x8192x128, .f32⟩
  | 87 => ⟨S_, .f32⟩
  | 88 => ⟨S2x16x8192x128, .f32⟩
  | 89 => ⟨S2x16x8192x128, .f32⟩
  | 90 => ⟨S2x16x8192x128, .f32⟩
  | 91 => ⟨S_, .f32⟩
  | 92 => ⟨S2x16x8192, .f32⟩
  | 93 => ⟨S2x16x8192x1, .f32⟩
  | 94 => ⟨S2x16x8192x128, .f32⟩
  | 95 => ⟨S2x16x8192x128, .f32⟩
  | 96 => ⟨S2x16x8192x128, .f32⟩
  | 97 => ⟨S_, .f32⟩
  | 98 => ⟨S2x16x8192, .f32⟩
  | 99 => ⟨S2x16x8192x1, .f32⟩
  | 100 => ⟨S2x16x8192x1, .f32⟩
  | 101 => ⟨S2x16x8192x1, .f32⟩
  | 102 => ⟨S2x16x8192x128, .f32⟩
  | 103 => ⟨S2x16x8192x128, .f32⟩
  | 104 => ⟨S2x16x8192x128, .f32⟩
  | 105 => ⟨S2x16x8192x64, .f32⟩
  | 106 => ⟨S_, .f32⟩
  | 107 => ⟨S2x16x8192x1, .f32⟩
  | 108 => ⟨S2x16x8192x1, .f32⟩
  | 109 => ⟨S2x16x8192x64, .f32⟩
  | 110 => ⟨S2x16x8192x1, .f32⟩
  | 111 => ⟨S2x16x8192x1, .f32⟩
  | 112 => ⟨S2x16x8192x1, .f32⟩
  | 113 => ⟨S_, .f32⟩
  | 114 => ⟨S2x16x8192x1, .f32⟩
  | 115 => ⟨S2x16x8192x1, .f32⟩
  | 116 => ⟨S_, .f32⟩
  | 117 => ⟨S2x16x8192x1, .f32⟩
  | 118 => ⟨S2x16x8192x1, .f32⟩
  | 119 => ⟨S2x16x8192x64, .f32⟩
  | 120 => ⟨S2x16x8192x64, .f32⟩
  | 121 => ⟨S_, .f32⟩
  | 122 => ⟨S2x16x8192x1, .f32⟩
  | 123 => ⟨S2x16x8192x1, .f32⟩
  | 124 => ⟨S2x16x8192x64, .f32⟩
  | 125 => ⟨S2x16x8192x64, .f32⟩
  | 126 => ⟨S2x16x8192x64, .f32⟩
  | 127 => ⟨S262144x64, .f32⟩
  | _ => ⟨S32x8192x128, .f32⟩

abbrev hbmTy0_1 (i : Nat) : BufTy := match i % 128 with
  | 0 => ⟨S262144, .i32⟩
  | 1 => ⟨S_, .i32⟩
  | 2 => ⟨S262144, .i32⟩
  | 3 => ⟨S262144, .i1⟩
  | 4 => ⟨S_, .i32⟩
  | 5 => ⟨S262144, .i32⟩
  | 6 => ⟨S262144, .i32⟩
  | 7 => ⟨S262144, .i32⟩
  | 8 => ⟨S262144x1, .i32⟩
  | 9 => ⟨S262144x64, .f32⟩
  | 10 => ⟨S2x16x8192x64, .f32⟩
  | _ => ⟨S32x8192x128, .f32⟩

abbrev hbmTy (i : Nat) : BufTy := match i / 128 with
  | 0 => hbmTy0_0 i
  | 1 => hbmTy0_1 i
  | _ => ⟨S32x8192x128, .f32⟩

abbrev bufTy : (tb : Table) → Fin (tcTables nBuf tb) → BufTy
  | .hbm, ⟨i, _⟩ => hbmTy i
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v31 : Ref sig .tc := ⟨.hbm, 58, rfl⟩
abbrev main_v32 : Ref sig .tc := ⟨.hbm, 59, rfl⟩
abbrev main_c_2 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_c : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_0 : Ref sig .tc := ⟨.hbm, 74, rfl⟩
abbrev main_call1_v12 : Ref sig .tc := ⟨.hbm, 75, rfl⟩
abbrev main_call1_v13 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_cst_3 : Ref sig .tc := ⟨.hbm, 81, rfl⟩
abbrev main_cst_4 : Ref sig .tc := ⟨.hbm, 82, rfl⟩
abbrev main_call2_v0 : Ref sig .tc := ⟨.hbm, 83, rfl⟩
abbrev main_call2_v1 : Ref sig .tc := ⟨.hbm, 84, rfl⟩
abbrev main_v37 : Ref sig .tc := ⟨.hbm, 85, rfl⟩
abbrev main_v38 : Ref sig .tc := ⟨.hbm, 86, rfl⟩
abbrev main_cst_5 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_6 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_7 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_cst_8 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_cst_9 : Ref sig .tc := ⟨.hbm, 113, rfl⟩
abbrev main_v61 : Ref sig .tc := ⟨.hbm, 114, rfl⟩
abbrev main_v62 : Ref sig .tc := ⟨.hbm, 115, rfl⟩
abbrev main_cst_10 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_11 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_c_12 : Ref sig .tc := ⟨.hbm, 129, rfl⟩
abbrev main_v74 : Ref sig .tc := ⟨.hbm, 130, rfl⟩
abbrev main_v75 : Ref sig .tc := ⟨.hbm, 131, rfl⟩
abbrev main_c_13 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩

abbrev nD : Nat := 1
abbrev τ : Topo := Topo.v7x

variable {F : FTy → Type} [FloatOps F]
-- ==== Rank.lean ====
abbrev S2x16x8192x64 : Shape := ⟨4, ![2, 16, 8192, 64]⟩
abbrev S64x8 : Shape := ⟨2, ![64, 8]⟩
abbrev S_ : Shape := ⟨0, ![]⟩
abbrev S64x128 : Shape := ⟨2, ![64, 128]⟩
abbrev S32x8192x64 : Shape := ⟨3, ![32, 8192, 64]⟩
abbrev S32x1x8192 : Shape := ⟨3, ![32, 1, 8192]⟩
abbrev S32x64x128 : Shape := ⟨3, ![32, 64, 128]⟩
abbrev S1x8192x64 : Shape := ⟨3, ![1, 8192, 64]⟩
abbrev S1x1x8192 : Shape := ⟨3, ![1, 1, 8192]⟩
abbrev S1x64x128 : Shape := ⟨3, ![1, 64, 128]⟩
abbrev S1x128 : Shape := ⟨2, ![1, 128]⟩
abbrev S128x128 : Shape := ⟨2, ![128, 128]⟩
abbrev S256x128 : Shape := ⟨2, ![256, 128]⟩
abbrev S256x256 : Shape := ⟨2, ![256, 256]⟩
abbrev S64x1 : Shape := ⟨2, ![64, 1]⟩
abbrev S128x1 : Shape := ⟨2, ![128, 1]⟩
abbrev S256x1 : Shape := ⟨2, ![256, 1]⟩
abbrev S1x128x64 : Shape := ⟨3, ![1, 128, 64]⟩
abbrev S128x64 : Shape := ⟨2, ![128, 64]⟩
abbrev S128 : Shape := ⟨1, ![128]⟩
abbrev S256 : Shape := ⟨1, ![256]⟩
abbrev S1x1x128 : Shape := ⟨3, ![1, 1, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x16x8192x64, .f32⟩
  | .hbm, ⟨1, _⟩ => ⟨S2x16x8192x64, .f32⟩
  | .hbm, ⟨2, _⟩ => ⟨S64x8, .f32⟩
  | .hbm, ⟨3, _⟩ => ⟨S_, .i32⟩
  | .hbm, ⟨4, _⟩ => ⟨S_, .f32⟩
  | .hbm, ⟨5, _⟩ => ⟨S64x128, .f32⟩
  | .hbm, ⟨6, _⟩ => ⟨S32x8192x64, .f32⟩
  | .hbm, ⟨7, _⟩ => ⟨S32x8192x64, .f32⟩
  | .hbm, ⟨8, _⟩ => ⟨S32x1x8192, .i32⟩
  | .hbm, ⟨9, _⟩ => ⟨S32x64x128, .i32⟩
  | .hbm, ⟨10, _⟩ => ⟨S32x64x128, .i32⟩
  | .local _ .vmem, ⟨0, _⟩ => ⟨S1x8192x64, .f32⟩
  | .local _ .vmem, ⟨1, _⟩ => ⟨S1x8192x64, .f32⟩
  | .local _ .vmem, ⟨2, _⟩ => ⟨S1x8192x64, .f32⟩
  | .local _ .vmem, ⟨3, _⟩ => ⟨S1x8192x64, .f32⟩
  | .local _ .vmem, ⟨4, _⟩ => ⟨S64x128, .f32⟩
  | .local _ .vmem, ⟨5, _⟩ => ⟨S1x1x8192, .i32⟩
  | .local _ .vmem, ⟨6, _⟩ => ⟨S1x1x8192, .i32⟩
  | .local _ .vmem, ⟨7, _⟩ => ⟨S1x64x128, .i32⟩
  | .local _ .vmem, ⟨8, _⟩ => ⟨S1x64x128, .i32⟩
  | .local _ .vmem, ⟨9, _⟩ => ⟨S1x64x128, .i32⟩
  | .local _ .vmem, ⟨10, _⟩ => ⟨S1x64x128, .i32⟩
  | .local _ .vmem, ⟨11, _⟩ => ⟨S64x128, .i32⟩
  | .local _ .vmem, ⟨12, _⟩ => ⟨S64x128, .f32⟩
  | .local _ .vmem, ⟨13, _⟩ => ⟨S64x128, .f32⟩
  | _, _ => ⟨S2x16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1 : BitVec 32 := 0#32
  let c64_i32 : BitVec 32 := 64#32
  let v28 : BitVec 32 := Scalar.addi c0_i32_1 c64_i32
  let c1_i32_2 : BitVec 32 := 1#32
  ⟨c0_i32_1, v28, c1_i32_2⟩
def k0_off1 (k0_t1 : Fin k0_t1_loop.trips) : Fin 3 → Nat :=
  let c0_42 : Index := 0#32
  let c0_i32_1 : BitVec 32 := 0#32
  let c1_i32_2 : BitVec 32 := 1#32
  let arg10 : BitVec 32 := Scf.iv c0_i32_1 c1_i32_2 k0_t1
  let c128_i32 : BitVec 32 := 128#32
  let v81 : BitVec 32 := Scalar.muli arg10 c128_i32
  let v82 : Index := Scalar.indexCast v81
  let c0_43 : Index := 0#32
  ![0, v82.toNat, 0]
def k0_off2 (k0_t1 : Fin k0_t1_loop.trips) : Fin 2 → Nat :=
  let c0_i32_1 : BitVec 32 := 0#32
  let c1_i32_2 : BitVec 32 := 1#32
  let arg10 : BitVec 32 := Scf.iv c0_i32_1 c1_i32_2 k0_t1
  let v95 : Index := Scalar.indexCast arg10
  let c0_48 : Index := 0#32
  ![v95.toNat, 0]
@[reducible] def k0_t2_loop : Scf.Loop 32 :=
  let c0_i32_11 : BitVec 32 := 0#32
  let c64_i32_12 : BitVec 32 := 64#32
  let v46 : BitVec 32 := Scalar.addi c0_i32_11 c64_i32_12
  let c1_i32_13 : BitVec 32 := 1#32
  ⟨c0_i32_11, v46, c1_i32_13⟩
def k0_off3 (k0_t2 : Fin k0_t2_loop.trips) : Fin 2 → Nat :=
  let c0_i32_11 : BitVec 32 := 0#32
  let c1_i32_13 : BitVec 32 := 1#32
  let arg10 : BitVec 32 := Scf.iv c0_i32_11 c1_i32_13 k0_t2
  let v81 : Index := Scalar.indexCast arg10
  let c0_42 : Index := 0#32
  ![v81.toNat, 0]
def k0_off4 (k0_t2 : Fin k0_t2_loop.trips) : Fin 3 → Nat :=
  let c0_45 : Index := 0#32
  let c0_46 : Index := 0#32
  let c0_i32_11 : BitVec 32 := 0#32
  let c1_i32_13 : BitVec 32 := 1#32
  let arg10 : BitVec 32 := Scf.iv c0_i32_11 c1_i32_13 k0_t2
  let c128_i32 : BitVec 32 := 128#32
  let v97 : BitVec 32 := Scalar.muli arg10 c128_i32
  let v98 : Index := Scalar.indexCast v97
  ![0, 0, v98.toNat]
@[reducible] def k0_t3_loop : Scf.Loop 32 :=
  let c0_i32_21 : BitVec 32 := 0#32
  let c64_i32_22 : BitVec 32 := 64#32
  let v55 : BitVec 32 := Scalar.addi c0_i32_21 c64_i32_22
  let c1_i32_23 : BitVec 32 := 1#32
  ⟨c0_i32_21, v55, c1_i32_23⟩
def k0_off5 (k0_t3 : Fin k0_t3_loop.trips) : Fin 3 → Nat :=
  let c0_42 : Index := 0#32
  let c0_i32_21 : BitVec 32 := 0#32
  let c1_i32_23 : BitVec 32 := 1#32
  let arg10 : BitVec 32 := Scf.iv c0_i32_21 c1_i32_23 k0_t3
  let c128_i32 : BitVec 32 := 128#32
  let v81 : BitVec 32 := Scalar.muli arg10 c128_i32
  let v82 : Index := Scalar.indexCast v81
  let c0_43 : Index := 0#32
  ![0, v82.toNat, 0]
def k0_off6 (k0_t3 : Fin k0_t3_loop.trips) : Fin 2 → Nat :=
  let c0_i32_21 : BitVec 32 := 0#32
  let c1_i32_23 : BitVec 32 := 1#32
  let arg10 : BitVec 32 := Scf.iv c0_i32_21 c1_i32_23 k0_t3
  let v95 : Index := Scalar.indexCast arg10
  let c0_48 : Index := 0#32
  ![v95.toNat, 0]
@[reducible] def k0_t4_loop : Scf.Loop 32 :=
  let c0_i32_33 : BitVec 32 := 0#32
  let c64_i32_34 : BitVec 32 := 64#32
  let v73 : BitVec 32 := Scalar.addi c0_i32_33 c64_i32_34
  let c1_i32_35 : BitVec 32 := 1#32
  ⟨c0_i32_33, v73, c1_i32_35⟩
def k0_off7 (k0_t4 : Fin k0_t4_loop.trips) : Fin 2 → Nat :=
  let c0_i32_33 : BitVec 32 := 0#32
  let c1_i32_35 : BitVec 32 := 1#32
  let arg10 : BitVec 32 := Scf.iv c0_i32_33 c1_i32_35 k0_t4
  let v81 : Index := Scalar.indexCast arg10
  let c0_42 : Index := 0#32
  ![v81.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x8192 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RankReferenceIdeal.lean ====
abbrev S2x16x8192x64 : Shape := ⟨4, ![2, 16, 8192, 64]⟩
abbrev S64x8 : Shape := ⟨2, ![64, 8]⟩
abbrev S8 : Shape := ⟨1, ![8]⟩
abbrev S_ : Shape := ⟨0, ![]⟩
abbrev S2x16x8192x8 : Shape := ⟨4, ![2, 16, 8192, 8]⟩
abbrev S1x1x1x8 : Shape := ⟨4, ![1, 1, 1, 8]⟩
abbrev S2x16x8192 : Shape := ⟨3, ![2, 16, 8192]⟩
abbrev S2 : Shape := ⟨1, ![2]⟩
abbrev S4 : Shape := ⟨1, ![4]⟩
abbrev S16 : Shape := ⟨1, ![16]⟩
abbrev S32 : Shape := ⟨1, ![32]⟩
abbrev S64 : Shape := ⟨1, ![64]⟩
abbrev S128 : Shape := ⟨1, ![128]⟩
abbrev S256 : Shape := ⟨1, ![256]⟩
abbrev S2x16x8192x1 : Shape := ⟨4, ![2, 16, 8192, 1]⟩
abbrev S2x16x1 : Shape := ⟨3, ![2, 16, 1]⟩
abbrev S32x1x8192 : Shape := ⟨3, ![32, 1, 8192]⟩
abbrev S32x64x128 : Shape := ⟨3, ![32, 64, 128]⟩

abbrev nBuf : Space → Nat
  | .hbm => 326
  | .vmem => 0
  | .smem => 0
  | _ => 0

abbrev hbmTy0_0 (i : Nat) : BufTy := match i % 128 with
  | 0 => ⟨S2x16x8192x64, .f32⟩
  | 1 => ⟨S2x16x8192x64, .f32⟩
  | 2 => ⟨S64x8, .f32⟩
  | 3 => ⟨S8, .i32⟩
  | 4 => ⟨S_, .i32⟩
  | 5 => ⟨S_, .i32⟩
  | 6 => ⟨S_, .i1⟩
  | 7 => ⟨S_, .i32⟩
  | 8 => ⟨S8, .i32⟩
  | 9 => ⟨S8, .i1⟩
  | 10 => ⟨S8, .i1⟩
  | 11 => ⟨S8, .i1⟩
  | 12 => ⟨S_, .i32⟩
  | 13 => ⟨S_, .i32⟩
  | 14 => ⟨S8, .i32⟩
  | 15 => ⟨S8, .i32⟩
  | 16 => ⟨S8, .i32⟩
  | 17 => ⟨S_, .i32⟩
  | 18 => ⟨S8, .i32⟩
  | 19 => ⟨S8, .i32⟩
  | 20 => ⟨S_, .i32⟩
  | 21 => ⟨S8, .i32⟩
  | 22 => ⟨S8, .i32⟩
  | 23 => ⟨S_, .i32⟩
  | 24 => ⟨S8, .i32⟩
  | 25 => ⟨S8, .i1⟩
  | 26 => ⟨S8, .i32⟩
  | 27 => ⟨S_, .i32⟩
  | 28 => ⟨S_, .i32⟩
  | 29 => ⟨S_, .i32⟩
  | 30 => ⟨S_, .i32⟩
  | 31 => ⟨S8, .i32⟩
  | 32 => ⟨S8, .i32⟩
  | 33 => ⟨S_, .i32⟩
  | 34 => ⟨S8, .i32⟩
  | 35 => ⟨S8, .i32⟩
  | 36 => ⟨S8, .i32⟩
  | 37 => ⟨S8, .i32⟩
  | 38 => ⟨S_, .i32⟩
  | 39 => ⟨S8, .i32⟩
  | 40 => ⟨S8, .i1⟩
  | 41 => ⟨S8, .i32⟩
  | 42 => ⟨S_, .i32⟩
  | 43 => ⟨S_, .i32⟩
  | 44 => ⟨S8, .i32⟩
  | 45 => ⟨S8, .i32⟩
  | 46 => ⟨S_, .i32⟩
  | 47 => ⟨S8, .i32⟩
  | 48 => ⟨S8, .i32⟩
  | 49 => ⟨S8, .i32⟩
  | 50 => ⟨S8, .i32⟩
  | 51 => ⟨S_, .i32⟩
  | 52 => ⟨S8, .i32⟩
  | 53 => ⟨S8, .i1⟩
  | 54 => ⟨S8, .i32⟩
  | 55 => ⟨S_, .i32⟩
  | 56 => ⟨S_, .i32⟩
  | 57 => ⟨S8, .i32⟩
  | 58 => ⟨S8, .i32⟩
  | 59 => ⟨S_, .i32⟩
  | 60 => ⟨S8, .i32⟩
  | 61 => ⟨S8, .i32⟩
  | 62 => ⟨S8, .i32⟩
  | 63 => ⟨S8, .i32⟩
  | 64 => ⟨S_, .i32⟩
  | 65 => ⟨S8, .i32⟩
  | 66 => ⟨S8, .i1⟩
  | 67 => ⟨S8, .i32⟩
  | 68 => ⟨S_, .i32⟩
  | 69 => ⟨S_, .i32⟩
  | 70 => ⟨S8, .i32⟩
  | 71 => ⟨S8, .i32⟩
  | 72 => ⟨S_, .i32⟩
  | 73 => ⟨S8, .i32⟩
  | 74 => ⟨S8, .i32⟩
  | 75 => ⟨S8, .i32⟩
  | 76 => ⟨S8, .i32⟩
  | 77 => ⟨S_, .i32⟩
  | 78 => ⟨S8, .i32⟩
  | 79 => ⟨S8, .i1⟩
  | 80 => ⟨S8, .i32⟩
  | 81 => ⟨S_, .i32⟩
  | 82 => ⟨S_, .i32⟩
  | 83 => ⟨S8, .i32⟩
  | 84 => ⟨S8, .i32⟩
  | 85 => ⟨S_, .i32⟩
  | 86 => ⟨S8, .i32⟩
  | 87 => ⟨S8, .i32⟩
  | 88 => ⟨S8, .i32⟩
  | 89 => ⟨S8, .i32⟩
  | 90 => ⟨S_, .i32⟩
  | 91 => ⟨S8, .i32⟩
  | 92 => ⟨S8, .i1⟩
  | 93 => ⟨S8, .i32⟩
  | 94 => ⟨S_, .i32⟩
  | 95 => ⟨S_, .i32⟩
  | 96 => ⟨S8, .i32⟩
  | 97 => ⟨S8, .i32⟩
  | 98 => ⟨S2x16x8192x8, .f32⟩
  | 99 => ⟨S_, .f32⟩
  | 100 => ⟨S2x16x8192x8, .f32⟩
  | 101 => ⟨S2x16x8192x8, .i1⟩
  | 102 => ⟨S2x16x8192x8, .i32⟩
  | 103 => ⟨S1x1x1x8, .i32⟩
  | 104 => ⟨S2x16x8192x8, .i32⟩
  | 105 => ⟨S2x16x8192x8, .i32⟩
  | 106 => ⟨S_, .i32⟩
  | 107 => ⟨S2x16x8192, .i32⟩
  | 108 => ⟨S2, .i32⟩
  | 109 => ⟨S2, .i32⟩
  | 110 => ⟨S_, .i32⟩
  | 111 => ⟨S2, .i32⟩
  | 112 => ⟨S2, .i32⟩
  | 113 => ⟨S4, .i32⟩
  | 114 => ⟨S4, .i32⟩
  | 115 => ⟨S_, .i32⟩
  | 116 => ⟨S4, .i32⟩
  | 117 => ⟨S4, .i32⟩
  | 118 => ⟨S8, .i32⟩
  | 119 => ⟨S8, .i32⟩
  | 120 => ⟨S_, .i32⟩
  | 121 => ⟨S8, .i32⟩
  | 122 => ⟨S8, .i32⟩
  | 123 => ⟨S16, .i32⟩
  | 124 => ⟨S16, .i32⟩
  | 125 => ⟨S_, .i32⟩
  | 126 => ⟨S16, .i32⟩
  | 127 => ⟨S16, .i32⟩
  | _ => ⟨S2x16x8192x64, .f32⟩

abbrev hbmTy0_1 (i : Nat) : BufTy := match i % 128 with
  | 0 => ⟨S32, .i32⟩
  | 1 => ⟨S32, .i32⟩
  | 2 => ⟨S_, .i32⟩
  | 3 => ⟨S32, .i32⟩
  | 4 => ⟨S32, .i32⟩
  | 5 => ⟨S64, .i32⟩
  | 6 => ⟨S64, .i32⟩
  | 7 => ⟨S_, .i32⟩
  | 8 => ⟨S64, .i32⟩
  | 9 => ⟨S64, .i32⟩
  | 10 => ⟨S128, .i32⟩
  | 11 => ⟨S128, .i32⟩
  | 12 => ⟨S_, .i32⟩
  | 13 => ⟨S128, .i32⟩
  | 14 => ⟨S128, .i32⟩
  | 15 => ⟨S256, .i32⟩
  | 16 => ⟨S_, .i32⟩
  | 17 => ⟨S2x16x8192, .i32⟩
  | 18 => ⟨S2x16x8192, .i1⟩
  | 19 => ⟨S_, .i32⟩
  | 20 => ⟨S2x16x8192, .i32⟩
  | 21 => ⟨S2x16x8192, .i32⟩
  | 22 => ⟨S2x16x8192, .i32⟩
  | 23 => ⟨S2x16x8192x1, .i32⟩
  | 24 => ⟨S2x16x8192, .i32⟩
  | 25 => ⟨S2x16x8192, .i32⟩
  | 26 => ⟨S2x16x8192, .i32⟩
  | 27 => ⟨S2x16x8192, .i32⟩
  | 28 => ⟨S8, .i32⟩
  | 29 => ⟨S_, .i32⟩
  | 30 => ⟨S_, .i32⟩
  | 31 => ⟨S_, .i1⟩
  | 32 => ⟨S_, .i32⟩
  | 33 => ⟨S8, .i32⟩
  | 34 => ⟨S8, .i1⟩
  | 35 => ⟨S8, .i1⟩
  | 36 => ⟨S8, .i1⟩
  | 37 => ⟨S_, .i32⟩
  | 38 => ⟨S_, .i32⟩
  | 39 => ⟨S8, .i32⟩
  | 40 => ⟨S8, .i32⟩
  | 41 => ⟨S8, .i32⟩
  | 42 => ⟨S_, .i32⟩
  | 43 => ⟨S8, .i32⟩
  | 44 => ⟨S8, .i32⟩
  | 45 => ⟨S_, .i32⟩
  | 46 => ⟨S8, .i32⟩
  | 47 => ⟨S8, .i32⟩
  | 48 => ⟨S_, .i32⟩
  | 49 => ⟨S8, .i32⟩
  | 50 => ⟨S8, .i1⟩
  | 51 => ⟨S8, .i32⟩
  | 52 => ⟨S_, .i32⟩
  | 53 => ⟨S_, .i32⟩
  | 54 => ⟨S_, .i32⟩
  | 55 => ⟨S_, .i32⟩
  | 56 => ⟨S8, .i32⟩
  | 57 => ⟨S8, .i32⟩
  | 58 => ⟨S_, .i32⟩
  | 59 => ⟨S8, .i32⟩
  | 60 => ⟨S8, .i32⟩
  | 61 => ⟨S8, .i32⟩
  | 62 => ⟨S8, .i32⟩
  | 63 => ⟨S_, .i32⟩
  | 64 => ⟨S8, .i32⟩
  | 65 => ⟨S8, .i1⟩
  | 66 => ⟨S8, .i32⟩
  | 67 => ⟨S_, .i32⟩
  | 68 => ⟨S_, .i32⟩
  | 69 => ⟨S8, .i32⟩
  | 70 => ⟨S8, .i32⟩
  | 71 => ⟨S_, .i32⟩
  | 72 => ⟨S8, .i32⟩
  | 73 => ⟨S8, .i32⟩
  | 74 => ⟨S8, .i32⟩
  | 75 => ⟨S8, .i32⟩
  | 76 => ⟨S_, .i32⟩
  | 77 => ⟨S8, .i32⟩
  | 78 => ⟨S8, .i1⟩
  | 79 => ⟨S8, .i32⟩
  | 80 => ⟨S_, .i32⟩
  | 81 => ⟨S_, .i32⟩
  | 82 => ⟨S8, .i32⟩
  | 83 => ⟨S8, .i32⟩
  | 84 => ⟨S_, .i32⟩
  | 85 => ⟨S8, .i32⟩
  | 86 => ⟨S8, .i32⟩
  | 87 => ⟨S8, .i32⟩
  | 88 => ⟨S8, .i32⟩
  | 89 => ⟨S_, .i32⟩
  | 90 => ⟨S8, .i32⟩
  | 91 => ⟨S8, .i1⟩
  | 92 => ⟨S8, .i32⟩
  | 93 => ⟨S_, .i32⟩
  | 94 => ⟨S_, .i32⟩
  | 95 => ⟨S8, .i32⟩
  | 96 => ⟨S8, .i32⟩
  | 97 => ⟨S_, .i32⟩
  | 98 => ⟨S8, .i32⟩
  | 99 => ⟨S8, .i32⟩
  | 100 => ⟨S8, .i32⟩
  | 101 => ⟨S8, .i32⟩
  | 102 => ⟨S_, .i32⟩
  | 103 => ⟨S8, .i32⟩
  | 104 => ⟨S8, .i1⟩
  | 105 => ⟨S8, .i32⟩
  | 106 => ⟨S_, .i32⟩
  | 107 => ⟨S_, .i32⟩
  | 108 => ⟨S8, .i32⟩
  | 109 => ⟨S8, .i32⟩
  | 110 => ⟨S_, .i32⟩
  | 111 => ⟨S8, .i32⟩
  | 112 => ⟨S8, .i32⟩
  | 113 => ⟨S8, .i32⟩
  | 114 => ⟨S8, .i32⟩
  | 115 => ⟨S_, .i32⟩
  | 116 => ⟨S8, .i32⟩
  | 117 => ⟨S8, .i1⟩
  | 118 => ⟨S8, .i32⟩
  | 119 => ⟨S_, .i32⟩
  | 120 => ⟨S_, .i32⟩
  | 121 => ⟨S8, .i32⟩
  | 122 => ⟨S8, .i32⟩
  | 123 => ⟨S2x16x8192x8, .f32⟩
  | 124 => ⟨S_, .f32⟩
  | 125 => ⟨S2x16x8192x8, .f32⟩
  | 126 => ⟨S2x16x8192x8, .i1⟩
  | 127 => ⟨S2x16x8192x8, .i32⟩
  | _ => ⟨S2x16x8192x64, .f32⟩

abbrev hbmTy0_2 (i : Nat) : BufTy := match i % 128 with
  | 0 => ⟨S1x1x1x8, .i32⟩
  | 1 => ⟨S2x16x8192x8, .i32⟩
  | 2 => ⟨S2x16x8192x8, .i32⟩
  | 3 => ⟨S_, .i32⟩
  | 4 => ⟨S2x16x8192, .i32⟩
  | 5 => ⟨S2, .i32⟩
  | 6 => ⟨S2, .i32⟩
  | 7 => ⟨S_, .i32⟩
  | 8 => ⟨S2, .i32⟩
  | 9 => ⟨S2, .i32⟩
  | 10 => ⟨S4, .i32⟩
  | 11 => ⟨S4, .i32⟩
  | 12 => ⟨S_, .i32⟩
  | 13 => ⟨S4, .i32⟩
  | 14 => ⟨S4, .i32⟩
  | 15 => ⟨S8, .i32⟩
  | 16 => ⟨S8, .i32⟩
  | 17 => ⟨S_, .i32⟩
  | 18 => ⟨S8, .i32⟩
  | 19 => ⟨S8, .i32⟩
  | 20 => ⟨S16, .i32⟩
  | 21 => ⟨S16, .i32⟩
  | 22 => ⟨S_, .i32⟩
  | 23 => ⟨S16, .i32⟩
  | 24 => ⟨S16, .i32⟩
  | 25 => ⟨S32, .i32⟩
  | 26 => ⟨S32, .i32⟩
  | 27 => ⟨S_, .i32⟩
  | 28 => ⟨S32, .i32⟩
  | 29 => ⟨S32, .i32⟩
  | 30 => ⟨S64, .i32⟩
  | 31 => ⟨S64, .i32⟩
  | 32 => ⟨S_, .i32⟩
  | 33 => ⟨S64, .i32⟩
  | 34 => ⟨S64, .i32⟩
  | 35 => ⟨S128, .i32⟩
  | 36 => ⟨S128, .i32⟩
  | 37 => ⟨S_, .i32⟩
  | 38 => ⟨S128, .i32⟩
  | 39 => ⟨S128, .i32⟩
  | 40 => ⟨S256, .i32⟩
  | 41 => ⟨S_, .i32⟩
  | 42 => ⟨S2x16x8192, .i32⟩
  | 43 => ⟨S2x16x8192, .i1⟩
  | 44 => ⟨S_, .i32⟩
  | 45 => ⟨S2x16x8192, .i32⟩
  | 46 => ⟨S2x16x8192, .i32⟩
  | 47 => ⟨S2x16x8192, .i32⟩
  | 48 => ⟨S2x16x8192x1, .i32⟩
  | 49 => ⟨S2x16x8192, .i32⟩
  | 50 => ⟨S2x16x8192, .i32⟩
  | 51 => ⟨S2x16x8192, .i32⟩
  | 52 => ⟨S2x16x8192, .i32⟩
  | 53 => ⟨S2x16x8192, .i32⟩
  | 54 => ⟨S2x16x8192, .i32⟩
  | 55 => ⟨S2x16x8192, .i32⟩
  | 56 => ⟨S32, .i32⟩
  | 57 => ⟨S2x16x1, .i32⟩
  | 58 => ⟨S_, .i32⟩
  | 59 => ⟨S2x16x1, .i32⟩
  | 60 => ⟨S2x16x1, .i32⟩
  | 61 => ⟨S2x16x8192, .i32⟩
  | 62 => ⟨S2x16x8192, .i32⟩
  | 63 => ⟨S32x1x8192, .i32⟩
  | 64 => ⟨S2x16x8192, .i32⟩
  | 65 => ⟨S2x16x8192, .i32⟩
  | 66 => ⟨S32x64x128, .i32⟩
  | 67 => ⟨S2x16x8192, .i32⟩
  | 68 => ⟨S2x16x8192, .i32⟩
  | 69 => ⟨S32x64x128, .i32⟩
  | _ => ⟨S2x16x8192x64, .f32⟩

abbrev hbmTy (i : Nat) : BufTy := match i / 128 with
  | 0 => hbmTy0_0 i
  | 1 => hbmTy0_1 i
  | 2 => hbmTy0_2 i
  | _ => ⟨S2x16x8192x64, .f32⟩

abbrev bufTy : (tb : Table) → Fin (tcTables nBuf tb) → BufTy
  | .hbm, ⟨i, _⟩ => hbmTy i
  | _, _ => ⟨S2x16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_c_3 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_c_4 : Ref sig .tc := ⟨.hbm, 17, rfl⟩
abbrev main_v7 : Ref sig .tc := ⟨.hbm, 18, rfl⟩
abbrev main_v8 : Ref sig .tc := ⟨.hbm, 19, rfl⟩
abbrev main_c_5 : Ref sig .tc := ⟨.hbm, 20, rfl⟩
abbrev main_v9 : Ref sig .tc := ⟨.hbm, 21, rfl⟩
abbrev main_v10 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_v11 : Ref sig .tc := ⟨.hbm, 26, rfl⟩
abbrev main_c_6 : Ref sig .tc := ⟨.hbm, 27, rfl⟩
abbrev main_c_7 : Ref sig .tc := ⟨.hbm, 28, rfl⟩
abbrev main_v12 : Ref sig .tc := ⟨.hbm, 29, rfl⟩
abbrev main_c_8 : Ref sig .tc := ⟨.hbm, 30, rfl⟩
abbrev main_v13 : Ref sig .tc := ⟨.hbm, 31, rfl⟩
abbrev main_v14 : Ref sig .tc := ⟨.hbm, 32, rfl⟩
abbrev main_c_9 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_v19 : Ref sig .tc := ⟨.hbm, 41, rfl⟩
abbrev main_v20 : Ref sig .tc := ⟨.hbm, 42, rfl⟩
abbrev main_c_10 : Ref sig .tc := ⟨.hbm, 43, rfl⟩
abbrev main_v21 : Ref sig .tc := ⟨.hbm, 44, rfl⟩
abbrev main_v22 : Ref sig .tc := ⟨.hbm, 45, rfl⟩
abbrev main_c_11 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_v27 : Ref sig .tc := ⟨.hbm, 54, rfl⟩
abbrev main_v28 : Ref sig .tc := ⟨.hbm, 55, rfl⟩
abbrev main_c_12 : Ref sig .tc := ⟨.hbm, 56, rfl⟩
abbrev main_v29 : Ref sig .tc := ⟨.hbm, 57, rfl⟩
abbrev main_v30 : Ref sig .tc := ⟨.hbm, 58, rfl⟩
abbrev main_c_13 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_call4_c : Ref sig .tc := ⟨.hbm, 64, rfl⟩
abbrev main_call4_v0 : Ref sig .tc := ⟨.hbm, 65, rfl⟩
abbrev main_call4_v1 : Ref sig .tc := ⟨.hbm, 66, rfl⟩
abbrev main_v35 : Ref sig .tc := ⟨.hbm, 67, rfl⟩
abbrev main_v36 : Ref sig .tc := ⟨.hbm, 68, rfl⟩
abbrev main_c_14 : Ref sig .tc := ⟨.hbm, 69, rfl⟩
abbrev main_v37 : Ref sig .tc := ⟨.hbm, 70, rfl⟩
abbrev main_v38 : Ref sig .tc := ⟨.hbm, 71, rfl⟩
abbrev main_c_15 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_call5_c : Ref sig .tc := ⟨.hbm, 77, rfl⟩
abbrev main_call5_v0 : Ref sig .tc := ⟨.hbm, 78, rfl⟩
abbrev main_call5_v1 : Ref sig .tc := ⟨.hbm, 79, rfl⟩
abbrev main_v43 : Ref sig .tc := ⟨.hbm, 80, rfl⟩
abbrev main_v44 : Ref sig .tc := ⟨.hbm, 81, rfl⟩
abbrev main_c_16 : Ref sig .tc := ⟨.hbm, 82, rfl⟩
abbrev main_v45 : Ref sig .tc := ⟨.hbm, 83, rfl⟩
abbrev main_v46 : Ref sig .tc := ⟨.hbm, 84, rfl⟩
abbrev main_c_17 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_call6_c : Ref sig .tc := ⟨.hbm, 90, rfl⟩
abbrev main_call6_v0 : Ref sig .tc := ⟨.hbm, 91, rfl⟩
abbrev main_call6_v1 : Ref sig .tc := ⟨.hbm, 92, rfl⟩
abbrev main_v51 : Ref sig .tc := ⟨.hbm, 93, rfl⟩
abbrev main_v52 : Ref sig .tc := ⟨.hbm, 94, rfl⟩
abbrev main_c_18 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_c_19 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_c_20 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_c_21 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_c_22 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_23 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_c_24 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_c_25 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_26 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_c_27 : Ref sig .tc := ⟨.hbm, 144, rfl⟩
abbrev main_v92 : Ref sig .tc := ⟨.hbm, 145, rfl⟩
abbrev main_v93 : Ref sig .tc := ⟨.hbm, 146, rfl⟩
abbrev main_c_28 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_call14_v0 : Ref sig .tc := ⟨.hbm, 153, rfl⟩
abbrev main_call14_v1_0 : Ref sig .tc := ⟨.hbm, 154, rfl⟩
abbrev main_v99 : Ref sig .tc := ⟨.hbm, 155, rfl⟩
abbrev main_v100 : Ref sig .tc := ⟨.hbm, 156, rfl⟩
abbrev main_c_29 : Ref sig .tc := ⟨.hbm, 157, rfl⟩
abbrev main_c_30 : Ref sig .tc := ⟨.hbm, 158, rfl⟩
abbrev main_v101 : Ref sig .tc := ⟨.hbm, 159, rfl⟩
abbrev main_c_31 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_c_32 : Ref sig .tc := ⟨.hbm, 165, rfl⟩
abbrev main_c_33 : Ref sig .tc := ⟨.hbm, 166, rfl⟩
abbrev main_call15_v0 : Ref sig .tc := ⟨.hbm, 167, rfl⟩
abbrev main_call15_v1 : Ref sig .tc := ⟨.hbm, 168, rfl⟩
abbrev main_v106 : Ref sig .tc := ⟨.hbm, 169, rfl⟩
abbrev main_c_34 : Ref sig .tc := ⟨.hbm, 170, rfl⟩
abbrev main_v107 : Ref sig .tc := ⟨.hbm, 171, rfl⟩
abbrev main_v108 : Ref sig .tc := ⟨.hbm, 172, rfl⟩
abbrev main_c_35 : Ref sig .tc := ⟨.hbm, 173, rfl⟩
abbrev main_v109 : Ref sig .tc := ⟨.hbm, 174, rfl⟩
abbrev main_v110 : Ref sig .tc := ⟨.hbm, 175, rfl⟩
abbrev main_call16_c : Ref sig .tc := ⟨.hbm, 176, rfl⟩
abbrev main_call16_v0 : Ref sig .tc := ⟨.hbm, 177, rfl⟩
abbrev main_call16_v1 : Ref sig .tc := ⟨.hbm, 178, rfl⟩
abbrev main_v111 : Ref sig .tc := ⟨.hbm, 179, rfl⟩
abbrev main_c_36 : Ref sig .tc := ⟨.hbm, 180, rfl⟩
abbrev main_c_37 : Ref sig .tc := ⟨.hbm, 181, rfl⟩
abbrev main_v112 : Ref sig .tc := ⟨.hbm, 182, rfl⟩
abbrev main_c_38 : Ref sig .tc := ⟨.hbm, 183, rfl⟩
abbrev main_v113 : Ref sig .tc := ⟨.hbm, 184, rfl⟩
abbrev main_v114 : Ref sig .tc := ⟨.hbm, 185, rfl⟩
abbrev main_c_39 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_call17_c : Ref sig .tc := ⟨.hbm, 191, rfl⟩
abbrev main_call17_v0 : Ref sig .tc := ⟨.hbm, 192, rfl⟩
abbrev main_call17_v1 : Ref sig .tc := ⟨.hbm, 193, rfl⟩
abbrev main_v119 : Ref sig .tc := ⟨.hbm, 194, rfl⟩
abbrev main_v120 : Ref sig .tc := ⟨.hbm, 195, rfl⟩
abbrev main_c_40 : Ref sig .tc := ⟨.hbm, 196, rfl⟩
abbrev main_v121 : Ref sig .tc := ⟨.hbm, 197, rfl⟩
abbrev main_v122 : Ref sig .tc := ⟨.hbm, 198, rfl⟩
abbrev main_c_41 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_call18_c : Ref sig .tc := ⟨.hbm, 204, rfl⟩
abbrev main_call18_v0 : Ref sig .tc := ⟨.hbm, 205, rfl⟩
abbrev main_call18_v1 : Ref sig .tc := ⟨.hbm, 206, rfl⟩
abbrev main_v127 : Ref sig .tc := ⟨.hbm, 207, rfl⟩
abbrev main_v128 : Ref sig .tc := ⟨.hbm, 208, rfl⟩
abbrev main_c_42 : Ref sig .tc := ⟨.hbm, 209, rfl⟩
abbrev main_v129 : Ref sig .tc := ⟨.hbm, 210, rfl⟩
abbrev main_v130 : Ref sig .tc := ⟨.hbm, 211, rfl⟩
abbrev main_c_43 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_call19_c : Ref sig .tc := ⟨.hbm, 217, rfl⟩
abbrev main_call19_v0 : Ref sig .tc := ⟨.hbm, 218, rfl⟩
abbrev main_call19_v1 : Ref sig .tc := ⟨.hbm, 219, rfl⟩
abbrev main_v135 : Ref sig .tc := ⟨.hbm, 220, rfl⟩
abbrev main_v136 : Ref sig .tc := ⟨.hbm, 221, rfl⟩
abbrev main_c_44 : Ref sig .tc := ⟨.hbm, 222, rfl⟩
abbrev main_v137 : Ref sig .tc := ⟨.hbm, 223, rfl⟩
abbrev main_v138 : Ref sig .tc := ⟨.hbm, 224, rfl⟩
abbrev main_c_45 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_call20_c : Ref sig .tc := ⟨.hbm, 230, rfl⟩
abbrev main_call20_v0 : Ref sig .tc := ⟨.hbm, 231, rfl⟩
abbrev main_call20_v1 : Ref sig .tc := ⟨.hbm, 232, rfl⟩
abbrev main_v143 : Ref sig .tc := ⟨.hbm, 233, rfl⟩
abbrev main_v144 : Ref sig .tc := ⟨.hbm, 234, rfl⟩
abbrev main_c_46 : Ref sig .tc := ⟨.hbm, 235, rfl⟩
abbrev main_v145 : Ref sig .tc := ⟨.hbm, 236, rfl⟩
abbrev main_v146 : Ref sig .tc := ⟨.hbm, 237, rfl⟩
abbrev main_c_47 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_call21_c : Ref sig .tc := ⟨.hbm, 243, rfl⟩
abbrev main_call21_v0 : Ref sig .tc := ⟨.hbm, 244, rfl⟩
abbrev main_call21_v1 : Ref sig .tc := ⟨.hbm, 245, rfl⟩
abbrev main_v151 : Ref sig .tc := ⟨.hbm, 246, rfl⟩
abbrev main_v152 : Ref sig .tc := ⟨.hbm, 247, rfl⟩
abbrev main_c_48 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_cst_49 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_c_50 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_c_51 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_c_52 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_c_53 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_c_54 : Ref sig .tc := ⟨.hbm, 278, rfl⟩
abbrev main_v177 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_c_55 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_v184 : Ref sig .tc := ⟨.hbm, 287, rfl⟩
abbrev main_c_56 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_c_57 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_c_58 : Ref sig .tc := ⟨.hbm, 297, rfl⟩
abbrev main_v192 : Ref sig .tc := ⟨.hbm, 298, rfl⟩
abbrev main_v193 : Ref sig .tc := ⟨.hbm, 299, rfl⟩
abbrev main_c_59 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_call29_v0 : Ref sig .tc := ⟨.hbm, 306, rfl⟩
abbrev main_call29_v1_0 : Ref sig .tc := ⟨.hbm, 307, rfl⟩
abbrev main_v199 : Ref sig .tc := ⟨.hbm, 308, rfl⟩
abbrev main_call30_v0 : Ref sig .tc := ⟨.hbm, 309, rfl⟩
abbrev main_call30_v1_0 : Ref sig .tc := ⟨.hbm, 310, rfl⟩
abbrev main_v200 : Ref sig .tc := ⟨.hbm, 311, rfl⟩
abbrev main_v201 : Ref sig .tc := ⟨.hbm, 312, rfl⟩
abbrev main_v202 : Ref sig .tc := ⟨.hbm, 313, rfl⟩
abbrev main_c_60 : Ref sig .tc := ⟨.hbm, 314, rfl⟩
abbrev main_v203 : Ref sig .tc := ⟨.hbm, 315, rfl⟩
abbrev main_v204 : Ref sig .tc := ⟨.hbm, 316, rfl⟩
abbrev main_v205 : Ref sig .tc := ⟨.hbm, 317, rfl⟩
abbrev main_v206 : Ref sig .tc := ⟨.hbm, 318, rfl⟩
abbrev main_v207 : Ref sig .tc := ⟨.hbm, 319, rfl⟩
abbrev main_v208 : Ref sig .tc := ⟨.hbm, 320, rfl⟩
abbrev main_v209 : Ref sig .tc := ⟨.hbm, 321, rfl⟩
abbrev main_v210 : Ref sig .tc := ⟨.hbm, 322, rfl⟩
abbrev main_v211 : Ref sig .tc := ⟨.hbm, 323, rfl⟩
abbrev main_v212 : Ref sig .tc := ⟨.hbm, 324, rfl⟩
abbrev main_v213 : Ref sig .tc := ⟨.hbm, 325, rfl⟩

abbrev nD : Nat := 1
abbrev τ : Topo := Topo.v7x

variable {F : FTy → Type} [FloatOps F]
-- ==== Pad.lean ====
abbrev S2x16x8192x64 : Shape := ⟨4, ![2, 16, 8192, 64]⟩
abbrev S32x8192x64 : Shape := ⟨3, ![32, 8192, 64]⟩
abbrev S32x8192x128 : Shape := ⟨3, ![32, 8192, 128]⟩
abbrev S1x512x64 : Shape := ⟨3, ![1, 512, 64]⟩
abbrev S1x512x128 : Shape := ⟨3, ![1, 512, 128]⟩
abbrev S512x64 : Shape := ⟨2, ![512, 64]⟩
abbrev S512x128 : Shape := ⟨2, ![512, 128]⟩

abbrev nBuf : Space → Nat
  | .hbm => 3
  | .vmem => 4
  | .smem => 0
  | _ => 0

abbrev bufTy : (tb : Table) → Fin (tcTables nBuf tb) → BufTy
  | .hbm, ⟨0, _⟩ => ⟨S2x16x8192x64, .f32⟩
  | .hbm, ⟨1, _⟩ => ⟨S32x8192x64, .f32⟩
  | .hbm, ⟨2, _⟩ => ⟨S32x8192x128, .f32⟩
  | .local _ .vmem, ⟨0, _⟩ => ⟨S1x512x64, .f32⟩
  | .local _ .vmem, ⟨1, _⟩ => ⟨S1x512x64, .f32⟩
  | .local _ .vmem, ⟨2, _⟩ => ⟨S1x512x128, .f32⟩
  | .local _ .vmem, ⟨3, _⟩ => ⟨S1x512x128, .f32⟩
  | _, _ => ⟨S2x16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PadReferenceIdeal.lean ====
abbrev S2x16x8192x64 : Shape := ⟨4, ![2, 16, 8192, 64]⟩
abbrev S32x8192x64 : Shape := ⟨3, ![32, 8192, 64]⟩
abbrev S_ : Shape := ⟨0, ![]⟩
abbrev S32x8192x128 : Shape := ⟨3, ![32, 8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S2x16x8192x64, .f32⟩
  | .hbm, ⟨1, _⟩ => ⟨S32x8192x64, .f32⟩
  | .hbm, ⟨2, _⟩ => ⟨S_, .i32⟩
  | .hbm, ⟨3, _⟩ => ⟨S_, .f32⟩
  | .hbm, ⟨4, _⟩ => ⟨S32x8192x128, .f32⟩
  | _, _ => ⟨S2x16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Spec.lean ====
/-
  The mathematics of the row sort, as functions on arrays: which row of the table each result row is. A table has
  `32 · 8192` rows of 128 lanes; block `w` of a result is its rows `8192 w … 8192 w + 8191`.
-/
module

public import Idealize.ShloMosaic.Lib.ValueIdxCore
public import Idealize.ShloMosaic.Lib.ValueIdxCoords

@[expose] public section

namespace Cert.Proof.Spec

open Idealize.ShloMosaic Idealize.ShloMosaic.ValueIdx

/-- The tables' shape: 32 blocks of 8192 rows. -/
abbrev Tb : Shape := ⟨2, ![262144, 128]⟩
/-- The permutations' shape: for each block, 64 chunks of 128 row numbers. -/
abbrev Pm : Shape := ⟨3, ![32, 64, 128]⟩
/-- The samples' shape: for each block, 128 row numbers inside the block. -/
abbrev Sm : Shape := ⟨2, ![32, 128]⟩
/-- The samples' rows: 32 blocks of 128 rows. -/
abbrev Sb : Shape := ⟨2, ![4096, 128]⟩

/-- Lane `c` of row `n` of a table (the row number taken modulo the number of rows). -/
def cell (n : ℕ) (c : Fin 128) : Tb.Idx := ix2 ⟨n % 262144, Nat.mod_lt _ (by decide)⟩ c

/-- The word of a permutation for row `n` of the result. -/
def permAt (p : Pm.Idx → BitVec 32) (n : ℕ) : BitVec 32 :=
  p (ix3 ⟨n / 8192 % 32, Nat.mod_lt _ (by decide)⟩ ⟨n % 8192 / 128, by omega⟩ ⟨n % 128, Nat.mod_lt _ (by decide)⟩)

/-- The sorted table: row `n` is the row of `x` the permutation names for `n`. -/
def sorted {α : Type} (x : Tb.Idx → α) (p : Pm.Idx → BitVec 32) : Tb.Idx → α :=
  fun j => x (cell (permAt p (j 0).val).toNat (j 1))

/-- The sampled rows: row `128 w + a` is the row of block `w` of `y` that sample `a` of the block names. -/
def picked {α : Type} (y : Tb.Idx → α) (s : Sm.Idx → BitVec 32) : Sb.Idx → α :=
  fun j => y (cell (8192 * ((j 0).val / 128)
    + (s (ix2 ⟨(j 0).val / 128 % 32, Nat.mod_lt _ (by decide)⟩ ⟨(j 0).val % 128, Nat.mod_lt _ (by decide)⟩)).toNat) (j 1))

/-- Block `w` of a table. -/
def blk (w : ℕ) : Finset Tb.Idx := Finset.univ.filter fun j => (j 0).val / 8192 = w
/-- Block `w` of the sampled rows. -/
def sblk (w : ℕ) : Finset Sb.Idx := Finset.univ.filter fun j => (j 0).val / 128 = w

theorem mem_blk {w : ℕ} {j : Tb.Idx} : j ∈ blk w ↔ (j 0).val / 8192 = w := by simp [blk]
theorem mem_sblk {w : ℕ} {j : Sb.Idx} : j ∈ sblk w ↔ (j 0).val / 128 = w := by simp [sblk]

/-- Blocks of different numbers share no row. -/
theorem blk_disjoint {v w : ℕ} (h : v ≠ w) : Disjoint (blk v) (blk w) :=
  Finset.disjoint_left.mpr fun _ hv hw => h ((mem_blk.mp hv).symm.trans (mem_blk.mp hw))
theorem sblk_disjoint {v w : ℕ} (h : v ≠ w) : Disjoint (sblk v) (sblk w) :=
  Finset.disjoint_left.mpr fun _ hv hw => h ((mem_sblk.mp hv).symm.trans (mem_sblk.mp hw))

/-- The 32 blocks are the whole table. -/
theorem blk_cover : (Finset.univ : Finset (Fin 32)).biUnion (fun w => blk w.val) = Finset.univ := by
  refine Finset.eq_univ_of_forall fun j => Finset.mem_biUnion.mpr ⟨⟨(j 0).val / 8192, ?_⟩, Finset.mem_univ _, mem_blk.mpr rfl⟩
  have : (j 0).val < 262144 := (j 0).isLt
  omega
theorem sblk_cover : (Finset.univ : Finset (Fin 32)).biUnion (fun w => sblk w.val) = Finset.univ := by
  refine Finset.eq_univ_of_forall fun j => Finset.mem_biUnion.mpr ⟨⟨(j 0).val / 128, ?_⟩, Finset.mem_univ _, mem_sblk.mpr rfl⟩
  have : (j 0).val < 4096 := (j 0).isLt
  omega

end Cert.Proof.Spec
-- ==== Proof.Pieces.lean ====
/-
  What the row sort's copies read and write, through the views the tasks form: a chunk of a permutation as a list of
  row numbers, a whole table, the gathered rows, and a chunk of rows landing in a table. Generic in the signature.
-/
module

public import proofs.«01_k».proof.Proof.Spec
public import Idealize.ShloMosaic.Lib.SparseCore.Stream

@[expose] public section

namespace Cert.Proof.Pieces

open Idealize.ShloMosaic Idealize.ShloMosaic.ValueIdx Idealize.ShloMosaic.SparseCore
open Cert.Proof.Spec

variable {F : FTy → Type} {sig : RefSig} {κ : Kind} {sp : Space} {e : EltTy}

/-- The row shape of a chunk, and a chunk of rows. -/
abbrev Ch : Shape := ⟨2, ![128, 128]⟩
abbrev Li : Shape := ⟨1, ![128]⟩

/-- One row of a two-axis view of 128 columns, as a list, read at `a`: the view read at the row and `a`. -/
theorem read_row {R : ℕ} (v : View sig κ sp ⟨2, ![R, 128]⟩ e) {off : Fin 2 → ℕ} {t : ℕ} (ht : t < R) (hoff : off = ![t, 0])
    (inb : ∀ a, off a + (⟨2, ![1, 128]⟩ : Shape).size a ≤ (⟨2, ![R, 128]⟩ : Shape).size a)
    (h : (Li : Shape).numel = (Rect.unit (s := ⟨2, ![R, 128]⟩) off (⟨2, ![1, 128]⟩ : Shape).size inb).shape.numel)
    (f : v.ty.Contents (Elt F)) (a : Fin 128) :
    ((v.slice (Rect.unit (s := ⟨2, ![R, 128]⟩) off (⟨2, ![1, 128]⟩ : Shape).size inb)).reshape Li h).read (Elt F) f (ix1 a)
      = v.read (Elt F) f (ix2 ⟨t, ht⟩ a) := by
  subst hoff
  have e : Shape.reshapeEquiv h (ix1 a) = (ix2 ⟨0, Nat.one_pos⟩ a : (⟨2, ![1, 128]⟩ : Shape).Idx) :=
    Shape.reshapeEquiv_eq_of_rowMajor h (by
      rw [Shape.rowMajor_val_one]
      refine (Shape.rowMajor_val_two (d := ![1, 128]) (ix2 ⟨0, Nat.one_pos⟩ a)).trans ?_
      simp)
  rw [View.read_apply, View.read_apply]
  have : ((v.slice (Rect.unit (s := ⟨2, ![R, 128]⟩) ![t, 0] (⟨2, ![1, 128]⟩ : Shape).size inb)).reshape Li h).emb (ix1 a)
      = v.emb (ix2 ⟨t, ht⟩ a) := by
    show v.emb ((Rect.unit (s := ⟨2, ![R, 128]⟩) ![t, 0] (⟨2, ![1, 128]⟩ : Shape).size inb).emb (Shape.reshapeEquiv h (ix1 a))) = _
    rw [e]
    congr 1
    funext b
    apply Fin.ext
    match b with
    | ⟨0, _⟩ => simp [Rect.emb_apply]
    | ⟨1, _⟩ => simp [Rect.emb_apply]
  simp only [this]

/-- One block of a three-axis view, as a two-axis array, read at `(a, b)`: the view read at the block and `(a, b)`. -/
theorem read_block {R A : ℕ} (v : View sig κ sp ⟨3, ![R, A, 128]⟩ e) {off : Fin 3 → ℕ} {t : ℕ} (ht : t < R) (hoff : off = ![t, 0, 0])
    (inb : ∀ a, off a + (⟨3, ![1, A, 128]⟩ : Shape).size a ≤ (⟨3, ![R, A, 128]⟩ : Shape).size a)
    (h : (⟨2, ![A, 128]⟩ : Shape).numel = (Rect.unit (s := ⟨3, ![R, A, 128]⟩) off (⟨3, ![1, A, 128]⟩ : Shape).size inb).shape.numel)
    (f : v.ty.Contents (Elt F)) (a : Fin A) (b : Fin 128) :
    ((v.slice (Rect.unit (s := ⟨3, ![R, A, 128]⟩) off (⟨3, ![1, A, 128]⟩ : Shape).size inb)).reshape ⟨2, ![A, 128]⟩ h).read (Elt F) f (ix2 a b)
      = v.read (Elt F) f (ix3 ⟨t, ht⟩ a b) := by
  subst hoff
  have e : Shape.reshapeEquiv h (ix2 a b) = (ix3 ⟨0, Nat.one_pos⟩ a b : (⟨3, ![1, A, 128]⟩ : Shape).Idx) :=
    Shape.reshapeEquiv_eq_of_rowMajor h (by
      refine (Shape.rowMajor_val_three (d := ![1, A, 128]) (ix3 ⟨0, Nat.one_pos⟩ a b)).trans ?_
      refine Eq.trans ?_ (Shape.rowMajor_val_two (d := ![A, 128]) (ix2 a b)).symm
      simp)
  rw [View.read_apply, View.read_apply]
  have : ((v.slice (Rect.unit (s := ⟨3, ![R, A, 128]⟩) ![t, 0, 0] (⟨3, ![1, A, 128]⟩ : Shape).size inb)).reshape ⟨2, ![A, 128]⟩ h).emb (ix2 a b)
      = v.emb (ix3 ⟨t, ht⟩ a b) := by
    show v.emb ((Rect.unit (s := ⟨3, ![R, A, 128]⟩) ![t, 0, 0] (⟨3, ![1, A, 128]⟩ : Shape).size inb).emb (Shape.reshapeEquiv h (ix2 a b))) = _
    rw [e]
    congr 1
    funext b
    apply Fin.ext
    match b with
    | ⟨0, _⟩ => simp [Rect.emb_apply]
    | ⟨1, _⟩ => simp [Rect.emb_apply]
    | ⟨2, _⟩ => simp [Rect.emb_apply]
  simp only [this]

/-- A slice of rows of a two-axis view, read at `(a, c)`: the view read `t` rows further on. -/
theorem read_rows {R A : ℕ} (v : View sig κ sp ⟨2, ![R, 128]⟩ e) {off : Fin 2 → ℕ} {t : ℕ} (ht : t + A ≤ R) (hoff : off = ![t, 0])
    (inb : ∀ a, off a + (⟨2, ![A, 128]⟩ : Shape).size a ≤ (⟨2, ![R, 128]⟩ : Shape).size a)
    (f : v.ty.Contents (Elt F)) (a : Fin A) (c : Fin 128) :
    (v.slice (Rect.unit (s := ⟨2, ![R, 128]⟩) off (⟨2, ![A, 128]⟩ : Shape).size inb)).read (Elt F) f (ix2 a c)
      = v.read (Elt F) f (ix2 ⟨t + a.val, by omega⟩ c) := by
  subst hoff
  rw [View.read_apply, View.read_apply]
  have : (v.slice (Rect.unit (s := ⟨2, ![R, 128]⟩) ![t, 0] (⟨2, ![A, 128]⟩ : Shape).size inb)).emb (ix2 a c) = v.emb (ix2 ⟨t + a.val, by omega⟩ c) := by
    show v.emb ((Rect.unit (s := ⟨2, ![R, 128]⟩) ![t, 0] (⟨2, ![A, 128]⟩ : Shape).size inb).emb (ix2 a c)) = _
    congr 1
    funext b
    apply Fin.ext
    match b with
    | ⟨0, _⟩ => simp [Rect.emb_apply]
    | ⟨1, _⟩ => simp [Rect.emb_apply]
  simp only [this]

/-- The gathered chunk at `(a, c)`: the source at the row the list names at `a`, lane `c`. -/
theorem payload_apply {N : ℕ} (hg : (⟨2, ![N, 128]⟩ : Shape).Gathers 0 Ch) (g : (⟨2, ![N, 128]⟩ : Shape).Idx → Elt F e)
    (idx : (Li : Shape).Idx → Elt F .i32) (hn : (Li : Shape).numel = (Ch : Shape).size hg.axis')
    (hin : ∀ x, (idx x).toNat < (⟨2, ![N, 128]⟩ : Shape).size hg.axis) (a c : Fin 128) :
    gatherPayload hg g (rows idx hn hin) (ix2 a c) = g (ix2 ⟨(idx (ix1 a)).toNat, hin (ix1 a)⟩ c) := by
  unfold gatherPayload
  congr 1
  funext b
  apply Fin.ext
  match b with
  | ⟨0, _⟩ =>
    refine (congrArg Fin.val (hg.idx_axis (rows idx hn hin) (ix2 a c))).trans ?_
    show (idx ((Li : Shape).rowMajor.symm (Fin.cast hn.symm a))).toNat = _
    have : (Li : Shape).rowMajor.symm (Fin.cast hn.symm a) = ix1 a := by
      rw [Equiv.symm_apply_eq]
      apply Fin.ext
      exact (Shape.rowMajor_val_one (d := ![128]) (ix1 a)).symm
    rw [this]
  | ⟨1, _⟩ => exact hg.idx_of_ne (rows idx hn hin) (ix2 a c) ⟨1, Nat.one_lt_two⟩ Nat.one_ne_zero

/-- The rows a slice of whole rows covers. -/
theorem mem_rows {R A : ℕ} {off : Fin 2 → ℕ} {t : ℕ} (hoff : off = ![t, 0])
    (inb : ∀ a, off a + (⟨2, ![A, 128]⟩ : Shape).size a ≤ (⟨2, ![R, 128]⟩ : Shape).size a) (j : (⟨2, ![R, 128]⟩ : Shape).Idx) :
    j ∈ (Finset.univ : Finset (Rect.unit (s := ⟨2, ![R, 128]⟩) off (⟨2, ![A, 128]⟩ : Shape).size inb).shape.Idx).map
        (Rect.unit (s := ⟨2, ![R, 128]⟩) off (⟨2, ![A, 128]⟩ : Shape).size inb).emb
      ↔ t ≤ (j 0).val ∧ (j 0).val < t + A := by
  subst hoff
  rw [Rect.map_emb_univ]
  refine Rect.mem_set_unit.trans ⟨fun h => h 0, fun h a => ?_⟩
  match a with
  | ⟨0, _⟩ => exact h
  | ⟨1, _⟩ => exact ⟨Nat.zero_le _, by have : (j 1).val < 128 := (j 1).isLt; simpa using this⟩

/-- A table after whole rows were written into it: the payload on those rows, -/
theorem read_write_rows {R A : ℕ} (v : View sig κ sp ⟨2, ![R, 128]⟩ e) {off : Fin 2 → ℕ} {t : ℕ} (hoff : off = ![t, 0])
    (inb : ∀ a, off a + (⟨2, ![A, 128]⟩ : Shape).size a ≤ (⟨2, ![R, 128]⟩ : Shape).size a)
    (f : v.ty.Contents (Elt F)) (w : (⟨2, ![A, 128]⟩ : Shape).Idx → Elt F e) (j : (⟨2, ![R, 128]⟩ : Shape).Idx)
    (h : t ≤ (j 0).val ∧ (j 0).val < t + A) :
    v.read (Elt F) ((v.slice (Rect.unit (s := ⟨2, ![R, 128]⟩) off (⟨2, ![A, 128]⟩ : Shape).size inb)).write (Elt F) f w Finset.univ) j
      = w (ix2 ⟨(j 0).val - t, by omega⟩ (j 1)) := by
  subst hoff
  have e : j = (Rect.unit (s := ⟨2, ![R, 128]⟩) ![t, 0] (⟨2, ![A, 128]⟩ : Shape).size inb).emb (ix2 ⟨(j 0).val - t, by omega⟩ (j 1)) := by
    funext b
    apply Fin.ext
    match b with
    | ⟨0, _⟩ => simp [Rect.emb_apply]; omega
    | ⟨1, _⟩ => simp [Rect.emb_apply]
  conv_lhs => rw [e]
  exact View.read_slice_write_emb (v := v) (Val := Elt F) (Rect.unit (s := ⟨2, ![R, 128]⟩) ![t, 0] (⟨2, ![A, 128]⟩ : Shape).size inb) f w (Finset.mem_univ _)

/-- and the old contents on every other. -/
theorem read_write_rows_other {R A : ℕ} (v : View sig κ sp ⟨2, ![R, 128]⟩ e) {off : Fin 2 → ℕ} {t : ℕ} (hoff : off = ![t, 0])
    (inb : ∀ a, off a + (⟨2, ![A, 128]⟩ : Shape).size a ≤ (⟨2, ![R, 128]⟩ : Shape).size a)
    (f : v.ty.Contents (Elt F)) (w : (⟨2, ![A, 128]⟩ : Shape).Idx → Elt F e) (j : (⟨2, ![R, 128]⟩ : Shape).Idx)
    (h : ¬(t ≤ (j 0).val ∧ (j 0).val < t + A)) :
    v.read (Elt F) ((v.slice (Rect.unit (s := ⟨2, ![R, 128]⟩) off (⟨2, ![A, 128]⟩ : Shape).size inb)).write (Elt F) f w Finset.univ) j
      = v.read (Elt F) f j :=
  View.read_slice_write_of_not_mem (v := v) (Val := Elt F) _ f w _ fun hm => h ((mem_rows hoff inb j).mp hm)

/-- The elements a slice of whole rows covers lie in any set of rows that has those rows. -/
theorem set_rows_subset {R A : ℕ} (v : View sig κ sp ⟨2, ![R, 128]⟩ e) {off : Fin 2 → ℕ} {t : ℕ} (hoff : off = ![t, 0])
    (inb : ∀ a, off a + (⟨2, ![A, 128]⟩ : Shape).size a ≤ (⟨2, ![R, 128]⟩ : Shape).size a) (M : Finset (⟨2, ![R, 128]⟩ : Shape).Idx)
    (hM : ∀ j : (⟨2, ![R, 128]⟩ : Shape).Idx, t ≤ (j 0).val → (j 0).val < t + A → j ∈ M) :
    (v.slice (Rect.unit (s := ⟨2, ![R, 128]⟩) off (⟨2, ![A, 128]⟩ : Shape).size inb)).set ⊆ v.setOn M := by
  rw [View.set_slice]
  refine Finset.map_subset_map.mpr fun j hj => ?_
  rw [← Rect.map_emb_univ] at hj
  have := (mem_rows hoff inb j).mp hj
  exact hM j this.1 this.2

end Cert.Proof.Pieces
-- ==== Proof.ScBase.lean ====
/-
  The row sort's program as the launch theorem sees it, its buffers, what its tasks hold, and one trip of a sorting
  loop: a chunk of 128 rows gathered by a row of the permutation and written to its place in the result.
-/
module

public import proofs.«01_k».proof.Defs
public import proofs.«01_k».proof.Proof.Pieces
public import Idealize.ShloMosaic.Lib.SparseCore.Quiescent
public import Idealize.ShloMosaic.Lib.SparseCore.Ops
public import Idealize.ShloMosaic.Lib.SparseCore.FromWhole
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.Pre_indices_in_range

@[expose] public section

noncomputable section

namespace Cert.Proof.ScI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec Cert.Proof.Pieces

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch theorem's side conditions on the program's semaphores and buffers. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev qL (d : Dev nD) : Loc nD τ sig := (SparseCore.T d).loc main_arg0
abbrev kL (d : Dev nD) : Loc nD τ sig := (SparseCore.T d).loc main_arg1
abbrev vL (d : Dev nD) : Loc nD τ sig := (SparseCore.T d).loc main_arg2
abbrev pqL (d : Dev nD) : Loc nD τ sig := (SparseCore.T d).loc main_arg3
abbrev pkL (d : Dev nD) : Loc nD τ sig := (SparseCore.T d).loc main_arg4
abbrev rawL (d : Dev nD) : Loc nD τ sig := (SparseCore.T d).loc main_arg5
abbrev smL (d : Dev nD) : Loc nD τ sig := (SparseCore.T d).loc main_v0
abbrev oqL (d : Dev nD) : Loc nD τ sig := (SparseCore.T d).loc main_v1_0
abbrev okL (d : Dev nD) : Loc nD τ sig := (SparseCore.T d).loc main_v1_1
abbrev ovL (d : Dev nD) : Loc nD τ sig := (SparseCore.T d).loc main_v1_2
abbrev jkL (d : Dev nD) : Loc nD τ sig := (SparseCore.T d).loc main_v1_3
abbrev jvL (d : Dev nD) : Loc nD τ sig := (SparseCore.T d).loc main_v1_4

abbrev qV : Memref sig .scVector .hbm S262144x128 .f32 := Memref.whole main_arg0_scv
abbrev kV : Memref sig .scVector .hbm S262144x128 .f32 := Memref.whole main_arg1_scv
abbrev vV : Memref sig .scVector .hbm S262144x128 .f32 := Memref.whole main_arg2_scv
abbrev pqV : Memref sig .scVector .hbm S32x64x128 .i32 := Memref.whole main_arg3_scv
abbrev pkV : Memref sig .scVector .hbm S32x64x128 .i32 := Memref.whole main_arg4_scv
abbrev smV : Memref sig .scVector .hbm S32x128 .i32 := Memref.whole main_v0_scv
abbrev oqV : Memref sig .scVector .hbm S262144x128 .f32 := Memref.whole main_v1_0_scv
abbrev okV : Memref sig .scVector .hbm S262144x128 .f32 := Memref.whole main_v1_1_scv
abbrev ovV : Memref sig .scVector .hbm S262144x128 .f32 := Memref.whole main_v1_2_scv
abbrev jkV : Memref sig .scVector .hbm S4096x128 .f32 := Memref.whole main_v1_3_scv
abbrev jvV : Memref sig .scVector .hbm S4096x128 .f32 := Memref.whole main_v1_4_scv
abbrev pmV : Memref sig .scVector .vmem S64x128 .i32 := Memref.whole cc0_scratch0
abbrev bfV : Memref sig .scVector .vmem S128x128 .f32 := Memref.whole cc0_scratch1
abbrev liV : Memref sig .scVector .vmem S128 .i32 := Memref.whole cc0_scratch2

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The task's thread, and its block's number. -/
abbrev thr (d : Dev nD) (L : grid0.Coords) : Thread nD τ := V d (cV L) (jV L)
abbrev wid (L : grid0.Coords) : ℕ := 2 * (L 1).val + (L 0).val

theorem wid_lt : wid L < 32 := by
  have h0 : (L 0).val < 2 := (L 0).isLt
  have h1 : (L 1).val < 16 := (L 1).isLt
  unfold wid; omega

/-- One trip of a sorting loop, as each of the three loops' bodies is: gather `src` by row `op` of the permutation held
    in the task's memory, then write the chunk at the rows `od` of `dst`. -/
def trip (src dst : Memref sig .scVector .hbm S262144x128 .f32) (gs ws : DmaSem sig)
    (op : Fin 2 → ℕ) (hop : ∀ a, op a + S1x128.size a ≤ S64x128.size a)
    (od : Fin 2 → ℕ) (hod : ∀ a, od a + S128x128.size a ≤ S262144x128.size a) :
    Prog (TpuEff nD τ sig (Elt F) Λ₀ (.scVector (cV L) (jV L))) (BitVec 32) := do
  let v20 : Memref sig .scVector .vmem S1x128 .i32 := pmV.slice (Rect.unit (s := S64x128) op S1x128.size hop) (fun _ => rfl)
  let v21 : Memref sig .scVector .vmem S128 .i32 := v20.squeeze S128 squeezes_S1x128_S128
  let v22 : Memref sig .scVector .hbm S262144x128 .f32 := src.slice (Rect.unit (s := S262144x128) ![0, 0] S262144x128.size inb_S262144x128_S262144x128_0_0) (fun _ => rfl)
  SparseCore.enqueueIndirectGather rfl v22 bfV gathers_S262144x128_S128x128 v21 rfl gs (View.wordExact_bits rfl) rfl (Or.inl rfl)
  let v25 : Memref sig .scVector .hbm S262144x128 .f32 := src.slice (Rect.unit (s := S262144x128) ![0, 0] S262144x128.size inb_S262144x128_S262144x128_0_0) (fun _ => rfl)
  SparseCore.waitIndirectGather gs v25 bfV (View.wordExact_bits rfl) (Memref.isWhole_whole _).wordExact
  let v31 : Memref sig .scVector .hbm S128x128 .f32 := dst.slice (Rect.unit (s := S262144x128) od S128x128.size hod) (fun _ => rfl)
  Prog.lift (.enqueueDma bfV (.here v31) (.dma ws) (Memref.isWhole_whole _).wordExact (View.wordExact_bits rfl) ⟨Or.inl rfl, trivial⟩)
  let v33 : Memref sig .scVector .hbm S128x128 .f32 := dst.slice (Rect.unit (s := S262144x128) od S128x128.size hod) (fun _ => rfl)
  Prog.lift (.waitDma2 ws bfV v33 (Memref.isWhole_whole _).wordExact (View.wordExact_bits rfl))
  pure 0#32

/-- The rows of block `w` of `dst` up to `n` are sorted: read through the view they are the sorted table's. -/
def Upto (dst : Memref sig .scVector .hbm S262144x128 .f32) (x : Tb.Idx → Elt F .f32) (p : Pm.Idx → BitVec 32) (w n : ℕ)
    (f : Buf (Elt F) (dst.view.loc (thr d L))) : Prop :=
  ∀ j : Tb.Idx, (j 0).val / 8192 = w → (j 0).val < 8192 * w + n → dst.view.read (Elt F) f j = sorted x p j

/-- What a task holds at the head of trip `t` of a sorting loop. -/
def Loop (src dst : Memref sig .scVector .hbm S262144x128 .f32) (gs ws : DmaSem sig)
    (q : PosShare TreeShare) (fs : Buf (Elt F) (src.view.loc (thr d L))) (fp : Buf (Elt F) (pmV.view.loc (thr d L)))
    (x : Tb.Idx → Elt F .f32) (p : Pm.Idx → BitVec 32) (O : CellTallies nD τ sig (HIx 1)) (W : Waits sig (HIx 1)) (t : ℕ) : sProp 𝕄 :=
  iprop(Transfers.MayWaits (thr d L) (none : HIx 1) O
    ∗ (src.view.loc (thr d L) ↦{q} fs)
    ∗ (∃ f, ⌜Upto d L dst x p (wid L) (128 * t) f⌝ ∗ dst.view.loc (thr d L) ↦[dst.view.setOn (blk (wid L))]{fullShare} f)
    ∗ (pmV.view.loc (thr d L) ↦{fullShare} fp)
    ∗ (∃ g, bfV.view.loc (thr d L) ↦{fullShare} g)
    ∗ semVal (thr d L, SemLoc.dma gs) 0 ∗ semVal (thr d L, SemLoc.dma ws) 0
    ∗ ∃ W', ⌜∀ p ∈ W', p ∈ W ∨ p.2 = none⌝ ∗ owes (thr d L) O W')

/-- After a trip the block is sorted 128 rows further. -/
theorem upto_step (src dst : Memref sig .scVector .hbm S262144x128 .f32) (fs : Buf (Elt F) (src.view.loc (thr d L)))
    (fp : Buf (Elt F) (pmV.view.loc (thr d L))) (x : Tb.Idx → Elt F .f32) (p : Pm.Idx → BitVec 32)
    (hfs : src.view.read (Elt F) fs = x) (hw : wid L < 32)
    (hfp : ∀ a b, pmV.view.read (Elt F) fp (ix2 a b) = p (ix3 ⟨wid L, hw⟩ a b)) (hp : ∀ j, (p j).toNat < 262144)
    {t : ℕ} (ht : t < 64) (op : Fin 2 → ℕ) (hop : ∀ a, op a + S1x128.size a ≤ S64x128.size a) (eop : op = ![t, 0])
    (od : Fin 2 → ℕ) (hod : ∀ a, od a + S128x128.size a ≤ S262144x128.size a) (eod : od = ![8192 * wid L + 128 * t, 0])
    (f : Buf (Elt F) (dst.view.loc (thr d L))) (hf : Upto d L dst x p (wid L) (128 * t) f)
    (pay : (Ch : Shape).Idx → Elt F .f32)
    (hpay : ∀ a c : Fin 128, pay (ix2 a c) = x (ix2 ⟨(p (ix3 ⟨wid L, hw⟩ ⟨t, ht⟩ a)).toNat, hp _⟩ c)) :
    Upto d L dst x p (wid L) (128 * (t + 1))
      ((dst.slice (Rect.unit (s := S262144x128) od S128x128.size hod) (fun _ => rfl)).view.write (Elt F) f pay Finset.univ) := by
  intro j hj1 hj2
  by_cases h : 8192 * wid L + 128 * t ≤ (j 0).val ∧ (j 0).val < 8192 * wid L + 128 * t + 128
  · refine ((read_write_rows dst.view eod hod f pay j h).trans (hpay ⟨(j 0).val - (8192 * wid L + 128 * t), by omega⟩ (j 1))).trans ?_
    unfold sorted permAt cell
    have e1 : (ix3 ⟨wid L, hw⟩ ⟨t, ht⟩ ⟨(j 0).val - (8192 * wid L + 128 * t), by omega⟩ : Pm.Idx)
        = ix3 ⟨(j 0).val / 8192 % 32, Nat.mod_lt _ (by decide)⟩ ⟨(j 0).val % 8192 / 128, by omega⟩ ⟨(j 0).val % 128, Nat.mod_lt _ (by decide)⟩ := by
      congr 1 <;> apply Fin.ext <;> simp only <;> omega
    rw [e1]
    congr 2
    exact Fin.ext (Nat.mod_eq_of_lt (hp _)).symm
  · refine (read_write_rows_other dst.view eod hod f pay j h).trans (hf j hj1 ?_)
    omega

set_option maxHeartbeats 2000000 in
/-- One trip: from what the task holds at its head to what it holds at the next one's. -/
theorem wp_trip (src dst : Memref sig .scVector .hbm S262144x128 .f32) (gs ws : DmaSem sig)
    (q : PosShare TreeShare) (fs : Buf (Elt F) (src.view.loc (thr d L)))
    (fp : Buf (Elt F) (pmV.view.loc (thr d L))) (x : Tb.Idx → Elt F .f32) (p : Pm.Idx → BitVec 32)
    (hfs : src.view.read (Elt F) fs = x) (hw : wid L < 32)
    (hfp : ∀ a b, pmV.view.read (Elt F) fp (ix2 a b) = p (ix3 ⟨wid L, hw⟩ a b)) (hp : ∀ j, (p j).toNat < 262144)
    (O : CellTallies nD τ sig (HIx 1)) (W : Waits sig (HIx 1))
    {t : ℕ} (ht : t < 64) (op : Fin 2 → ℕ) (hop : ∀ a, op a + S1x128.size a ≤ S64x128.size a) (eop : op = ![t, 0])
    (od : Fin 2 → ℕ) (hod : ∀ a, od a + S128x128.size a ≤ S262144x128.size a) (eod : od = ![8192 * wid L + 128 * t, 0]) :
    Loop d L src dst gs ws q fs fp x p O W t
      ⊢ wp frame (wpE (defs₀ (F := F)) 𝒱₀ (thr d L) none) Set.univ (trip (F := F) L src dst gs ws op hop od hod)
          fun _ => Loop d L src dst gs ws q fs fp x p O W (t + 1) := by
  have hN : ∀ h : S262144x128.Gathers 0 S128x128, ∑ j, (bfV.slice (S128x128.rowRect h.axis' j) (S128x128.stride_rowRect h.axis' j)).view.dmaCredit
      = bfV.view.dmaCredit := by decide
  -- the words of the permutation's row are rows of the table
  have hrow : ∀ a : Fin 128, ((pmV.slice (Rect.unit (s := S64x128) op S1x128.size hop) (fun _ => rfl)).squeeze S128 squeezes_S1x128_S128).view.read (Elt F) fp (ix1 a)
      = p (ix3 ⟨wid L, hw⟩ ⟨t, ht⟩ a) := fun a =>
    (read_row pmV.view ht eop hop (Shape.Squeezes.numel_eq squeezes_S1x128_S128) fp a).trans (hfp _ _)
  have hin : ∀ y, (((pmV.slice (Rect.unit (s := S64x128) op S1x128.size hop) (fun _ => rfl)).squeeze S128 squeezes_S1x128_S128).view.read (Elt F) fp y).toNat
      < S262144x128.size gathers_S262144x128_S128x128.axis := fun y => by
    obtain ⟨a, rfl⟩ : ∃ a : Fin 128, y = ix1 a := ⟨y 0, eq_ix1 y⟩
    exact (congrArg BitVec.toNat (hrow a)).trans_lt (hp _)
  unfold Loop trip
  iintro ⟨#Hmw, Hs, ⟨%f, %hf, Hd⟩, Hp, ⟨%g, Hb⟩, Hg, Hw, %W', %hW', HO⟩
  iapply (SparseCore.wp_gatherFromWhole countersEmb 𝒱₀ (thr d L) none (hg := gathers_S262144x128_S128x128) (default : HIx 1)
      bfV.view.dmaCredit (hN _) (by decide) hin) $$ [Hs Hb Hp Hg]
  · isplitl [Hs]; · iexact Hs
    isplitl [Hb]; · iexact Hb
    isplitl [Hp]; · iexact Hp
    iexact Hg
  iintro Hfl
  sl_exec
  iapply (Transfers.wp_waitLocalO countersEmb 𝒱₀ (thr d L) none (default : HIx 1) (rfl : bfV.view.dmaCredit = _)) $$ [Hfl HO]
  · isplitl [Hfl]; · iexact Hfl
    isplitl [HO]; · iexact HO
    iapply (Transfers.MayWaits.elim (SemLoc.dma gs)) $$ Hmw
  iintro ⟨⟨Hb, Hs, Hp⟩, Hg, HO⟩
  sl_exec
  have hsub : (dst.slice (Rect.unit (s := S262144x128) od S128x128.size hod) (fun _ => rfl)).view.set ⊆ dst.view.setOn (blk (wid L)) :=
    set_rows_subset dst.view eod hod (blk (wid L)) fun j h1 h2 => mem_blk.mpr (by omega)
  iapply (Transfers.wp_dmaFromWhole countersEmb 𝒱₀ (thr d L) none (default : HIx 1) _ rfl
      (View.amount_pos _ _ (show 0 < S128x128.numel by decide)) hsub) $$ [Hb Hd Hw]
  · isplitl [Hb]; · iexact Hb
    isplitl [Hd]; · iexact Hd
    iexact Hw
  iintro Hfl
  sl_exec
  sl_step
  isplitr; · iexact Hmw
  isplitl [Hs]; · iexact Hs
  isplitl [Hfl_dst]
  · iexists _
    isplitr
    swap; · iexact Hfl_dst
    ipureintro
    refine upto_step d L src dst fs fp x p hfs hw hfp hp ht op hop eop od hod eod f hf _ fun a c => ?_
    rw [ReadAs.apply_same, View.read_write_univ]
    refine (payload_apply _ _ _ _ hin a c).trans ?_
    rw [← hfs]
    refine (read_rows (A := 262144) src.view (t := 0) (by decide) rfl _ fs _ c).trans ?_
    congr 2
    apply Fin.ext
    simp only [hrow, Nat.zero_add]
  isplitl [Hp]; · iexact Hp
  isplitl [Hfl_src]; · iexists _; iexact Hfl_src
  isplitl [Hg]; · iexact Hg
  isplitl [Hfl]; · iexact Hfl
  iexists _
  isplitr
  swap; · iexact HO
  ipureintro
  intro p hp
  rcases Finset.mem_insert.mp hp with hp | hp; · exact .inr (hp ▸ rfl)
  rcases Finset.mem_insert.mp hp with hp | hp; · exact .inr (hp ▸ rfl)
  exact hW' p hp

end Tile

end Cert.Proof.ScI

end
-- ==== Proof.ScTask.lean ====
/-
  One task of the row sort: from its shares of the arguments and its blocks of the results to the blocks sorted and the
  sampled rows picked.
-/
module

public import proofs.«01_k».proof.Proof.ScBase

@[expose] public section

noncomputable section

namespace Cert.Proof.ScI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf)
open Cert.Proof.Spec Cert.Proof.Pieces

variable {F : FTy → Type}

local notation "𝕄" => MT nD τ sig (HIx 1) (Elt F) ℕ UU ℕ

/-! ## What the tasks hold -/

/-- The arguments of the call, on each device: the three tables, the two permutations, the samples. -/
structure Ins (F : FTy → Type) where
  q : Dev nD → Tb.Idx → Elt F .f32
  k : Dev nD → Tb.Idx → Elt F .f32
  v : Dev nD → Tb.Idx → Elt F .f32
  pq : Dev nD → Pm.Idx → BitVec 32
  pk : Dev nD → Pm.Idx → BitVec 32
  s : Dev nD → Sm.Idx → BitVec 32

/-- Every word of the permutations is a row of the tables, every sample a row of a block. -/
structure Ins.OK (I : Ins F) : Prop where
  pq : ∀ d j, (I.pq d j).toNat < 262144
  pk : ∀ d j, (I.pk d j).toNat < 262144
  s : ∀ d j, (I.s d j).toNat < 8192

/-- The arguments at the share `q`. -/
def inR (I : Ins F) (d : Dev nD) (q : PosShare TreeShare) : sProp 𝕄 :=
  iprop((qL d ↦{q} I.q d) ∗ (kL d ↦{q} I.k d) ∗ (vL d ↦{q} I.v d) ∗ (pqL d ↦{q} I.pq d) ∗ (pkL d ↦{q} I.pk d) ∗ (smL d ↦{q} I.s d))

/-- Block `w` of each result, at some contents. -/
def outAny (F : FTy → Type) (d : Dev nD) (w : ℕ) : sProp 𝕄 :=
  iprop((∃ f, oqL d ↦[blk w]{fullShare} f) ∗ (∃ f, okL d ↦[blk w]{fullShare} f) ∗ (∃ f, ovL d ↦[blk w]{fullShare} f)
    ∗ (∃ f, jkL d ↦[sblk w]{fullShare} f) ∗ (∃ f, jvL d ↦[sblk w]{fullShare} f))

/-- Block `w` of each result, as the call leaves it. -/
def outR (I : Ins F) (d : Dev nD) (w : ℕ) : sProp 𝕄 :=
  iprop((oqL d ↦[blk w]{fullShare} sorted (I.q d) (I.pq d)) ∗ (okL d ↦[blk w]{fullShare} sorted (I.k d) (I.pk d))
    ∗ (ovL d ↦[blk w]{fullShare} sorted (I.v d) (I.pk d))
    ∗ (jkL d ↦[sblk w]{fullShare} picked (sorted (I.k d) (I.pk d)) (I.s d))
    ∗ (jvL d ↦[sblk w]{fullShare} picked (sorted (I.v d) (I.pk d)) (I.s d)))

/-- Block `w`'s share of the arguments. -/
abbrev shr (w : Fin 32) : PosShare TreeShare := leaf 5 fullShare w

section Tile

variable (d : Dev nD) (L : grid0.Coords)

/-- The task's semaphores but those of `s`. -/
def semRest (s : Finset (DmaSem sig)) : sProp 𝕄 :=
  bigSep ((ownCells (thr d L)).filter fun g => ∀ x ∈ s, g ≠ (thr d L, SemLoc.dma x)) fun g => semVal g 0

theorem semRest_take (s : Finset (DmaSem sig)) (x : DmaSem sig) (hx : x ∉ s) (hsc : (SemLoc.dma x : SemLoc sig).isScoped .scVector = true) :
    (semRest (F := F) d L s) = iprop(semVal (thr d L, SemLoc.dma x) 0 ∗ semRest d L (insert x s)) := by
  unfold semRest
  rw [SparseCore.bigSep_erase' (i := ((thr d L, SemLoc.dma x) : GSem nD τ sig)) (Finset.mem_filter.mpr ⟨mem_ownCells.mpr ⟨rfl, hsc⟩, fun y hy e => hx (by
    have := congrArg Prod.snd e
    simp only [SemLoc.dma.injEq] at this
    subst this
    exact hy)⟩)]
  · congr 2
    ext g
    simp only [Finset.mem_erase, Finset.mem_filter, Finset.mem_insert, forall_eq_or_imp, ne_eq]
    tauto

/-- The task's semaphores: the nine the kernel uses, and the rest. -/
theorem ownSems0_V :
    (ownSems0 (thr d L) : sProp 𝕄)
      = iprop(semVal (thr d L, SemLoc.dma cc0_scratch3.sem) 0 ∗ semVal (thr d L, SemLoc.dma cc0_scoped0.sem) 0
          ∗ semVal (thr d L, SemLoc.dma cc0_scoped1.sem) 0 ∗ semVal (thr d L, SemLoc.dma cc0_scoped2.sem) 0
          ∗ semVal (thr d L, SemLoc.dma cc0_scoped3.sem) 0 ∗ semVal (thr d L, SemLoc.dma cc0_scoped4.sem) 0
          ∗ semVal (thr d L, SemLoc.dma cc0_scoped5.sem) 0 ∗ semVal (thr d L, SemLoc.dma cc0_scoped6.sem) 0
          ∗ semVal (thr d L, SemLoc.dma cc0_scoped7.sem) 0
          ∗ semRest d L {cc0_scoped7.sem, cc0_scoped6.sem, cc0_scoped5.sem, cc0_scoped4.sem, cc0_scoped3.sem, cc0_scoped2.sem, cc0_scoped1.sem, cc0_scoped0.sem, cc0_scratch3.sem}) := by
  have h0 : (ownSems0 (thr d L) : sProp 𝕄) = semRest d L ∅ := by
    unfold SparseCore.Cfg.ownSems0 semRest; congr 1; simp
  rw [h0, semRest_take d L ∅ cc0_scratch3.sem (by decide) (by decide),
    semRest_take d L _ cc0_scoped0.sem (by decide) (by decide), semRest_take d L _ cc0_scoped1.sem (by decide) (by decide),
    semRest_take d L _ cc0_scoped2.sem (by decide) (by decide), semRest_take d L _ cc0_scoped3.sem (by decide) (by decide),
    semRest_take d L _ cc0_scoped4.sem (by decide) (by decide), semRest_take d L _ cc0_scoped5.sem (by decide) (by decide),
    semRest_take d L _ cc0_scoped6.sem (by decide) (by decide), semRest_take d L _ cc0_scoped7.sem (by decide) (by decide)]
  rfl

/-- The task's own buffers but its three scratch buffers. -/
def bufRest (F : FTy → Type) : sProp 𝕄 :=
  bigSep ((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2))
    fun b => iprop(∃ f, ((d, b) : Loc nD τ sig) ↦{fullShare} f)

/-- The task's own buffers: its three scratch buffers, and the rest. -/
theorem ownBufs_V :
    (ownBufs (thr d L) : sProp 𝕄)
      = iprop((∃ f, pmV.view.loc (thr d L) ↦{fullShare} f) ∗ (∃ f, bfV.view.loc (thr d L) ↦{fullShare} f)
          ∗ (∃ f, liV.view.loc (thr d L) ↦{fullShare} f) ∗ bufRest d L F) := by
  unfold SparseCore.Cfg.ownBufs bufRest
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

/-- A block of a table sorted up to its end is the sorted table's. -/
theorem upto_done (dst : Memref sig .scVector .hbm S262144x128 .f32) (x : Tb.Idx → Elt F .f32) (p : Pm.Idx → BitVec 32)
    {n : ℕ} (hn : 8192 ≤ n) (f : Buf (Elt F) (dst.view.loc (thr d L))) (hf : Upto d L dst x p (wid L) n f) (j : Tb.Idx)
    (hj : j ∈ blk (wid L)) : dst.view.read (Elt F) f j = sorted x p j := by
  have h := mem_blk.mp hj
  exact hf j h (by omega)

abbrev wF (L : grid0.Coords) : Fin 32 := ⟨wid L, wid_lt L⟩

/-- A block of the permutations fetched into the task's memory: its words there, read at row `a` and column `b`. -/
theorem perm_loaded (src : Memref sig .scVector .hbm S32x64x128 .i32) (fs : Buf (Elt F) (src.view.loc (thr d L)))
    (p : Pm.Idx → BitVec 32) (hp : src.view.read (Elt F) fs = p) (fp : Buf (Elt F) (pmV.view.loc (thr d L)))
    (pay : S64x128.Idx → Elt F .i32)
    (hpay : pay = ((src.slice (Rect.unit (s := S32x64x128) (k0_off1 L) S1x64x128.size (k0_off1_inb L)) (fun _ => rfl)).squeeze S64x128 squeezes_S1x64x128_S64x128).view.read (Elt F) fs) :
    (pmV.view.loc (thr d L) ↦{fullShare} View.write (Elt F) pmV.view fp pay Finset.univ : sProp 𝕄)
      ⊢ iprop(∃ g, ⌜∀ a b, pmV.view.read (Elt F) g (ix2 a b) = p (ix3 ⟨wid L, wid_lt L⟩ a b)⌝ ∗ pmV.view.loc (thr d L) ↦{fullShare} g) := by
  iintro H
  iexists _
  isplitr; swap; · iexact H
  ipureintro
  intro a b
  rw [View.read_write_univ, hpay, ← hp]
  exact read_block src.view (wid_lt L) (k0_off1_eq L) (k0_off1_inb L) (Shape.Squeezes.numel_eq squeezes_S1x64x128_S64x128) fs a b

/-- A whole array's elements under a set of its indices are the set. -/
theorem setOn_whole (b : Ref sig .scVector) (M : Finset b.ty.shape.Idx) : (View.whole b).setOn M = M := Finset.map_refl

theorem set_univ_whole (b : Ref sig .scVector) : (View.whole b).set = Finset.univ := Finset.map_refl

/-- The head of a sorting loop, from the task's resources. -/
theorem loop_start (src dst : Memref sig .scVector .hbm S262144x128 .f32) (gs ws : DmaSem sig)
    (q : PosShare TreeShare) (fs : Buf (Elt F) (src.view.loc (thr d L))) (fp : Buf (Elt F) (pmV.view.loc (thr d L)))
    (x : Tb.Idx → Elt F .f32) (p : Pm.Idx → BitVec 32) (O : CellTallies nD τ sig (HIx 1)) (W W' : Waits sig (HIx 1))
    (hW' : ∀ p ∈ W', p ∈ W ∨ p.2 = none) (f : Buf (Elt F) (dst.view.loc (thr d L))) (g : Buf (Elt F) (bfV.view.loc (thr d L))) :
    iprop(Transfers.MayWaits (thr d L) (none : HIx 1) O ∗ (src.view.loc (thr d L) ↦{q} fs)
      ∗ (dst.view.loc (thr d L) ↦[dst.view.setOn (blk (wid L))]{fullShare} f)
      ∗ (pmV.view.loc (thr d L) ↦{fullShare} fp) ∗ (bfV.view.loc (thr d L) ↦{fullShare} g)
      ∗ semVal (thr d L, SemLoc.dma gs) 0 ∗ semVal (thr d L, SemLoc.dma ws) 0 ∗ owes (thr d L) O W')
    ⊢ Loop d L src dst gs ws q fs fp x p O W 0 := by
  unfold Loop
  iintro ⟨#Hmw, Hs, Hd, Hp, Hb, Hg, Hw, HO⟩
  isplitr; · iexact Hmw
  isplitl [Hs]; · iexact Hs
  isplitl [Hd]
  · iexists f
    isplitr; swap; · iexact Hd
    ipureintro
    intro j h1 h2
    omega
  isplitl [Hp]; · iexact Hp
  isplitl [Hb]; · iexists g; iexact Hb
  isplitl [Hg]; · iexact Hg
  isplitl [Hw]; · iexact Hw
  iexists W'
  isplitr; swap; · iexact HO
  ipureintro; exact hW'

/-- The end of a sorting loop: the task's resources back, the block sorted. -/
theorem loop_end (src dst : Memref sig .scVector .hbm S262144x128 .f32) (gs ws : DmaSem sig)
    (q : PosShare TreeShare) (fs : Buf (Elt F) (src.view.loc (thr d L))) (fp : Buf (Elt F) (pmV.view.loc (thr d L)))
    (x : Tb.Idx → Elt F .f32) (p : Pm.Idx → BitVec 32) (O : CellTallies nD τ sig (HIx 1)) (W : Waits sig (HIx 1)) {t : ℕ} (ht : t = 64) :
    Loop d L src dst gs ws q fs fp x p O W t
    ⊢ iprop((src.view.loc (thr d L) ↦{q} fs)
      ∗ (∃ f, ⌜∀ j ∈ blk (wid L), dst.view.read (Elt F) f j = sorted x p j⌝ ∗ dst.view.loc (thr d L) ↦[dst.view.setOn (blk (wid L))]{fullShare} f)
      ∗ (pmV.view.loc (thr d L) ↦{fullShare} fp) ∗ (∃ g, bfV.view.loc (thr d L) ↦{fullShare} g)
      ∗ semVal (thr d L, SemLoc.dma gs) 0 ∗ semVal (thr d L, SemLoc.dma ws) 0
      ∗ ∃ W', ⌜∀ p ∈ W', p ∈ W ∨ p.2 = none⌝ ∗ owes (thr d L) O W') := by
  subst ht
  unfold Loop
  iintro ⟨-, Hs, ⟨%f, %hf, Hd⟩, Hp, Hb, Hg, Hw, HO⟩
  iframe Hs Hp Hb Hg Hw HO
  iexists f
  isplitr; swap; · iexact Hd
  ipureintro
  exact fun j hj => upto_done d L dst x p (by omega) f hf j hj

/-- The samples of the task's block fetched into its memory. -/
theorem samples_loaded (fs : Buf (Elt F) (smV.view.loc (thr d L))) (fl : Buf (Elt F) (liV.view.loc (thr d L)))
    (pay : S128.Idx → Elt F .i32)
    (hpay : pay = ((smV.slice (Rect.unit (s := S32x128) (k0_off8 L) S1x128.size (k0_off8_inb L)) (fun _ => rfl)).squeeze S128 squeezes_S1x128_S128).view.read (Elt F) fs) :
    (liV.view.loc (thr d L) ↦{fullShare} View.write (Elt F) liV.view fl pay Finset.univ : sProp 𝕄)
      ⊢ iprop(∃ g, ⌜∀ a, liV.view.read (Elt F) g (ix1 a) = smV.view.read (Elt F) fs (ix2 ⟨wid L, wid_lt L⟩ a)⌝ ∗ liV.view.loc (thr d L) ↦{fullShare} g) := by
  iintro H
  iexists _
  isplitr; swap; · iexact H
  ipureintro
  intro a
  rw [View.read_write_univ, hpay]
  exact read_row smV.view (wid_lt L) (k0_off8_eq L) (k0_off8_inb L) (Shape.Squeezes.numel_eq squeezes_S1x128_S128) fs a

/-- The elements under the rows of the task's block. -/
theorem set_block (src : Memref sig .scVector .hbm S262144x128 .f32) :
    ((src.slice (Rect.unit (s := S262144x128) (k0_off9 L) S8192x128.size (k0_off9_inb L)) (fun _ => rfl)).slice
      (Rect.unit (s := S8192x128) ![0, 0] S8192x128.size inb_S8192x128_S8192x128_0_0) (fun _ => rfl)).view.set
      = src.view.setOn (blk (wid L)) := by
  have h2 : (Rect.unit (s := S8192x128) ![0, 0] S8192x128.size inb_S8192x128_S8192x128_0_0).set = Finset.univ := by
    refine Finset.eq_univ_of_forall fun j => ?_
    rw [← Rect.map_emb_univ]
    refine (mem_rows (R := 8192) (A := 8192) (t := 0) rfl inb_S8192x128_S8192x128_0_0 j).mpr ⟨Nat.zero_le _, ?_⟩
    have : (j 0).val < 8192 := (j 0).isLt
    omega
  have h1 : (Rect.unit (s := S262144x128) (k0_off9 L) S8192x128.size (k0_off9_inb L)).set = blk (wid L) := by
    ext j
    rw [← Rect.map_emb_univ, mem_blk]
    refine (mem_rows (R := 262144) (A := 8192) (t := 8192 * wid L) ((k0_off9_eq L).trans (by unfold wid; congr 1; omega)) (k0_off9_inb L) j).trans ?_
    constructor <;> intro h <;> omega
  refine (View.set_slice _ _).trans ?_
  rw [h2]
  refine (View.set_slice src.view _).trans ?_
  rw [h1]
  rfl

/-- The block's rows, read at a row of the block: the table's there. -/
theorem read_blockRows (src : Memref sig .scVector .hbm S262144x128 .f32) (fs : Buf (Elt F) (src.view.loc (thr d L))) (a : Fin 8192) (c : Fin 128) :
    ((src.slice (Rect.unit (s := S262144x128) (k0_off9 L) S8192x128.size (k0_off9_inb L)) (fun _ => rfl)).slice
      (Rect.unit (s := S8192x128) ![0, 0] S8192x128.size inb_S8192x128_S8192x128_0_0) (fun _ => rfl)).view.read (Elt F) fs (ix2 a c)
      = src.view.read (Elt F) fs (cell (8192 * wid L + a.val) c) := by
  have hw := wid_lt L
  refine (read_rows (R := 8192) (A := 8192)
    (src.slice (Rect.unit (s := S262144x128) (k0_off9 L) S8192x128.size (k0_off9_inb L)) (fun _ => rfl)).view (t := 0) (by decide) rfl inb_S8192x128_S8192x128_0_0 fs a c).trans ?_
  refine (read_rows (R := 262144) (A := 8192) src.view (t := 8192 * wid L) (by omega) ((k0_off9_eq L).trans (by unfold wid; congr 1; omega)) (k0_off9_inb L) fs _ c).trans ?_
  unfold cell
  congr 2
  apply Fin.ext
  simp only
  omega

/-- A block of the sampled rows written: it is the sampled rows'. -/
theorem picked_done (dst : Memref sig .scVector .hbm S4096x128 .f32) (y : Tb.Idx → Elt F .f32) (s : Sm.Idx → BitVec 32)
    (f : Buf (Elt F) (dst.view.loc (thr d L))) (pay : (Ch : Shape).Idx → Elt F .f32)
    (hpay : ∀ a c : Fin 128, pay (ix2 a c) = y (cell (8192 * wid L + (s (ix2 ⟨wid L, wid_lt L⟩ a)).toNat) c)) (j : Sb.Idx) (hj : j ∈ sblk (wid L)) :
    dst.view.read (Elt F) ((dst.slice (Rect.unit (s := S4096x128) (k0_off10 L) S128x128.size (k0_off10_inb L)) (fun _ => rfl)).view.write (Elt F) f pay Finset.univ) j
      = picked y s j := by
  have hw := wid_lt L
  have hj' := mem_sblk.mp hj
  refine (read_write_rows (R := 4096) (A := 128) dst.view (t := 128 * wid L) ((k0_off10_eq L).trans (by unfold wid; congr 1; omega)) (k0_off10_inb L) f pay j (by omega)).trans ?_
  refine (hpay ⟨(j 0).val - 128 * wid L, by omega⟩ (j 1)).trans ?_
  unfold picked
  have e1 : (ix2 ⟨wid L, wid_lt L⟩ ⟨(j 0).val - 128 * wid L, by omega⟩ : Sm.Idx)
      = ix2 ⟨(j 0).val / 128 % 32, Nat.mod_lt _ (by decide)⟩ ⟨(j 0).val % 128, Nat.mod_lt _ (by decide)⟩ := by
    congr 1 <;> apply Fin.ext <;> simp only <;> omega
  exact congrArg (fun n => y (cell n (j 1))) (congrArg₂ (· + ·) (by rw [hj']) (congrArg (fun z => (s z).toNat) e1))

theorem trips1 : k0_t1_loop.trips = 64 := by decide
theorem trips2 : k0_t2_loop.trips = 64 := by decide
theorem trips3 : k0_t3_loop.trips = 64 := by decide

theorem waits_insert {W W' : Waits sig (HIx 1)} {e : SemLoc sig × HIx 1} (hp : e.2 = none) (h : ∀ p ∈ W', p ∈ W ∨ p.2 = none) :
    ∀ p ∈ insert e W', p ∈ W ∨ p.2 = none := fun x hx => by
  rcases Finset.mem_insert.mp hx with rfl | hx
  · exact .inr hp
  · exact h x hx

set_option maxHeartbeats 1000000 in
theorem tile_body (I : Ins F) (hI : I.OK) (hF : (K (F := F)).Facts) (O : CellTallies nD τ sig (HIx 1)) (W : Waits sig (HIx 1)) (hO : ∀ g, O g none = 0) :
    iprop(levAts (K (F := F)).L (K (F := F)).lev ∗ emp
        ∗ (inR I d (shr (wF L)) ∗ outAny F d (wid L))
        ∗ scopedBufs (thr d L) ∗ scopedSems0 (thr d L) ∗ owes (thr d L) O W)
      ⊢ wp frame (wpE (defs₀ (F := F)) 𝒱₀ (thr d L) none) Set.univ
          (cc0_k2 L qV (Memref.isWhole_whole _) kV (Memref.isWhole_whole _) vV (Memref.isWhole_whole _)
            pqV (Memref.isWhole_whole _) pkV (Memref.isWhole_whole _) smV (Memref.isWhole_whole _)
            oqV (Memref.isWhole_whole _) okV (Memref.isWhole_whole _) ovV (Memref.isWhole_whole _)
            jkV (Memref.isWhole_whole _) jvV (Memref.isWhole_whole _) pmV (Memref.isWhole_whole _) bfV (Memref.isWhole_whole _)
            liV (Memref.isWhole_whole _) cc0_scratch3 cc0_scoped0 cc0_scoped1 cc0_scoped2 cc0_scoped3 cc0_scoped4 cc0_scoped5 cc0_scoped6 cc0_scoped7)
          fun _ => iprop((inR I d (shr (wF L)) ∗ outR I d (wid L))
            ∗ scopedBufs (thr d L) ∗ scopedSems0 (thr d L)
            ∗ ∃ W', ⌜∀ p ∈ W', p ∈ W ∨ p.2 = none⌝ ∗ owes (thr d L) O W') := by
  simp only [cc0_k2_eq_skeleton]; unfold cc0_k2_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  unfold inR outAny
  iintro ⟨#Hlv, -, ⟨⟨Hq, Hk, Hv, Hpq, Hpk, Hsm⟩, ⟨%foq, Hoq⟩, ⟨%fok, Hok⟩, ⟨%fov, Hov⟩, ⟨%fjk, Hjk⟩, ⟨%fjv, Hjv⟩⟩, ⟨⟨%fpm, Hpm⟩, ⟨%fbf, Hbf⟩, ⟨%fli, Hli⟩, Hbufs⟩,
    ⟨Hg, H0, H1, H2, H3, H4, H5, H6, H7, Hsems⟩, HO⟩
  ihave #Hmw := (show levAts (K (F := F)).L (K (F := F)).lev ⊢ Transfers.MayWaits (thr d L) (default : HIx 1) O from
    (K (F := F)).mayWaits_none (thr := thr d L) hO) $$ Hlv
  ihave Hpq := (Entails.of_eq (show (pqL d ↦{shr (wF L)} I.pq d : sProp 𝕄) = pqV.view.loc (thr d L) ↦{shr (wF L)} I.pq d from rfl)) $$ Hpq
  ihave Hoq := (Entails.of_eq (show (oqL d ↦[blk (wid L)]{fullShare} foq : sProp 𝕄) = oqV.view.loc (thr d L) ↦[oqV.view.setOn (blk (wid L))]{fullShare} foq by
    rw [show oqV.view.setOn (blk (wid L)) = blk (wid L) from setOn_whole _ _])) $$ Hoq
  ihave Hok := (Entails.of_eq (show (okL d ↦[blk (wid L)]{fullShare} fok : sProp 𝕄) = okV.view.loc (thr d L) ↦[okV.view.setOn (blk (wid L))]{fullShare} fok by
    rw [show okV.view.setOn (blk (wid L)) = blk (wid L) from setOn_whole _ _])) $$ Hok
  ihave Hov := (Entails.of_eq (show (ovL d ↦[blk (wid L)]{fullShare} fov : sProp 𝕄) = ovV.view.loc (thr d L) ↦[ovV.view.setOn (blk (wid L))]{fullShare} fov by
    rw [show ovV.view.setOn (blk (wid L)) = blk (wid L) from setOn_whole _ _])) $$ Hov
  ihave Hpk := (Entails.of_eq (show (pkL d ↦{shr (wF L)} I.pk d : sProp 𝕄) = pkV.view.loc (thr d L) ↦{shr (wF L)} I.pk d from rfl)) $$ Hpk
  ihave Hsm := (Entails.of_eq (show (smL d ↦{shr (wF L)} I.s d : sProp 𝕄) = smV.view.loc (thr d L) ↦{shr (wF L)} I.s d from rfl)) $$ Hsm
  ihave Hq := (Entails.of_eq (show (qL d ↦{shr (wF L)} I.q d : sProp 𝕄) = qV.view.loc (thr d L) ↦{shr (wF L)} I.q d from rfl)) $$ Hq
  ihave Hk := (Entails.of_eq (show (kL d ↦{shr (wF L)} I.k d : sProp 𝕄) = kV.view.loc (thr d L) ↦{shr (wF L)} I.k d from rfl)) $$ Hk
  ihave Hv := (Entails.of_eq (show (vL d ↦{shr (wF L)} I.v d : sProp 𝕄) = vV.view.loc (thr d L) ↦{shr (wF L)} I.v d from rfl)) $$ Hv
  -- the queries' permutation fetched, the queries sorted
  sl_exec
  ihave Hpm := (perm_loaded d L pqV (I.pq d) (I.pq d) rfl fpm (tile_body.sl.dma0 d L I) rfl) $$ Hpm
  icases Hpm with ⟨%fp1, %hfp1, Hpm⟩
  rw [Prog.bind_assoc]
  sl_for (fun (t : Nat) (_ : BitVec 32) => Loop d L qV oqV cc0_scratch3.sem cc0_scoped1.sem (shr (wF L)) (I.q d) fp1 (I.q d) (I.pq d) O W t) $$ [Hq Hoq Hpm Hbf Hg H1 HO]
  case region =>
    intro k _
    have hk : k.val < 64 := Nat.lt_of_lt_of_le k.isLt trips1.le
    exact wp_trip d L qV oqV cc0_scratch3.sem cc0_scoped1.sem (shr (wF L)) (I.q d) fp1 (I.q d) (I.pq d) rfl (wid_lt L) hfp1 (hI.pq d) O W hk
      (k0_off2 k) (k0_off2_inb k) (k0_off2_eq k) (k0_off3 L k) (k0_off3_inb L k)
      ((k0_off3_eq L k).trans (by unfold wid; congr 1; omega))
  · iapply (loop_start d L qV oqV cc0_scratch3.sem cc0_scoped1.sem (shr (wF L)) (I.q d) fp1 (I.q d) (I.pq d) O W (insert (SemLoc.dma cc0_scoped0.sem, none) W) (waits_insert rfl fun p hp => .inl hp) foq fbf)
    isplitr; · iexact Hmw
    iframe Hq Hoq Hpm Hbf Hg H1 HO
  iintro %_ HI
  ihave HI := (loop_end d L qV oqV cc0_scratch3.sem cc0_scoped1.sem (shr (wF L)) (I.q d) fp1 (I.q d) (I.pq d) O W trips1) $$ HI
  icases HI with ⟨Hq, ⟨%gq, %hgq, Hoq⟩, Hpm, ⟨%fbf1, Hbf⟩, Hg, H1, %W1, %hW1, HO⟩
  -- the keys' permutation fetched, the keys sorted
  sl_exec
  ihave Hpm := (perm_loaded d L pkV (I.pk d) (I.pk d) rfl fp1 (tile_body.sl.dma0_1 d L I) rfl) $$ Hpm
  icases Hpm with ⟨%fp2, %hfp2, Hpm⟩
  rw [Prog.bind_assoc]
  sl_for (fun (t : Nat) (_ : BitVec 32) => Loop d L kV okV cc0_scratch3.sem cc0_scoped3.sem (shr (wF L)) (I.k d) fp2 (I.k d) (I.pk d) O W t) $$ [Hk Hok Hpm Hbf Hg H3 HO]
  case region =>
    intro k _
    have hk : k.val < 64 := Nat.lt_of_lt_of_le k.isLt trips2.le
    exact wp_trip d L kV okV cc0_scratch3.sem cc0_scoped3.sem (shr (wF L)) (I.k d) fp2 (I.k d) (I.pk d) rfl (wid_lt L) hfp2 (hI.pk d) O W hk
      (k0_off4 k) (k0_off4_inb k) (k0_off4_eq k) (k0_off5 L k) (k0_off5_inb L k)
      ((k0_off5_eq L k).trans (by unfold wid; congr 1; omega))
  · iapply (loop_start d L kV okV cc0_scratch3.sem cc0_scoped3.sem (shr (wF L)) (I.k d) fp2 (I.k d) (I.pk d) O W (insert (SemLoc.dma cc0_scoped2.sem, none) W1) (waits_insert rfl hW1) fok fbf1)
    isplitr; · iexact Hmw
    iframe Hk Hok Hpm Hbf Hg H3 HO
  iintro %_ HI
  ihave HI := (loop_end d L kV okV cc0_scratch3.sem cc0_scoped3.sem (shr (wF L)) (I.k d) fp2 (I.k d) (I.pk d) O W trips2) $$ HI
  icases HI with ⟨Hk, ⟨%gk, %hgk, Hok⟩, Hpm, ⟨%fbf2, Hbf⟩, Hg, H3, %W2, %hW2, HO⟩
  -- the values sorted, by the keys' permutation
  unfold tile_body.sl.prog.cont_2
  rw [pure_bind, Prog.bind_assoc]
  sl_for (fun (t : Nat) (_ : BitVec 32) => Loop d L vV ovV cc0_scratch3.sem cc0_scoped4.sem (shr (wF L)) (I.v d) fp2 (I.v d) (I.pk d) O W t) $$ [Hv Hov Hpm Hbf Hg H4 HO]
  case region =>
    intro k _
    have hk : k.val < 64 := Nat.lt_of_lt_of_le k.isLt trips3.le
    exact wp_trip d L vV ovV cc0_scratch3.sem cc0_scoped4.sem (shr (wF L)) (I.v d) fp2 (I.v d) (I.pk d) rfl (wid_lt L) hfp2 (hI.pk d) O W hk
      (k0_off6 k) (k0_off6_inb k) (k0_off6_eq k) (k0_off7 L k) (k0_off7_inb L k)
      ((k0_off7_eq L k).trans (by unfold wid; congr 1; omega))
  · iapply (loop_start d L vV ovV cc0_scratch3.sem cc0_scoped4.sem (shr (wF L)) (I.v d) fp2 (I.v d) (I.pk d) O W W2 hW2 fov fbf2)
    isplitr; · iexact Hmw
    iframe Hv Hov Hpm Hbf Hg H4 HO
  iintro %_ HI
  ihave HI := (loop_end d L vV ovV cc0_scratch3.sem cc0_scoped4.sem (shr (wF L)) (I.v d) fp2 (I.v d) (I.pk d) O W trips3) $$ HI
  icases HI with ⟨Hv, ⟨%gv, %hgv, Hov⟩, Hpm, ⟨%fbf3, Hbf⟩, Hg, H4, %W3, %hW3, HO⟩
  -- the samples of the block fetched; the tables' blocks as they are sorted
  sl_exec
  ihave Hli := (samples_loaded d L (I.s d) fli (tile_body.sl.dma0_2 d L I) rfl) $$ Hli
  icases Hli with ⟨%fli1, %hfli, Hli⟩
  ihave Hok := (Entails.of_eq (show (okV.view.loc (thr d L) ↦[okV.view.setOn (blk (wid L))]{fullShare} gk : sProp 𝕄) = okV.view.loc (thr d L) ↦[okV.view.setOn (blk (wid L))]{fullShare} sorted (I.k d) (I.pk d) from
    pointsTo_congr (fun j hj => hgk j (by rwa [show okV.view.setOn (blk (wid L)) = blk (wid L) from setOn_whole _ _] at hj)))) $$ Hok
  ihave Hov := (Entails.of_eq (show (ovV.view.loc (thr d L) ↦[ovV.view.setOn (blk (wid L))]{fullShare} gv : sProp 𝕄) = ovV.view.loc (thr d L) ↦[ovV.view.setOn (blk (wid L))]{fullShare} sorted (I.v d) (I.pk d) from
    pointsTo_congr (fun j hj => hgv j (by rwa [show ovV.view.setOn (blk (wid L)) = blk (wid L) from setOn_whole _ _] at hj)))) $$ Hov
  have hN : ∀ h : S8192x128.Gathers 0 S128x128, ∑ j, (bfV.slice (S128x128.rowRect h.axis' j) (S128x128.stride_rowRect h.axis' j)).view.dmaCredit
      = bfV.view.dmaCredit := by decide
  have hrow : ∀ a : Fin 128, liV.view.read (Elt F) fli1 (ix1 a) = I.s d (ix2 ⟨wid L, wid_lt L⟩ a) := hfli
  have hin : ∀ y, (liV.view.read (Elt F) fli1 y).toNat < S8192x128.size gathers_S8192x128_S128x128.axis := fun y => by
    obtain ⟨a, rfl⟩ : ∃ a : Fin 128, y = ix1 a := ⟨y 0, eq_ix1 y⟩
    exact (congrArg BitVec.toNat (hrow a)).trans_lt (hI.s d _)
  have hsub : ∀ dst : Memref sig .scVector .hbm S4096x128 .f32,
      (dst.slice (Rect.unit (s := S4096x128) (k0_off10 L) S128x128.size (k0_off10_inb L)) (fun _ => rfl)).view.set ⊆ dst.view.setOn (sblk (wid L)) := fun dst =>
    set_rows_subset dst.view (t := 128 * wid L) ((k0_off10_eq L).trans (by unfold wid; congr 1; omega)) (k0_off10_inb L) (sblk (wid L)) fun j h1 h2 => mem_sblk.mpr (by
      have h1 : 128 * wid L ≤ _ := h1
      have h2 : _ < 128 * wid L + 128 := h2
      omega)
  ihave Hjk := (Entails.of_eq (show (jkL d ↦[sblk (wid L)]{fullShare} fjk : sProp 𝕄) = jkV.view.loc (thr d L) ↦[jkV.view.setOn (sblk (wid L))]{fullShare} fjk by
    rw [show jkV.view.setOn (sblk (wid L)) = sblk (wid L) from setOn_whole _ _])) $$ Hjk
  ihave Hjv := (Entails.of_eq (show (jvL d ↦[sblk (wid L)]{fullShare} fjv : sProp 𝕄) = jvV.view.loc (thr d L) ↦[jvV.view.setOn (sblk (wid L))]{fullShare} fjv by
    rw [show jvV.view.setOn (sblk (wid L)) = sblk (wid L) from setOn_whole _ _])) $$ Hjv
  -- the sampled keys, then the sampled values
  iapply (SparseCore.wp_indirectGatherLocal countersEmb 𝒱₀ (thr d L) none (hg := gathers_S8192x128_S128x128) (default : HIx 1)
      bfV.view.dmaCredit (hN _) (by decide) hin) $$ [Hok Hbf Hli Hg]
  · isplitl [Hok]
    · iapply (Entails.of_eq (congrArg (fun M => (okV.view.loc (thr d L) ↦[M]{fullShare} (sorted (I.k d) (I.pk d)) : sProp 𝕄)) (set_block L okV).symm)) $$ Hok
    isplitl [Hbf]; · iapply (Entails.of_eq (congrArg (fun M => (bfV.view.loc (thr d L) ↦[M]{fullShare} _ : sProp 𝕄)) (set_univ_whole cc0_scratch1).symm)) $$ Hbf
    isplitl [Hli]; · iapply (Entails.of_eq (congrArg (fun M => (liV.view.loc (thr d L) ↦[M]{fullShare} _ : sProp 𝕄)) (set_univ_whole cc0_scratch2).symm)) $$ Hli
    iexact Hg
  iintro Hfl
  sl_exec
  iapply (Transfers.wp_waitLocalO countersEmb 𝒱₀ (thr d L) none (default : HIx 1) (rfl : bfV.view.dmaCredit = _)) $$ [Hfl HO]
  · isplitl [Hfl]; · iexact Hfl
    isplitl [HO]; · iexact HO
    iapply (Transfers.MayWaits.elim (SemLoc.dma cc0_scratch3.sem)) $$ Hmw
  iintro ⟨⟨Hbf, Hok, Hli⟩, Hg, HO⟩
  ihave Hok := (Entails.of_eq (congrArg (fun M => (okV.view.loc (thr d L) ↦[M]{fullShare} (sorted (I.k d) (I.pk d)) : sProp 𝕄)) (set_block L okV))) $$ Hok
  ihave Hbf := (Entails.of_eq (congrArg (fun M => (bfV.view.loc (thr d L) ↦[M]{fullShare} _ : sProp 𝕄)) (set_univ_whole cc0_scratch1))) $$ Hbf
  ihave Hli := (Entails.of_eq (congrArg (fun M => (liV.view.loc (thr d L) ↦[M]{fullShare} fli1 : sProp 𝕄)) (set_univ_whole cc0_scratch2))) $$ Hli
  sl_exec
  iapply (Transfers.wp_dmaFromWhole countersEmb 𝒱₀ (thr d L) none (default : HIx 1) _ rfl
      (View.amount_pos _ _ (show 0 < S128x128.numel by decide)) (hsub jkV)) $$ [Hbf Hjk H6]
  · isplitl [Hbf]; · iexact Hbf
    isplitl [Hjk]; · iexact Hjk
    iexact H6
  iintro Hfl
  sl_exec
  icases Hfl_src with Hbf
  icases Hfl_dst with Hjk
  icases Hfl with H6
  iapply (SparseCore.wp_indirectGatherLocal countersEmb 𝒱₀ (thr d L) none (hg := gathers_S8192x128_S128x128) (default : HIx 1)
      bfV.view.dmaCredit (hN _) (by decide) hin) $$ [Hov Hbf Hli Hg]
  · isplitl [Hov]
    · iapply (Entails.of_eq (congrArg (fun M => (ovV.view.loc (thr d L) ↦[M]{fullShare} (sorted (I.v d) (I.pk d)) : sProp 𝕄)) (set_block L ovV).symm)) $$ Hov
    isplitl [Hbf]; · iapply (Entails.of_eq (congrArg (fun M => (bfV.view.loc (thr d L) ↦[M]{fullShare} _ : sProp 𝕄)) (set_univ_whole cc0_scratch1).symm)) $$ Hbf
    isplitl [Hli]; · iapply (Entails.of_eq (congrArg (fun M => (liV.view.loc (thr d L) ↦[M]{fullShare} _ : sProp 𝕄)) (set_univ_whole cc0_scratch2).symm)) $$ Hli
    iexact Hg
  iintro Hfl
  sl_exec
  iapply (Transfers.wp_waitLocalO countersEmb 𝒱₀ (thr d L) none (default : HIx 1) (rfl : bfV.view.dmaCredit = _)) $$ [Hfl HO]
  · isplitl [Hfl]; · iexact Hfl
    isplitl [HO]; · iexact HO
    iapply (Transfers.MayWaits.elim (SemLoc.dma cc0_scratch3.sem)) $$ Hmw
  iintro ⟨⟨Hbf, Hov, Hli⟩, Hg, HO⟩
  ihave Hov := (Entails.of_eq (congrArg (fun M => (ovV.view.loc (thr d L) ↦[M]{fullShare} (sorted (I.v d) (I.pk d)) : sProp 𝕄)) (set_block L ovV))) $$ Hov
  ihave Hbf := (Entails.of_eq (congrArg (fun M => (bfV.view.loc (thr d L) ↦[M]{fullShare} _ : sProp 𝕄)) (set_univ_whole cc0_scratch1))) $$ Hbf
  ihave Hli := (Entails.of_eq (congrArg (fun M => (liV.view.loc (thr d L) ↦[M]{fullShare} fli1 : sProp 𝕄)) (set_univ_whole cc0_scratch2))) $$ Hli
  sl_exec
  iapply (Transfers.wp_dmaFromWhole countersEmb 𝒱₀ (thr d L) none (default : HIx 1) _ rfl
      (View.amount_pos _ _ (show 0 < S128x128.numel by decide)) (hsub jvV)) $$ [Hbf Hjv H7]
  · isplitl [Hbf]; · iexact Hbf
    isplitl [Hjv]; · iexact Hjv
    iexact H7
  iintro Hfl
  sl_exec
  icases Hfl_src with Hbf
  icases Hfl_dst with Hjv
  icases Hfl with H7
  -- what was gathered, as the sampled rows
  have hpay : ∀ (src : Memref sig .scVector .hbm S262144x128 .f32) (y : Tb.Idx → Elt F .f32) (fs : Buf (Elt F) (src.view.loc (thr d L))) (hfs : src.view.read (Elt F) fs = y)
      (g : Buf (Elt F) (bfV.view.loc (thr d L))) (a c : Fin 128),
      bfV.view.read (Elt F) (bfV.view.write (Elt F) g (SparseCore.gatherPayload gathers_S8192x128_S128x128
        (((src.slice (Rect.unit (s := S262144x128) (k0_off9 L) S8192x128.size (k0_off9_inb L)) (fun _ => rfl)).slice
          (Rect.unit (s := S8192x128) ![0, 0] S8192x128.size inb_S8192x128_S8192x128_0_0) (fun _ => rfl)).view.read (Elt F) fs)
        (SparseCore.rows (liV.view.read (Elt F) fli1) rfl hin)) Finset.univ) (ix2 a c)
        = y (cell (8192 * wid L + (I.s d (ix2 ⟨wid L, wid_lt L⟩ a)).toNat) c) := by
    intro src y fs hfs g a c
    rw [View.read_write_univ]
    refine (payload_apply _ _ _ _ hin a c).trans ?_
    refine (read_blockRows d L src fs _ c).trans ?_
    rw [hfs]
    exact congrArg (fun n => y (cell (8192 * wid L + n) c)) (congrArg BitVec.toNat (hrow a))
  sl_step
  ihave Hjk := (Entails.of_eq (show (jkV.view.loc (thr d L) ↦[jkV.view.setOn (sblk (wid L))]{fullShare}
      (jkV.slice (Rect.unit (s := S4096x128) (k0_off10 L) S128x128.size (k0_off10_inb L)) (fun _ => rfl)).view.write (Elt F) fjk (ReadAs.same.apply (bfV.view.read (Elt F) _)) Finset.univ : sProp 𝕄)
      = jkL d ↦[sblk (wid L)]{fullShare} picked (sorted (I.k d) (I.pk d)) (I.s d) by
    rw [show jkV.view.setOn (sblk (wid L)) = sblk (wid L) from setOn_whole _ _]
    exact pointsTo_congr fun j hj => picked_done d L jkV (sorted (I.k d) (I.pk d)) (I.s d) fjk _
      (fun a c => (congrFun (ReadAs.apply_same _) _).trans (hpay okV (sorted (I.k d) (I.pk d)) (sorted (I.k d) (I.pk d)) rfl _ a c)) j hj)) $$ Hjk
  ihave Hjv := (Entails.of_eq (show (jvV.view.loc (thr d L) ↦[jvV.view.setOn (sblk (wid L))]{fullShare}
      (jvV.slice (Rect.unit (s := S4096x128) (k0_off10 L) S128x128.size (k0_off10_inb L)) (fun _ => rfl)).view.write (Elt F) fjv (ReadAs.same.apply (bfV.view.read (Elt F) _)) Finset.univ : sProp 𝕄)
      = jvL d ↦[sblk (wid L)]{fullShare} picked (sorted (I.v d) (I.pk d)) (I.s d) by
    rw [show jvV.view.setOn (sblk (wid L)) = sblk (wid L) from setOn_whole _ _]
    exact pointsTo_congr fun j hj => picked_done d L jvV (sorted (I.v d) (I.pk d)) (I.s d) fjv _
      (fun a c => (congrFun (ReadAs.apply_same _) _).trans (hpay ovV (sorted (I.v d) (I.pk d)) (sorted (I.v d) (I.pk d)) rfl _ a c)) j hj)) $$ Hjv
  ihave Hok := (Entails.of_eq (show (okV.view.loc (thr d L) ↦[okV.view.setOn (blk (wid L))]{fullShare} sorted (I.k d) (I.pk d) : sProp 𝕄) = okL d ↦[blk (wid L)]{fullShare} sorted (I.k d) (I.pk d) by
    rw [show okV.view.setOn (blk (wid L)) = blk (wid L) from setOn_whole _ _])) $$ Hok
  ihave Hov := (Entails.of_eq (show (ovV.view.loc (thr d L) ↦[ovV.view.setOn (blk (wid L))]{fullShare} sorted (I.v d) (I.pk d) : sProp 𝕄) = ovL d ↦[blk (wid L)]{fullShare} sorted (I.v d) (I.pk d) by
    rw [show ovV.view.setOn (blk (wid L)) = blk (wid L) from setOn_whole _ _])) $$ Hov
  ihave Hoq := (Entails.of_eq (show (oqV.view.loc (thr d L) ↦[oqV.view.setOn (blk (wid L))]{fullShare} gq : sProp 𝕄) = oqL d ↦[blk (wid L)]{fullShare} sorted (I.q d) (I.pq d) by
    rw [show oqV.view.setOn (blk (wid L)) = blk (wid L) from setOn_whole _ _]
    exact pointsTo_congr fun j hj => hgq j hj)) $$ Hoq
  isplitl [Hq Hk Hv Hpq Hpk Hsm Hoq Hok Hov Hjk Hjv]
  · isplitl [Hq Hk Hv Hpq Hpk Hsm]
    · isplitl [Hq]; · iexact Hq
      isplitl [Hk]; · iexact Hk
      isplitl [Hv]; · iexact Hv
      isplitl [Hpq]; · iexact Hpq
      isplitl [Hpk]; · iexact Hpk
      iexact Hsm
    unfold outR
    isplitl [Hoq]; · iexact Hoq
    isplitl [Hok]; · iexact Hok
    isplitl [Hov]; · iexact Hov
    isplitl [Hjk]; · iexact Hjk
    iexact Hjv
  isplitl [Hpm Hbf Hli Hbufs]
  · isplitl [Hpm]; · iexists _; iexact Hpm
    isplitl [Hbf]; · iexists _; iexact Hbf
    isplitl [Hli]; · iexists _; iexact Hli
    iexact Hbufs
  isplitl [Hg H0 H1 H2 H3 H4 H5 H6 H7 Hsems]
  · isplitl [Hg]; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact Hsems
  iexists _
  isplitr; swap; · iexact HO
  ipureintro
  exact waits_insert rfl (waits_insert rfl (waits_insert rfl (waits_insert rfl (waits_insert rfl hW3))))

end Tile

end Cert.Proof.ScI

end
-- ==== Proof.ScLaunch.lean ====
/-
  The whole program of the row sort: the samples' reshape on the host, the launch of the 32 tasks, the blocks of the
  results joined; what every run ends with; and the ranges the precondition gives.
-/
module

public import proofs.«01_k».proof.Proof.ScTask
public import Idealize.ShloMosaic.Lib.ReduceAll
public import Idealize.ShloMosaic.Lib.Affine

@[expose] public section

noncomputable section

namespace Cert.Proof.ScI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.StableHlo (held wp_hlo_within)
open Cert.Proof.Spec Cert.Proof.Pieces

variable {F : FTy → Type}

local notation "𝕄" => MT nD τ sig (HIx 1) (Elt F) ℕ UU ℕ

/-! ## What the handshakes carry -/

/-- The number of the block of task `i` of core `c`. -/
def wN (c i : ℕ) : Fin 32 := ⟨(2 * i + c) % 32, Nat.mod_lt _ (by decide)⟩

instance inR_storable (I : Ins F) (d : Dev nD) (q : PosShare TreeShare) : BI.Storable (upEmb : UEmb _ 𝕄) (inR I d q) := by
  unfold inR; infer_instance
instance outAny_storable (d : Dev nD) (w : ℕ) : BI.Storable (upEmb : UEmb _ 𝕄) (outAny F d w) := by
  unfold outAny; infer_instance
instance outR_storable (I : Ins F) (d : Dev nD) (w : ℕ) : BI.Storable (upEmb : UEmb _ 𝕄) (outR I d w) := by
  unfold outR; infer_instance

/-- What a task takes, and what it brings back. -/
def goR (I : Ins F) (d : Dev nD) (w : Fin 32) : sProp 𝕄 := iprop(inR I d (shr w) ∗ outAny F d w.val)
def tdR (I : Ins F) (d : Dev nD) (w : Fin 32) : sProp 𝕄 := iprop(inR I d (shr w) ∗ outR I d w.val)

instance goR_storable (I : Ins F) (d : Dev nD) (w : Fin 32) : BI.Storable (upEmb : UEmb _ 𝕄) (goR I d w) := by
  unfold goR; infer_instance
instance tdR_storable (I : Ins F) (d : Dev nD) (w : Fin 32) : BI.Storable (upEmb : UEmb _ 𝕄) (tdR I d w) := by
  unfold tdR; infer_instance

/-- The call's payloads: to each task its share of the arguments and its blocks of the results. -/
def P (I : Ins F) : (K (F := F)).Pay (nD := nD) (Val := Elt F) (Name := ℕ) (U := UU) where
  st := fun q d c => bigSep Finset.univ fun i : Fin ((K (F := F)).nSub q) => goR I d (wN c.val i.val)
  dn := fun q d c => bigSep Finset.univ fun i : Fin ((K (F := F)).nSub q) => tdR I d (wN c.val i.val)
  go := fun _ d c i => goR I d (wN c.val i.val)
  td := fun _ d c i => tdR I d (wN c.val i.val)
  x := fun _ _ => iprop(emp)

instance P_storable (I : Ins F) : (P I).IsStorable where
  st q d c := (inferInstance : BI.Storable (upEmb : UEmb _ 𝕄) (bigSep Finset.univ fun i : Fin ((K (F := F)).nSub q) => goR I d (wN c.val i.val)))
  dn q d c := (inferInstance : BI.Storable (upEmb : UEmb _ 𝕄) (bigSep Finset.univ fun i : Fin ((K (F := F)).nSub q) => tdR I d (wN c.val i.val)))
  go q d c i := (inferInstance : BI.Storable (upEmb : UEmb _ 𝕄) (goR I d (wN c.val i.val)))
  td q d c i := (inferInstance : BI.Storable (upEmb : UEmb _ 𝕄) (tdR I d (wN c.val i.val)))

theorem vecSplit (I : Ins F) : (K (F := F)).VecSplit' (P I) 0 := by
  intro d c
  show (bigSep Finset.univ fun i : Fin ((K (F := F)).nSub 0) => goR I d (wN c.val i.val)) ⊢ |={Set.univ}=> iprop(
      (bigSep Finset.univ fun i : Fin ((K (F := F)).nSub 0) => goR I d (wN c.val i.val))
      ∗ ((bigSep Finset.univ fun i : Fin ((K (F := F)).nSub 0) => tdR I d (wN c.val i.val))
          -∗ (bigSep Finset.univ fun i : Fin ((K (F := F)).nSub 0) => tdR I d (wN c.val i.val))))
  iintro H; imodintro
  isplitl [H]; · iexact H
  iintro H; iexact H

/-! ## The tasks' obligation -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k2 (coordsV c s)
          qV (Memref.isWhole_whole _) kV (Memref.isWhole_whole _) vV (Memref.isWhole_whole _)
          pqV (Memref.isWhole_whole _) pkV (Memref.isWhole_whole _) smV (Memref.isWhole_whole _)
          oqV (Memref.isWhole_whole _) okV (Memref.isWhole_whole _) ovV (Memref.isWhole_whole _)
          jkV (Memref.isWhole_whole _) jvV (Memref.isWhole_whole _) pmV (Memref.isWhole_whole _) bfV (Memref.isWhole_whole _)
          liV (Memref.isWhole_whole _) cc0_scratch3 cc0_scoped0 cc0_scoped1 cc0_scoped2 cc0_scoped3 cc0_scoped4 cc0_scoped5 cc0_scoped6 cc0_scoped7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem wN_coords (c : Fin (grid0.bound 0)) (s : Fin (grid0.bound 1)) : wN c.val s.val = wF (coordsV c s) := by
  apply Fin.ext
  have h0 : c.val < 2 := c.isLt
  have h1 : s.val < 16 := s.isLt
  show (2 * s.val + c.val) % 32 = 2 * s.val + c.val
  omega

set_option maxRecDepth 16384 in
theorem tileObl (I : Ins F) (hI : I.OK) (hF : (K (F := F)).Facts) : (K (F := F)).TileObl (D (F := F)) 𝒱 (P I) v₀ 0 := by
  intro d c i O W hO _ _
  simp only [show (P I).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hw : wN c.val i.val = wF (coordsV ⟨_, hci.1⟩ ⟨_, hci.2⟩) := wN_coords ⟨_, hci.1⟩ ⟨_, hci.2⟩
  rw [show (P I).go 0 d c i = goR I d (wF (coordsV ⟨_, hci.1⟩ ⟨_, hci.2⟩)) from congrArg (goR I d) hw,
    show (P I).td 0 d c i = tdR I d (wF (coordsV ⟨_, hci.1⟩ ⟨_, hci.2⟩)) from congrArg (tdR I d) hw]
  exact (tile_body d (coordsV ⟨_, hci.1⟩ ⟨_, hci.2⟩) I hI hF O W hO).trans (wp_mono frame _ _ fun _ => obl_post)

/-! ## The arrays split into the tasks' parts, and joined -/

omit [FloatOps F] in
/-- The tasks of both cores are the 32 blocks. -/
theorem tasks_eq (Φ : Fin 32 → sProp 𝕄) :
    (bigSep Finset.univ fun c : Fin ((K (F := F)).nCore 0) => bigSep Finset.univ fun i : Fin ((K (F := F)).nSub 0) => Φ (wN c.val i.val))
      = bigSep Finset.univ Φ := by
  have hb : Function.Bijective (fun p : Fin 2 × Fin 16 => wN p.1.val p.2.val) := by decide
  rw [bigSep_univ_equiv (Equiv.ofBijective _ hb) Φ, bigSep_univ_prod]
  rfl

omit [FloatOps F] in
theorem leaves (ℓ : Loc nD τ sig) (f : Buf (Elt F) ℓ) :
    (ℓ ↦{fullShare} f : sProp 𝕄) = bigSep Finset.univ fun w : Fin 32 => ℓ ↦{shr w} f :=
  pointsTo_leaves Finset.univ f 5 fullShare

omit [FloatOps F] in
theorem inR_split (I : Ins F) (d : Dev nD) : (inR I d fullShare : sProp 𝕄) = bigSep Finset.univ fun w : Fin 32 => inR I d (shr w) := by
  unfold inR
  rw [bigSep_sep', bigSep_sep', bigSep_sep', bigSep_sep', bigSep_sep', ← leaves, ← leaves, ← leaves, ← leaves, ← leaves, ← leaves]

section Blocks
omit [FloatOps F]

theorem blk_dis : ∀ v ∈ (Finset.univ : Finset (Fin 32)), ∀ w ∈ (Finset.univ : Finset (Fin 32)), v ≠ w → Disjoint (blk v.val) (blk w.val) :=
  fun _ _ _ _ h => blk_disjoint fun e => h (Fin.ext e)
theorem sblk_dis : ∀ v ∈ (Finset.univ : Finset (Fin 32)), ∀ w ∈ (Finset.univ : Finset (Fin 32)), v ≠ w → Disjoint (sblk v.val) (sblk w.val) :=
  fun _ _ _ _ h => sblk_disjoint fun e => h (Fin.ext e)

theorem oq_rows (d : Dev nD) (f : Buf (Elt F) (oqL d)) :
    (oqL d ↦{fullShare} f : sProp 𝕄) = bigSep Finset.univ fun w : Fin 32 => oqL d ↦[blk w.val]{fullShare} f := by
  rw [← pointsTo_biUnion Finset.univ (ℓ := oqL d) (fun w : Fin 32 => blk w.val) blk_dis, blk_cover]; try rfl
theorem ok_rows (d : Dev nD) (f : Buf (Elt F) (okL d)) :
    (okL d ↦{fullShare} f : sProp 𝕄) = bigSep Finset.univ fun w : Fin 32 => okL d ↦[blk w.val]{fullShare} f := by
  rw [← pointsTo_biUnion Finset.univ (ℓ := okL d) (fun w : Fin 32 => blk w.val) blk_dis, blk_cover]; try rfl
theorem ov_rows (d : Dev nD) (f : Buf (Elt F) (ovL d)) :
    (ovL d ↦{fullShare} f : sProp 𝕄) = bigSep Finset.univ fun w : Fin 32 => ovL d ↦[blk w.val]{fullShare} f := by
  rw [← pointsTo_biUnion Finset.univ (ℓ := ovL d) (fun w : Fin 32 => blk w.val) blk_dis, blk_cover]; try rfl
theorem jk_rows (d : Dev nD) (f : Buf (Elt F) (jkL d)) :
    (jkL d ↦{fullShare} f : sProp 𝕄) = bigSep Finset.univ fun w : Fin 32 => jkL d ↦[sblk w.val]{fullShare} f := by
  rw [← pointsTo_biUnion Finset.univ (ℓ := jkL d) (fun w : Fin 32 => sblk w.val) sblk_dis, sblk_cover]; try rfl
theorem jv_rows (d : Dev nD) (f : Buf (Elt F) (jvL d)) :
    (jvL d ↦{fullShare} f : sProp 𝕄) = bigSep Finset.univ fun w : Fin 32 => jvL d ↦[sblk w.val]{fullShare} f := by
  rw [← pointsTo_biUnion Finset.univ (ℓ := jvL d) (fun w : Fin 32 => sblk w.val) sblk_dis, sblk_cover]; try rfl

/-- The five results, whole, as the call leaves them. -/
def outW (I : Ins F) (d : Dev nD) : sProp 𝕄 :=
  iprop((oqL d ↦{fullShare} sorted (I.q d) (I.pq d)) ∗ (okL d ↦{fullShare} sorted (I.k d) (I.pk d))
    ∗ (ovL d ↦{fullShare} sorted (I.v d) (I.pk d))
    ∗ (jkL d ↦{fullShare} picked (sorted (I.k d) (I.pk d)) (I.s d))
    ∗ (jvL d ↦{fullShare} picked (sorted (I.v d) (I.pk d)) (I.s d)))

theorem outR_join (I : Ins F) (d : Dev nD) : (bigSep Finset.univ fun w : Fin 32 => outR I d w.val) = (outW I d : sProp 𝕄) := by
  unfold outW
  rw [oq_rows, ok_rows, ov_rows, jk_rows, jv_rows, ← bigSep_sep', ← bigSep_sep', ← bigSep_sep', ← bigSep_sep']
  rfl

/-- A block of each result at known contents is one at some contents. -/
theorem outAny_of (d : Dev nD) (w : ℕ) (f0 : Buf (Elt F) (oqL d)) (f1 : Buf (Elt F) (okL d)) (f2 : Buf (Elt F) (ovL d))
    (f3 : Buf (Elt F) (jkL d)) (f4 : Buf (Elt F) (jvL d)) :
    iprop((oqL d ↦[blk w]{fullShare} f0) ∗ (okL d ↦[blk w]{fullShare} f1) ∗ (ovL d ↦[blk w]{fullShare} f2)
        ∗ (jkL d ↦[sblk w]{fullShare} f3) ∗ (jvL d ↦[sblk w]{fullShare} f4))
      ⊢ (outAny F d w : sProp 𝕄) := by
  unfold outAny
  iintro ⟨H0, H1, H2, H3, H4⟩
  isplitl [H0]; · iexists _; iexact H0
  isplitl [H1]; · iexists _; iexact H1
  isplitl [H2]; · iexists _; iexact H2
  isplitl [H3]; · iexists _; iexact H3
  iexists _; iexact H4

theorem outAny_split (d : Dev nD) (f0 : Buf (Elt F) (oqL d)) (f1 : Buf (Elt F) (okL d)) (f2 : Buf (Elt F) (ovL d))
    (f3 : Buf (Elt F) (jkL d)) (f4 : Buf (Elt F) (jvL d)) :
    iprop((oqL d ↦{fullShare} f0) ∗ (okL d ↦{fullShare} f1) ∗ (ovL d ↦{fullShare} f2) ∗ (jkL d ↦{fullShare} f3) ∗ (jvL d ↦{fullShare} f4))
      ⊢ (bigSep Finset.univ fun w : Fin 32 => outAny F d w.val : sProp 𝕄) := by
  rw [oq_rows, ok_rows, ov_rows, jk_rows, jv_rows, ← bigSep_sep', ← bigSep_sep', ← bigSep_sep', ← bigSep_sep']
  exact bigSep_mono fun w _ => outAny_of d w.val f0 f1 f2 f3 f4

end Blocks

theorem st0_eq (I : Ins F) (d : Dev nD) :
    (bigSep Finset.univ fun c : Fin ((K (F := F)).nCore 0) => (P I).st 0 d c)
      = (iprop(inR I d fullShare ∗ bigSep Finset.univ fun w : Fin 32 => outAny F d w.val) : sProp 𝕄) := by
  refine (tasks_eq (F := F) (goR I d)).trans ?_
  rw [inR_split, ← bigSep_sep']; rfl
theorem dn0_eq (I : Ins F) (d : Dev nD) :
    (bigSep Finset.univ fun c : Fin ((K (F := F)).nCore 0) => (P I).dn 0 d c) = (iprop(inR I d fullShare ∗ outW I d) : sProp 𝕄) := by
  refine (tasks_eq (F := F) (tdR I d)).trans ?_
  rw [inR_split, ← outR_join, ← bigSep_sep']; rfl

/-! ## The launch element of the certificate's ghost state -/

def u₀ : UU := (initOf (K (F := F)).hsCells (K (F := F)).hsToks, 1)

omit [FloatOps F] in
theorem bigSep_emp' {J : Type} (s : Finset J) : (bigSep s fun _ => iprop(emp)) = (iprop(emp) : sProp 𝕄) := bigSep_emp_const s

theorem hu₀ (I : Ins F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P I).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P I).x q thr) = bigSep Finset.univ fun _ => iprop(emp) from
    bigSep_congr fun _ _ => bigSep_univ_of_subsingleton (0 : Fin 1), bigSep_emp']
  iempintro

/-! ## @main on the TensorCore -/

abbrev b0 : DevRef τ sig := Proc.devRef .tc (main_arg0 : Ref sig .tc)
abbrev b1 : DevRef τ sig := Proc.devRef .tc (main_arg1 : Ref sig .tc)
abbrev b2 : DevRef τ sig := Proc.devRef .tc (main_arg2 : Ref sig .tc)
abbrev b3 : DevRef τ sig := Proc.devRef .tc (main_arg3 : Ref sig .tc)
abbrev b4 : DevRef τ sig := Proc.devRef .tc (main_arg4 : Ref sig .tc)
abbrev b5 : DevRef τ sig := Proc.devRef .tc (main_arg5 : Ref sig .tc)
abbrev b6 : DevRef τ sig := Proc.devRef .tc (main_v0 : Ref sig .tc)

abbrev opR : HloOp τ sig (Elt F) := StableHlo.reshape main_arg5 main_v0 (rfl : (.i32 : EltTy) = .i32) shapeCasts_S2x16x128_S32x128

variable (m : (ℓ : Loc nD τ sig) → Buf (Elt F) ℓ) (ρ : Dev nD → PrngReg)

/-- The call's arguments at a launch memory: the first five arrays, and the samples at their rows. -/
def ins : Ins F where
  q d := m (qL d)
  k d := m (kL d)
  v d := m (vL d)
  pq d := m (pqL d)
  pk d := m (pkL d)
  s d := shapeCast S32x128 (m (rawL d)) shapeCasts_S2x16x128_S32x128

/-- What the proof asks of a launch memory. -/
def PreOK : Prop := (ins m).OK

omit [FloatOps F] in
theorem unscopedBufs_eq (d : Dev nD) (W : (b : Ref sig .tc) → Buf (Elt F) ((d.tc : Thread nD τ).loc b)) :
    (unscopedBufs d W : sProp 𝕄)
      = iprop((qL d ↦{fullShare} W main_arg0) ∗ (kL d ↦{fullShare} W main_arg1) ∗ (vL d ↦{fullShare} W main_arg2)
          ∗ (pqL d ↦{fullShare} W main_arg3) ∗ (pkL d ↦{fullShare} W main_arg4) ∗ (rawL d ↦{fullShare} W main_arg5)
          ∗ (smL d ↦{fullShare} W main_v0) ∗ (oqL d ↦{fullShare} W main_v1_0) ∗ (okL d ↦{fullShare} W main_v1_1)
          ∗ (ovL d ↦{fullShare} W main_v1_2) ∗ (jkL d ↦{fullShare} W main_v1_3) ∗ jvL d ↦{fullShare} W main_v1_4) := by
  unfold unscopedBufs
  rw [show (Finset.univ.filter fun b : Ref sig .tc => ¬ b.isScoped) = {main_arg0, main_arg1, main_arg2, main_arg3, main_arg4, main_arg5, main_v0,
      main_v1_0, main_v1_1, main_v1_2, main_v1_3, main_v1_4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The samples' two arrays: as given, and at their rows. -/
abbrev SR : Finset (DevRef τ sig) := {b5, b6}

omit [FloatOps F] in
theorem held_SR (d : Dev nD) (W : Valuation τ sig (Elt F)) :
    (held (T d) SR W : sProp 𝕄) = iprop((rawL d ↦{fullShare} W b5) ∗ smL d ↦{fullShare} W b6) := by
  unfold held SR
  rw [SparseCore.bigSep_insert' (by decide), bigSep_singleton]

def V0 (d : Dev nD) : Valuation τ sig (Elt F) := fun b => m (d, b)

theorem held_opR (d : Dev nD) :
    (held (T d) SR ((opR (F := F)).result (V0 m d)) : sProp 𝕄) = iprop((rawL d ↦{fullShare} m (rawL d)) ∗ smL d ↦{fullShare} (ins m).s d) := by
  rw [held_SR, (opR (F := F)).result_of_not_mem (V0 m d) (b := b5) (show b5 ∉ ({b6} : Finset (DevRef τ sig)) by decide),
    show (opR (F := F)).result (V0 m d) b6 = (ins m).s d from StableHlo.reshape_result _ _ _ _ _ _ _]
  rfl

theorem hopR : (opR (F := F)).bufs ⊆ SR := show ({b5, b6} : Finset (DevRef τ sig)) ⊆ SR by decide

/-- What @main leaves: the arguments as they were, the results sorted and picked. -/
abbrev FIN (d : Dev nD) : sProp 𝕄 := iprop((rawL d ↦{fullShare} m (rawL d)) ∗ inR (ins m) d fullShare ∗ outW (ins m) d)

theorem hmain (κ : GSem nD τ sig → ℕ) (d : Dev nD) :
    iprop((K (F := F)).ctx EH (P (ins m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hq, Hk, Hv, Hpq, Hpk, Hraw, Hsm, Ho0, Ho1, Ho2, Ho3, Ho4⟩, Hts, -⟩, -⟩
  iapply (wp_hlo_within 𝒱 (SparseCore.T d) none Set.univ (op := opR) (S := SR) hopR (V := V0 m d)) $$ [Hb Hraw Hsm]
  · isplitl [Hb]; · iexact Hb
    rw [held_SR]
    isplitl [Hraw]; · iexact Hraw
    iexact Hsm
  iintro ⟨Hb, Hheld⟩
  ihave Hh := (Entails.of_eq (held_opR (F := F) m d)) $$ Hheld
  icases Hh with ⟨Hraw, Hsm⟩
  rw [wp_ret]; imodintro
  ihave Hout := (outAny_split (F := F) d _ _ _ _ _) $$ [Ho0 Ho1 Ho2 Ho3 Ho4]
  · isplitl [Ho0]; · iexact Ho0
    isplitl [Ho1]; · iexact Ho1
    isplitl [Ho2]; · iexact Ho2
    isplitl [Ho3]; · iexact Ho3
    iexact Ho4
  iapply ((K (F := F)).wp_run (D (F := F)) 𝒱 (EH := EH) (P := P (ins m)) κ d 0) $$ [Hst Hq Hk Hv Hpq Hpk Hraw Hsm Hout Hb Hts]
  isplitr; · iexact Hctx
  isplitl [Hst]; · iexact Hst
  isplitl [Hq Hk Hv Hpq Hpk Hsm Hout]
  · rw [st0_eq]
    isplitr [Hout]
    · unfold inR
      isplitl [Hq]; · iexact Hq
      isplitl [Hk]; · iexact Hk
      isplitl [Hv]; · iexact Hv
      isplitl [Hpq]; · iexact Hpq
      isplitl [Hpk]; · iexact Hpk
      iexact Hsm
    iexact Hout
  iintro ⟨Hst, Hdn⟩
  ihave Hdn' := (Entails.of_eq (dn0_eq (ins m) d)) $$ Hdn
  imodintro
  isplitl [Hst]; · iexact Hst
  isplitr [Hb Hts]
  · isplitl [Hraw]; · iexact Hraw
    iexact Hdn'
  isplitl [Hb] <;> iassumption

/-! ## What every run ends with -/

/-- Device `d`'s arrays at the end: the arguments unchanged, the three tables sorted, the sampled rows picked. -/
structure Good (d : Dev nD) (M : (ℓ : Loc nD τ sig) → Buf (Elt F) ℓ) : Prop where
  q : M (qL d) = m (qL d)
  k : M (kL d) = m (kL d)
  v : M (vL d) = m (vL d)
  pq : M (pqL d) = m (pqL d)
  pk : M (pkL d) = m (pkL d)
  raw : M (rawL d) = m (rawL d)
  oq : M (oqL d) = sorted ((ins m).q d) ((ins m).pq d)
  ok : M (okL d) = sorted ((ins m).k d) ((ins m).pk d)
  ov : M (ovL d) = sorted ((ins m).v d) ((ins m).pk d)
  jk : M (jkL d) = picked (sorted ((ins m).k d) ((ins m).pk d)) ((ins m).s d)
  jv : M (jvL d) = picked (sorted ((ins m).v d) ((ins m).pk d)) ((ins m).s d)

omit [FloatOps F] in
/-- An array held whole is what the machine's memory has. -/
theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜Good m d s'.mem.mem⌝ : sProp 𝕄) := by
  unfold FIN inR outW
  iintro ⟨⟨Hraw, ⟨Hq, Hk, Hv, Hpq, Hpk, -⟩, Ho0, Ho1, Ho2, Ho3, Ho4⟩, HSI⟩
  ihave H := (agree s' _ _) $$ [HSI Hraw]; · isplitl [HSI] <;> iassumption
  icases H with ⟨%hraw, HSI⟩
  ihave H := (agree s' _ _) $$ [HSI Hq]; · isplitl [HSI] <;> iassumption
  icases H with ⟨%hq, HSI⟩
  ihave H := (agree s' _ _) $$ [HSI Hk]; · isplitl [HSI] <;> iassumption
  icases H with ⟨%hk, HSI⟩
  ihave H := (agree s' _ _) $$ [HSI Hv]; · isplitl [HSI] <;> iassumption
  icases H with ⟨%hv, HSI⟩
  ihave H := (agree s' _ _) $$ [HSI Hpq]; · isplitl [HSI] <;> iassumption
  icases H with ⟨%hpq, HSI⟩
  ihave H := (agree s' _ _) $$ [HSI Hpk]; · isplitl [HSI] <;> iassumption
  icases H with ⟨%hpk, HSI⟩
  ihave H := (agree s' _ _) $$ [HSI Ho0]; · isplitl [HSI] <;> iassumption
  icases H with ⟨%h0, HSI⟩
  ihave H := (agree s' _ _) $$ [HSI Ho1]; · isplitl [HSI] <;> iassumption
  icases H with ⟨%h1, HSI⟩
  ihave H := (agree s' _ _) $$ [HSI Ho2]; · isplitl [HSI] <;> iassumption
  icases H with ⟨%h2, HSI⟩
  ihave H := (agree s' _ _) $$ [HSI Ho3]; · isplitl [HSI] <;> iassumption
  icases H with ⟨%h3, HSI⟩
  ihave H := (agree s' _ _) $$ [HSI Ho4]; · isplitl [HSI] <;> iassumption
  icases H with ⟨%h4, -⟩
  ipureintro
  exact ⟨hq, hk, hv, hpq, hpk, hraw, h0, h1, h2, h3, h4⟩

/-- The end of a run: every device's arrays as they should be, every semaphore at zero. -/
def QC : PUnit × MemSt nD τ sig (Elt F) → Prop := fun r => (∀ c : Dev nD, Good m c r.2.mem) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ins m)) (A := ∅) launchFacts v₀
    (fun q hq => match q with | 0 => nomatch hq)
    (fun q _ => match q with | 0 => tileObl (ins m) hpre launchFacts)
    (fun q _ => match q with | 0 => SparseCore.Cfg.VecSplit.of_plain (vecSplit (ins m)))
    m ρ main (fun _ => iprop(emp)) (FIN m) (u₀ (F := F)) (sep_elim_left.trans (hu₀ (ins m))) (hmain m ρ) (fun d s' => Good m d s'.mem.mem) (hfin m) (QC m) (fun _ h hz => ⟨h, hz⟩)

end Cert.Proof.ScI

end
-- ==== Proof.Ranges.lean ====
/-
  What the precondition gives: every word of the two permutations is a row of the tables, every sample a row of a block.
-/
module

public import proofs.«01_k».proof.Defs
public import Idealize.ShloMosaic.Lib.ReduceAll
public import Idealize.ShloMosaic.Lib.Affine
public import proofs.«01_k».proof.Proof.Gen.Pre_indices_in_range

@[expose] public section

noncomputable section

namespace Cert.Proof.Ranges

open Idealize.ShloMosaic
open Cert.Pre_indices_in_range Cert.Pre_indices_in_range.Gen

/-- A word that is at least 0 and below `n` as a signed word is below `n`. -/
theorem toNat_lt (v n : BitVec 32) (hn : 0 ≤ n.toInt) (h0 : IntOp.cmpi .sge v 0#32 = 1#1) (h1 : IntOp.cmpi .slt v n = 1#1) : v.toNat < n.toNat := by
  have h0 := IntOp.cmpi_sge.1 h0
  have h1 := IntOp.cmpi_slt.1 h1
  have e0 : (0#32 : BitVec 32).toInt = 0 := by decide
  rw [e0] at h0
  simp only [BitVec.toInt_eq_toNat_cond] at h0 h1 hn
  have := v.isLt
  have := n.isLt
  split at h0 <;> split at hn <;> split at h1 <;> omega

/-- The precondition's three ranges. -/
theorem ranges {F : FTy → Type} [FloatOps F] (q k v : FVec F S262144x128 .f32) (pq pk : IVec S32x64x128 32) (s : IVec S2x16x128 32)
    (h : fn (F := F) q k v pq pk s = fun _ => 1#1) :
    (∀ j, (pq j).toNat < 262144) ∧ (∀ j, (pk j).toNat < 262144) ∧ ∀ j, (s j).toNat < 8192 := by
  have : Subsingleton S_.Idx := ⟨fun a b => funext fun i => i.elim0⟩
  have e := congrFun h (fun i => i.elim0)
  dsimp only [fn, fn_part1] at e
  obtain ⟨e12, e3⟩ := IntOp.andi_eq_one.1 e
  obtain ⟨e1, e2⟩ := IntOp.andi_eq_one.1 e12
  refine ⟨fun j => ?_, fun j => ?_, fun j => ?_⟩
  · obtain ⟨a, b⟩ := IntOp.andi_eq_one.1 (Host.reduce_andi_all _ _ _ _ _ e1 j)
    exact toNat_lt (pq j) 262144#32 (by decide) a b
  · obtain ⟨a, b⟩ := IntOp.andi_eq_one.1 (Host.reduce_andi_all _ _ _ _ _ e2 j)
    exact toNat_lt (pk j) 262144#32 (by decide) a b
  · obtain ⟨a, b⟩ := IntOp.andi_eq_one.1 (Host.reduce_andi_all _ _ _ _ _ e3 j)
    exact toNat_lt (s j) 8192#32 (by decide) a b

end Cert.Proof.Ranges

end
-- ==== Proof.RefValue.lean ====
/-
  What the reference program's results are: a host gather of table rows is the sorted table, a host `take_along_axis` of
  its blocks the sampled rows, wherever the indices are in range.
-/
module

public import proofs.«01_k».proof.Proof.Spec
public import proofs.«01_k».proof.Proof.Gen.ReferenceIdeal
public import proofs.«01_k».proof.Proof.Gen.ReferenceIdeal.Run
public import Idealize.ShloMosaic.Lib.Affine
public import Idealize.ShloMosaic.Lib.ReduceAll
public import Idealize.ShloMosaic.Lib.Pipeline.Value
public import Idealize.ShloMosaic.Lib.ValueIdxCore

@[expose] public section

noncomputable section

namespace Cert.Proof.RefValue

open Idealize.ShloMosaic Idealize.ShloMosaic.ValueIdx Idealize.ShloMosaic.TcCoe Idealize.SL.Sem
open Cert.ReferenceIdeal Cert.ReferenceIdeal.Gen Cert.Proof.Spec

variable {F : FTy → Type} [FloatOps F]

/-- A word below `2 ^ 31` is read as the same number signed and unsigned. -/
theorem toInt_small (v : BitVec 32) (h : v.toNat < 2147483648) : v.toInt = (v.toNat : ℤ) := by
  simp only [BitVec.toInt_eq_toNat_cond]
  split <;> omega

/-- The host's treatment of negative indices leaves a word below `2 ^ 31` alone. -/
theorem unwrapped (v n : BitVec 32) (h : v.toNat < 2147483648) :
    Scalar.select (IntOp.cmpi .slt v 0#32) (IntOp.addi v n) v = v := by
  unfold Scalar.select
  rw [if_neg]
  intro e
  have e := IntOp.cmpi_slt.1 e
  rw [toInt_small v h] at e
  have e0 : (0#32 : BitVec 32).toInt = 0 := by decide
  omega

/-- The row gather read at `(a, c)`: lane `c` of the row the start index `(a, 0)` names. -/
theorem gather_rows {α : Type} (x : S262144x128.Idx → α) (i : IVec S262144x1 32) (a : Fin 262144) (c : Fin 128)
    (h : (i (ix2 a (0 : Fin 1))).toNat < 262144) :
    Host.gather gather_S262144x128_S262144x1_S262144x128_1_0_n_n_0_1_1128 x i (ix2 a c) = x (cell (i (ix2 a (0 : Fin 1))).toNat c) := by
  generalize hd : gather_S262144x128_S262144x1_S262144x128_1_0_n_n_0_1_1128 = d
  unfold Host.gather
  refine congrArg x (funext fun e => Fin.ext ?_)
  have hstart : d.start (ix2 a c) i (0 : Fin 2) = (i (ix2 a (0 : Fin 1))).toNat % 262144 := by
    subst hd
    unfold GatherDims.start
    refine (dif_pos (List.mem_singleton.mpr rfl)).trans ?_
    have hsi : gather_S262144x128_S262144x1_S262144x128_1_0_n_n_0_1_1128.siIdx (ix2 a c) ⟨List.idxOf (0 : Fin 2) gather_S262144x128_S262144x1_S262144x128_1_0_n_n_0_1_1128.startIndexMap,
        List.idxOf_lt_length_iff.2 (List.mem_singleton.mpr rfl)⟩ = ix2 a (0 : Fin 1) := by
      funext b; refine Fin.ext ?_
      match b with
      | ⟨0, _⟩ => rfl
      | ⟨1, _⟩ => rfl
    have e : (i (gather_S262144x128_S262144x1_S262144x128_1_0_n_n_0_1_1128.siIdx (ix2 a c) ⟨List.idxOf (0 : Fin 2) gather_S262144x128_S262144x1_S262144x128_1_0_n_n_0_1_1128.startIndexMap,
        List.idxOf_lt_length_iff.2 (List.mem_singleton.mpr rfl)⟩)).toInt.toNat = (i (ix2 a (0 : Fin 1))).toNat := by
      rw [hsi, toInt_small _ (by omega)]; rfl
    refine (congrArg (fun z => min z (262144 - 1)) e).trans ?_
    rw [Nat.mod_eq_of_lt h]
    omega
  have hstart1 : d.start (ix2 a c) i (1 : Fin 2) = 0 := by
    subst hd
    unfold GatherDims.start
    exact dif_neg (show (1 : Fin 2) ∉ ([0] : List (Fin 2)) by decide)
  have hb : ∀ e : Fin 2, d.batchCoord (ix2 a c) e = 0 := fun e => by
    subst hd
    exact GatherDims.batchCoord_eq_zero _ _ _ List.not_mem_nil
  have ho0 : d.offCoord (ix2 a c) (0 : Fin 2) = 0 := by
    subst hd
    exact GatherDims.offCoord_eq_zero _ _ _ (fun h => ((GatherDims.mem_sKept _ _).mp h).1 (List.mem_singleton.mpr rfl))
  have ho1 : d.offCoord (ix2 a c) (1 : Fin 2) = c.val := by
    subst hd
    rfl
  match e with
  | ⟨0, _⟩ =>
    show d.start (ix2 a c) i (0 : Fin 2) + d.batchCoord (ix2 a c) (0 : Fin 2) + d.offCoord (ix2 a c) (0 : Fin 2)
      = (i (ix2 a (0 : Fin 1))).toNat % 262144
    have := hb 0
    omega
  | ⟨1, _⟩ =>
    show d.start (ix2 a c) i (1 : Fin 2) + d.batchCoord (ix2 a c) (1 : Fin 2) + d.offCoord (ix2 a c) (1 : Fin 2) = c.val
    have := hb 1
    omega

/-- The batched row gather read at `(a, b, r, c)`: lane `c` of the row of block `(a, b)` the start index `(a, b, r, 0)`
    names. -/
theorem gather_blocks {α : Type} (y : S2x16x8192x128.Idx → α) (i : IVec S2x16x128x1 32) (a : Fin 2) (b : Fin 16)
    (r c : Fin 128) (h : (i (ix4 a b r (0 : Fin 1))).toNat < 8192) :
    Host.gather gather_S2x16x8192x128_S2x16x128x1_S2x16x128x128_3_2_01_01_2_3_111128 y i (ix4 a b r c) = y (ix4 a b ⟨(i (ix4 a b r (0 : Fin 1))).toNat, h⟩ c) := by
  generalize hd : gather_S2x16x8192x128_S2x16x128x1_S2x16x128x128_3_2_01_01_2_3_111128 = d
  unfold Host.gather
  refine congrArg y (funext fun e => Fin.ext ?_)
  have h2 : d.start (ix4 a b r c) i (2 : Fin 4) = (i (ix4 a b r (0 : Fin 1))).toNat := by
    subst hd
    unfold GatherDims.start
    refine (dif_pos (List.mem_singleton.mpr rfl)).trans ?_
    have hsi : gather_S2x16x8192x128_S2x16x128x1_S2x16x128x128_3_2_01_01_2_3_111128.siIdx (ix4 a b r c) ⟨List.idxOf (2 : Fin 4) gather_S2x16x8192x128_S2x16x128x1_S2x16x128x128_3_2_01_01_2_3_111128.startIndexMap,
        List.idxOf_lt_length_iff.2 (List.mem_singleton.mpr rfl)⟩ = ix4 a b r (0 : Fin 1) := by
      funext b; refine Fin.ext ?_
      match b with
      | ⟨0, _⟩ => rfl
      | ⟨1, _⟩ => rfl
      | ⟨2, _⟩ => rfl
      | ⟨3, _⟩ => rfl
    have e : (i (gather_S2x16x8192x128_S2x16x128x1_S2x16x128x128_3_2_01_01_2_3_111128.siIdx (ix4 a b r c) ⟨List.idxOf (2 : Fin 4) gather_S2x16x8192x128_S2x16x128x1_S2x16x128x128_3_2_01_01_2_3_111128.startIndexMap,
        List.idxOf_lt_length_iff.2 (List.mem_singleton.mpr rfl)⟩)).toInt.toNat = (i (ix4 a b r (0 : Fin 1))).toNat := by
      rw [hsi, toInt_small _ (by omega)]; rfl
    refine (congrArg (fun z => min z (8192 - 1)) e).trans ?_
    omega
  have h0 : d.start (ix4 a b r c) i (0 : Fin 4) = 0 := by
    subst hd
    exact dif_neg (show (0 : Fin 4) ∉ ([2] : List (Fin 4)) by decide)
  have h1 : d.start (ix4 a b r c) i (1 : Fin 4) = 0 := by
    subst hd
    exact dif_neg (show (1 : Fin 4) ∉ ([2] : List (Fin 4)) by decide)
  have h3 : d.start (ix4 a b r c) i (3 : Fin 4) = 0 := by
    subst hd
    exact dif_neg (show (3 : Fin 4) ∉ ([2] : List (Fin 4)) by decide)
  have b0 : d.batchCoord (ix4 a b r c) (0 : Fin 4) = a.val := by subst hd; rfl
  have b1 : d.batchCoord (ix4 a b r c) (1 : Fin 4) = b.val := by subst hd; rfl
  have b2 : d.batchCoord (ix4 a b r c) (2 : Fin 4) = 0 := by subst hd; rfl
  have b3 : d.batchCoord (ix4 a b r c) (3 : Fin 4) = 0 := by subst hd; rfl
  have o0 : d.offCoord (ix4 a b r c) (0 : Fin 4) = 0 := by subst hd; rfl
  have o1 : d.offCoord (ix4 a b r c) (1 : Fin 4) = 0 := by subst hd; rfl
  have o2 : d.offCoord (ix4 a b r c) (2 : Fin 4) = 0 := by subst hd; rfl
  have o3 : d.offCoord (ix4 a b r c) (3 : Fin 4) = c.val := by subst hd; rfl
  match e with
  | ⟨0, _⟩ =>
    show d.start (ix4 a b r c) i (0 : Fin 4) + d.batchCoord (ix4 a b r c) (0 : Fin 4) + d.offCoord (ix4 a b r c) (0 : Fin 4) = a.val
    omega
  | ⟨1, _⟩ =>
    show d.start (ix4 a b r c) i (1 : Fin 4) + d.batchCoord (ix4 a b r c) (1 : Fin 4) + d.offCoord (ix4 a b r c) (1 : Fin 4) = b.val
    omega
  | ⟨2, _⟩ =>
    show d.start (ix4 a b r c) i (2 : Fin 4) + d.batchCoord (ix4 a b r c) (2 : Fin 4) + d.offCoord (ix4 a b r c) (2 : Fin 4)
      = (i (ix4 a b r (0 : Fin 1))).toNat
    omega
  | ⟨3, _⟩ =>
    show d.start (ix4 a b r c) i (3 : Fin 4) + d.batchCoord (ix4 a b r c) (3 : Fin 4) + d.offCoord (ix4 a b r c) (3 : Fin 4) = c.val
    omega

/-- The reference's rows of `x` in the order of `p`, with its treatment of negative indices. -/
abbrev rowsTerm {α : Type} (x : S262144x128.Idx → α) (p : IVec S32x64x128 32) : S262144x128.Idx → α :=
  Host.gather gather_S262144x128_S262144x1_S262144x128_1_0_n_n_0_1_1128 x (broadcastInDim S262144x1 ![0] bcast_S262144_S262144x1_0 (select (cmpi .slt (shapeCast _ p shapeCasts_S32x64x128_S262144) (broadcastInDim S262144 ![] bcast_S_S262144 (constantI S_ 32 0#32))) (addi (shapeCast _ p shapeCasts_S32x64x128_S262144) (broadcastInDim S262144 ![] bcast_S_S262144 (constantI S_ 32 262144#32))) (shapeCast _ p shapeCasts_S32x64x128_S262144)))

/-- Those rows are the sorted table where every word of `p` is a row of the table. -/
theorem rows_eq {α : Type} (x : S262144x128.Idx → α) (p : IVec S32x64x128 32) (hp : ∀ j, (p j).toNat < 262144) :
    rowsTerm x p = sorted x p := by
  funext j
  obtain ⟨n, c, rfl⟩ : ∃ (n : Fin 262144) (c : Fin 128), j = ix2 n c := ⟨_, _, eq_ix2 j⟩
  have hn : n.val < 262144 := n.isLt
  have hflat : shapeCast S262144 p shapeCasts_S32x64x128_S262144 (ix1 n) = permAt p n.val := by
    unfold permAt
    refine shapeCast_apply p _ _ _ ?_
    rw [Shape.rowMajor_val_three, Shape.rowMajor_val_one]
    show (n.val / 8192 % 32 * 64 + n.val % 8192 / 128) * 128 + n.val % 128 = n.val
    omega
  have hlt : (permAt p n.val).toNat < 262144 := hp _
  have hi : (broadcastInDim S262144x1 ![0] bcast_S262144_S262144x1_0 (select (cmpi .slt (shapeCast _ p shapeCasts_S32x64x128_S262144) (broadcastInDim S262144 ![] bcast_S_S262144 (constantI S_ 32 0#32))) (addi (shapeCast _ p shapeCasts_S32x64x128_S262144) (broadcastInDim S262144 ![] bcast_S_S262144 (constantI S_ 32 262144#32))) (shapeCast _ p shapeCasts_S32x64x128_S262144))) (ix2 n (0 : Fin 1)) = permAt p n.val := by
    refine (broadcastInDim_apply _ _ _ _ (ix1 n) (fun a => by
      match a with
      | ⟨0, _⟩ => rfl)).trans ?_
    refine Eq.trans ?_ (unwrapped (permAt p n.val) 262144#32 (by omega))
    rw [← hflat]
    rfl
  refine (gather_rows x _ n c (by rw [hi]; exact hlt)).trans ?_
  rw [hi]
  rfl

/-- The reference's sample indices, with its treatment of negative ones. -/
abbrev sampleIdx (s : IVec S2x16x128 32) : IVec S2x16x128x1 32 :=
  select (cmpi .slt (broadcastInDim S2x16x128x1 ![0, 1, 2] bcast_S2x16x128_S2x16x128x1_0_1_2 s) (broadcastInDim S2x16x128x1 ![] bcast_S_S2x16x128x1 (constantI S_ 32 0#32))) (addi (broadcastInDim S2x16x128x1 ![0, 1, 2] bcast_S2x16x128_S2x16x128x1_0_1_2 s) (broadcastInDim S2x16x128x1 ![] bcast_S_S2x16x128x1 (constantI S_ 32 8192#32))) (broadcastInDim S2x16x128x1 ![0, 1, 2] bcast_S2x16x128_S2x16x128x1_0_1_2 s)

/-- The reference's sampled rows of the blocks of `y`, with its fill of rows outside a block. -/
abbrev pickTerm (y : FVec F S262144x128 .f32) (s : IVec S2x16x128 32) : FVec F S4096x128 .f32 :=
  shapeCast _ (select (broadcastInDim S2x16x128x128 ![0, 1, 2] bcast_S2x16x128_S2x16x128x128_0_1_2 (Host.reduce IntOp.andi (andi (cmpi .sge (sampleIdx s) (broadcastInDim S2x16x128x1 ![] bcast_S_S2x16x128x1 (constantI S_ 32 0#32))) (cmpi .sle (sampleIdx s) (broadcastInDim S2x16x128x1 ![0, 1, 2, 3] bcast_S1x1x1x1_S2x16x128x1_0_1_2_3 (broadcastInDim S1x1x1x1 ![3] bcast_S1_S1x1x1x1_3 (constantI S1 32 8191#32))))) (constantI S_ 1 1#1) reducesTo_S2x16x128x1_S2x16x128_d3 h_S_)) (Host.gather gather_S2x16x8192x128_S2x16x128x1_S2x16x128x128_3_2_01_01_2_3_111128 (shapeCast _ y shapeCasts_S262144x128_S2x16x8192x128) (sampleIdx s)) (broadcastInDim S2x16x128x128 ![] bcast_S_S2x16x128x128 (constant S_ .f32 0x7FC00000#32))) shapeCasts_S2x16x128x128_S4096x128

/-- A sample index in range is the sample. -/
theorem sampleIdx_apply (s : IVec S2x16x128 32) (hs : ∀ j, (s j).toNat < 8192) (i : S2x16x128x1.Idx) :
    sampleIdx s i = s (ix3 (i 0) (i 1) (i 2)) := by
  have hb : broadcastInDim S2x16x128x1 ![0, 1, 2] bcast_S2x16x128_S2x16x128x1_0_1_2 s i = s (ix3 (i 0) (i 1) (i 2)) :=
    broadcastInDim_apply _ _ _ _ _ (fun a => by
      match a with
      | ⟨0, _⟩ => rfl
      | ⟨1, _⟩ => rfl
      | ⟨2, _⟩ => rfl)
  refine Eq.trans ?_ (unwrapped (s (ix3 (i 0) (i 1) (i 2))) 8192#32 (by have := hs (ix3 (i 0) (i 1) (i 2)); omega))
  rw [← hb]
  rfl

/-- The reference's sampled rows are the specification's where every sample is a row of its block. -/
theorem pick_eq (y : FVec F S262144x128 .f32) (s : IVec S2x16x128 32) (hs : ∀ j, (s j).toNat < 8192)
    (h : S2x16x128.ShapeCasts ⟨2, ![32, 128]⟩) :
    pickTerm y s = picked y (shapeCast ⟨2, ![32, 128]⟩ s h) := by
  funext j
  obtain ⟨n, c, rfl⟩ : ∃ (n : Fin 4096) (c : Fin 128), j = ix2 n c := ⟨_, _, eq_ix2 j⟩
  have hn : n.val < 4096 := n.isLt
  -- the block's batch, its head, and the sample's number
  obtain ⟨b, hb⟩ : ∃ b : Fin 2, b.val = n.val / 2048 := ⟨⟨n.val / 2048, by omega⟩, rfl⟩
  obtain ⟨e, he⟩ : ∃ e : Fin 16, e.val = n.val / 128 % 16 := ⟨⟨n.val / 128 % 16, by omega⟩, rfl⟩
  obtain ⟨r, hr⟩ : ∃ r : Fin 128, r.val = n.val % 128 := ⟨⟨n.val % 128, by omega⟩, rfl⟩
  refine (shapeCast_apply _ _ (ix2 n c) (ix4 b e r c) (by
    rw [Shape.rowMajor_val_four, Shape.rowMajor_val_two]
    show ((b.val * 16 + e.val) * 128 + r.val) * 128 + c.val = n.val * 128 + c.val
    omega)).trans ?_
  have hm : broadcastInDim S2x16x128x128 ![0, 1, 2] bcast_S2x16x128_S2x16x128x128_0_1_2 (Host.reduce IntOp.andi (andi (cmpi .sge (sampleIdx s) (broadcastInDim S2x16x128x1 ![] bcast_S_S2x16x128x1 (constantI S_ 32 0#32))) (cmpi .sle (sampleIdx s) (broadcastInDim S2x16x128x1 ![0, 1, 2, 3] bcast_S1x1x1x1_S2x16x128x1_0_1_2_3 (broadcastInDim S1x1x1x1 ![3] bcast_S1_S1x1x1x1_3 (constantI S1 32 8191#32))))) (constantI S_ 1 1#1) reducesTo_S2x16x128x1_S2x16x128_d3 h_S_) (ix4 b e r c) = 1#1 := by
    unfold broadcastInDim
    refine Host.reduce_andi_one _ _ _ _ _ rfl fun i => ?_
    have hv := hs (ix3 (i 0) (i 1) (i 2))
    refine IntOp.andi_eq_one.2 ⟨IntOp.cmpi_sge.2 ?_, IntOp.cmpi_sle.2 ?_⟩
    · show (0#32 : BitVec 32).toInt ≤ (sampleIdx s i).toInt
      rw [sampleIdx_apply s hs, toInt_small (s (ix3 (i 0) (i 1) (i 2))) (by omega)]
      have e0 : (0#32 : BitVec 32).toInt = 0 := by decide
      omega
    · show (sampleIdx s i).toInt ≤ (8191#32 : BitVec 32).toInt
      rw [sampleIdx_apply s hs, toInt_small (s (ix3 (i 0) (i 1) (i 2))) (by omega)]
      have e0 : (8191#32 : BitVec 32).toInt = 8191 := by decide
      omega
  have hsm : shapeCast ⟨2, ![32, 128]⟩ s h (ix2 ⟨n.val / 128 % 32, Nat.mod_lt _ (by decide)⟩ ⟨n.val % 128, Nat.mod_lt _ (by decide)⟩)
      = s (ix3 b e r) := by
    refine shapeCast_apply s _ _ _ ?_
    rw [Shape.rowMajor_val_three, Shape.rowMajor_val_two]
    show (b.val * 16 + e.val) * 128 + r.val = n.val / 128 % 32 * 128 + n.val % 128
    omega
  have hlt : (s (ix3 b e r)).toNat < 8192 := hs _
  have hix : sampleIdx s (ix4 b e r (0 : Fin 1)) = s (ix3 b e r) := sampleIdx_apply s hs _
  refine (congrArg (fun z => Scalar.select z _ _) hm).trans ?_
  refine (if_pos rfl).trans ?_
  refine (gather_blocks _ (sampleIdx s) b e r c (by rw [hix]; exact hlt)).trans ?_
  refine Eq.trans ?_ (congrArg (fun z : BitVec 32 => y (cell (8192 * (n.val / 128) + z.toNat) c)) hsm.symm)
  refine shapeCast_apply y _ _ _ ?_
  rw [Shape.rowMajor_val_four, Shape.rowMajor_val_two]
  show (8192 * (n.val / 128) + (s (ix3 b e r)).toNat) % 262144 * 128 + c.val
    = ((b.val * 16 + e.val) * 8192 + (sampleIdx s (ix4 b e r (0 : Fin 1))).toNat) * 128 + c.val
  rw [hix]
  omega

/-- The reference's run: its results are the sorted tables and the sampled rows of the arguments it was launched with, its
    arguments end unchanged and it leaves no semaphore raised. -/
theorem run_ref (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v7) = rowsTerm (m ((c.tc : Thread nD τ).loc main_arg0)) (m ((c.tc : Thread nD τ).loc main_arg3))
      ∧ r.2.mem ((c.tc : Thread nD τ).loc main_v15) = rowsTerm (m ((c.tc : Thread nD τ).loc main_arg1)) (m ((c.tc : Thread nD τ).loc main_arg4))
      ∧ r.2.mem ((c.tc : Thread nD τ).loc main_v23) = rowsTerm (m ((c.tc : Thread nD τ).loc main_arg2)) (m ((c.tc : Thread nD τ).loc main_arg4))
      ∧ r.2.mem ((c.tc : Thread nD τ).loc main_v30) = pickTerm (rowsTerm (m ((c.tc : Thread nD τ).loc main_arg1)) (m ((c.tc : Thread nD τ).loc main_arg4))) (m ((c.tc : Thread nD τ).loc main_arg5))
      ∧ r.2.mem ((c.tc : Thread nD τ).loc main_v31) = pickTerm (rowsTerm (m ((c.tc : Thread nD τ).loc main_arg2)) (m ((c.tc : Thread nD τ).loc main_arg4))) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨h, sem_eq_zero_of_no_sems (by decide) r.2⟩) (Value.run m ρ)

end Cert.Proof.RefValue

end
-- ==== Proof.AttnRow.lean ====
/-
  One output element of the attention step, over extended reals: a query's scores against its own block and against the
  sampled keys, each with its column of values. The kernel divides each weighted sum by its total and mixes the two by a
  weight and by the same weight at the opposite sign; the reference normalises each score by its log-sum-exp and mixes by
  a weight and its complement. Both agree when the sampled scores are real numbers.
-/
module

public import Idealize.ShloMosaic.PureOps.Ideal
public import Idealize.ShloMosaic.PureOps.Ideal.Laws

@[expose] public section

noncomputable section

namespace Cert.Proof.AttnRow

open Idealize.ShloMosaic

/-- The greatest of a row's scores. -/
def top (s : Fin 128 → EReal) : EReal := Finset.univ.fold max ⊥ s

/-- The exponential of a score less the greatest. -/
def wgt (s : Fin 128 → EReal) (k : Fin 128) : EReal := Ideal.exp (s k - top s)

/-- The total of a row's exponentials. -/
def tot (s : Fin 128 → EReal) : EReal := ∑ k, wgt s k

/-- The weighted sum of a column of values. -/
def mix (s v : Fin 128 → EReal) : EReal := ∑ k, wgt s k * v k

/-- The log-sum-exp of a row. -/
def lse (s : Fin 128 → EReal) : EReal := top s + Ideal.log (tot s)

/-- By how much the sampled row's log-sum-exp, with the sampling weight, exceeds the block row's. -/
def gap (s₁ s₂ : Fin 128 → EReal) (w : EReal) : EReal := lse s₂ + w - lse s₁

/-- The kernel's element. -/
def kernelElt (s₁ v₁ s₂ v₂ : Fin 128 → EReal) (w : EReal) : EReal :=
  Ideal.div 1 (1 + Ideal.exp (gap s₁ s₂ w)) * Ideal.div (mix s₁ v₁) (tot s₁)
    + Ideal.div 1 (1 + Ideal.exp (0 - gap s₁ s₂ w)) * Ideal.div (mix s₂ v₂) (tot s₂)

/-- The reference's element. -/
def referenceElt (s₁ v₁ s₂ v₂ : Fin 128 → EReal) (w : EReal) : EReal :=
  Ideal.div 1 (1 + Ideal.exp (gap s₁ s₂ w)) * (∑ k, Ideal.exp (s₁ k - lse s₁) * v₁ k)
    + (1 - Ideal.div 1 (1 + Ideal.exp (gap s₁ s₂ w))) * (∑ k, Ideal.exp (s₂ k - lse s₂) * v₂ k)

theorem le_top (s : Fin 128 → EReal) (k : Fin 128) : s k ≤ top s :=
  (Finset.le_fold_max _).mpr (Or.inr ⟨k, Finset.mem_univ k, le_refl _⟩)

/-- The greatest score is one of the scores, or all are `⊥`. -/
theorem top_mem (s : Fin 128 → EReal) : ∃ k, top s = s k := by
  by_cases h : top s = ⊥
  · exact ⟨0, le_antisymm (h ▸ bot_le) (le_top s 0)⟩
  · rcases (Finset.le_fold_max (s := Finset.univ) (f := s) (b := ⊥) (top s)).mp (le_refl _) with hb | ⟨k, _, hk⟩
    · exact absurd (le_bot_iff.mp hb) h
    · exact ⟨k, le_antisymm hk (le_top s k)⟩

theorem exp_coe (r : ℝ) : Ideal.exp (r : EReal) = (Real.exp r : EReal) := rfl
theorem exp_bot : Ideal.exp ⊥ = 0 := rfl
theorem exp_top : Ideal.exp ⊤ = ⊤ := rfl

/-- With a real greatest score every exponential is a real number, none negative. -/
theorem wgt_coe {s : Fin 128 → EReal} {r : ℝ} (h : top s = (r : EReal)) (k : Fin 128) :
    ∃ x : ℝ, 0 ≤ x ∧ wgt s k = (x : EReal) ∧ ∀ y : ℝ, Ideal.exp (s k - ((r + y : ℝ) : EReal)) = ((x * Real.exp (-y) : ℝ) : EReal) := by
  have hk := le_top s k
  rw [h] at hk
  unfold wgt
  rw [h]
  induction hs : s k using EReal.rec with
  | bot => exact ⟨0, le_refl _, by rw [EReal.bot_sub, exp_bot, EReal.coe_zero], fun y => by
      rw [EReal.bot_sub, exp_bot, zero_mul, EReal.coe_zero]⟩
  | top => rw [hs] at hk; exact absurd (top_le_iff.mp hk) (EReal.coe_ne_top r)
  | coe a =>
    refine ⟨Real.exp (a - r), (Real.exp_pos _).le, by rw [← EReal.coe_sub, exp_coe], fun y => ?_⟩
    rw [← EReal.coe_sub, exp_coe, ← Real.exp_add]
    congr 2
    ring

theorem coe_sum (f : Fin 128 → ℝ) : ((∑ k, f k : ℝ) : EReal) = ∑ k, (f k : EReal) := by
  induction (Finset.univ : Finset (Fin 128)) using Finset.cons_induction with
  | empty => simp
  | cons a t ha ih => rw [Finset.sum_cons, Finset.sum_cons, EReal.coe_add, ih]

/-- A product with a real number that is not negative goes through a sum of extended reals. -/
theorem sum_mul_coe (f : Fin 128 → EReal) {c : ℝ} (hc : 0 ≤ c) : (∑ k, f k) * (c : EReal) = ∑ k, f k * (c : EReal) := by
  induction (Finset.univ : Finset (Fin 128)) using Finset.cons_induction with
  | empty => simp
  | cons a t ha ih =>
    rw [Finset.sum_cons, Finset.sum_cons, ← ih]
    exact EReal.right_distrib_of_nonneg_of_ne_top (EReal.coe_nonneg.mpr hc) (EReal.coe_ne_top c) _ _

/-- With a real greatest score the total is a real number, at least one. -/
theorem tot_coe {s : Fin 128 → EReal} {r : ℝ} (h : top s = (r : EReal)) : ∃ l : ℝ, 1 ≤ l ∧ tot s = (l : EReal) := by
  choose x hx using fun k => wgt_coe h k
  refine ⟨∑ k, x k, ?_, ?_⟩
  · obtain ⟨k, hk⟩ := top_mem s
    have h1 : x k = 1 := by
      have := (hx k).2.1
      unfold wgt at this
      rw [← hk, h, ← EReal.coe_sub, sub_self, exp_coe, Real.exp_zero] at this
      exact (EReal.coe_eq_coe_iff.mp this).symm
    rw [← h1]
    exact Finset.single_le_sum (fun j _ => (hx j).1) (Finset.mem_univ k)
  · rw [coe_sum]
    exact Finset.sum_congr rfl fun k _ => (hx k).2.1

theorem log_coe {l : ℝ} (h : 1 ≤ l) : Ideal.log (l : EReal) = (Real.log l : EReal) :=
  if_neg (by linarith)

/-- With a real greatest score the log-sum-exp is real, and normalising by it is dividing by the total. -/
theorem lse_coe {s : Fin 128 → EReal} {r : ℝ} (h : top s = (r : EReal)) :
    (∃ y : ℝ, lse s = (y : EReal)) ∧ ∀ v : Fin 128 → EReal,
      ∑ k, Ideal.exp (s k - lse s) * v k = Ideal.div (mix s v) (tot s) := by
  obtain ⟨l, hl, ht⟩ := tot_coe h
  have hlse : lse s = ((r + Real.log l : ℝ) : EReal) := by
    unfold lse
    rw [h, ht, log_coe hl, EReal.coe_add]
  refine ⟨⟨_, hlse⟩, fun v => ?_⟩
  have hl0 : l ≠ 0 := by linarith
  have hc : (0 : ℝ) ≤ 1 / l := by positivity
  rw [ht, Ideal.div_coe hl0, hlse]
  unfold mix
  rw [sum_mul_coe _ hc]
  refine Finset.sum_congr rfl fun k _ => ?_
  obtain ⟨x, hx0, hx, hy⟩ := wgt_coe h k
  rw [hy, hx, Real.exp_neg, Real.exp_log (by linarith), EReal.coe_mul, mul_assoc, mul_assoc, one_div]
  congr 1
  exact mul_comm _ _

/-- A row whose greatest score is infinite has log-sum-exp `⊥`. -/
theorem lse_bot {s : Fin 128 → EReal} (h : top s = ⊥ ∨ top s = ⊤) : lse s = ⊥ := by
  have h0 : ∀ k, wgt s k = 0 := fun k => by
    unfold wgt
    rcases h with h | h
    · have hk := le_top s k
      rw [h] at hk ⊢
      rw [le_bot_iff.mp hk, EReal.bot_sub, exp_bot]
    · rw [h, EReal.sub_top, exp_bot]
  have ht : tot s = 0 := Finset.sum_eq_zero fun k _ => h0 k
  unfold lse
  rw [ht]
  have hlog : Ideal.log 0 = ⊥ := if_pos (le_refl _)
  rw [hlog, EReal.add_bot]

/-- The greatest of real scores is real. -/
theorem top_real {s : Fin 128 → EReal} (h : ∀ k, ∃ r : ℝ, s k = (r : EReal)) : ∃ r : ℝ, top s = (r : EReal) := by
  obtain ⟨k, hk⟩ := top_mem s
  obtain ⟨r, hr⟩ := h k
  exact ⟨r, hk.trans hr⟩

theorem div_one_real {x : ℝ} (h : x ≠ 0) : Ideal.div 1 (x : EReal) = ((1 / x : ℝ) : EReal) := by
  rw [Ideal.div_coe h, one_mul]

/-- The two elements agree when the sampled scores and the sampling weight are real numbers. -/
theorem elt_eq (s₁ v₁ s₂ v₂ : Fin 128 → EReal) (w : ℝ) (h : ∀ k, ∃ r : ℝ, s₂ k = (r : EReal)) :
    kernelElt s₁ v₁ s₂ v₂ (w : EReal) = referenceElt s₁ v₁ s₂ v₂ (w : EReal) := by
  obtain ⟨r₂, hr₂⟩ := top_real h
  obtain ⟨⟨y₂, hy₂⟩, hm₂⟩ := lse_coe hr₂
  unfold kernelElt referenceElt
  rw [hm₂]
  by_cases h₁ : top s₁ = ⊥ ∨ top s₁ = ⊤
  · have hg : gap s₁ s₂ (w : EReal) = ⊤ := by
      unfold gap
      rw [lse_bot h₁, hy₂, ← EReal.coe_add]
      exact EReal.coe_sub_bot _
    have h0 : Ideal.div 1 (1 + Ideal.exp ⊤) = 0 := by
      rw [exp_top, EReal.add_top_of_ne_bot (by exact EReal.coe_ne_bot 1)]
      unfold Ideal.div
      rw [if_neg (by exact EReal.top_ne_zero), EReal.inv_top, mul_zero]
    have h1 : Ideal.div 1 (1 + Ideal.exp (0 - ⊤)) = 1 := by
      rw [EReal.sub_top, exp_bot, add_zero]
      have := div_one_real (x := 1) one_ne_zero
      rw [EReal.coe_one] at this
      rw [this, one_div, inv_one, EReal.coe_one]
    rw [hg, h0, h1, zero_mul, zero_mul, sub_zero]
  · push Not at h₁
    obtain ⟨r₁, hr₁⟩ : ∃ r : ℝ, top s₁ = (r : EReal) := ⟨(top s₁).toReal, (EReal.coe_toReal h₁.2 h₁.1).symm⟩
    obtain ⟨⟨y₁, hy₁⟩, hm₁⟩ := lse_coe hr₁
    rw [hm₁]
    have hg : gap s₁ s₂ (w : EReal) = ((y₂ + w - y₁ : ℝ) : EReal) := by
      unfold gap
      rw [hy₁, hy₂, ← EReal.coe_add, ← EReal.coe_sub]
    have hz : (0 : EReal) - ((y₂ + w - y₁ : ℝ) : EReal) = ((-(y₂ + w - y₁) : ℝ) : EReal) := by
      rw [zero_sub, EReal.coe_neg]
    rw [hg, hz, exp_coe, exp_coe, ← EReal.coe_one, ← EReal.coe_add, ← EReal.coe_add, EReal.coe_one,
      div_one_real (by positivity), div_one_real (by positivity), ← EReal.coe_one, ← EReal.coe_sub]
    congr 3
    rw [Real.exp_neg]
    have : 0 < Real.exp (y₂ + w - y₁) := Real.exp_pos _
    field_simp
    ring

end Cert.Proof.AttnRow
-- ==== Proof.AttnBlock.lean ====
/-
  What the attention body leaves at one grid point, read element by element: each row of the block is the row formula of
  AttnRow.lean at that row's scores, with zeros in the padding lanes.
-/
module

public import proofs.«01_k».proof.Proof.AttnRow
public import proofs.«01_k».proof.Proof.Gen.AttnIdeal.Frame
public import Idealize.ShloMosaic.Lib.Pointwise
public import Idealize.ShloMosaic.Lib.Pipeline.Value

@[expose] public section

set_option maxRecDepth 16384

noncomputable section

namespace Cert.Proof.AttnBlock

open Idealize.ShloMosaic
open Cert.AttnIdeal Cert.AttnIdeal.Gen Cert.Proof.AttnRow

/-- The printed minus infinity is the least extended real. -/
theorem neg_inf : Ideal.ofBits .f32 0xFF800000#32 = ⊥ := by simp [Ideal.ofBits, Ideal.ieee]

/-- The scores of a query block's row against a key block, the 64 feature lanes only, scaled. -/
def score (x y : S1x128x128.Idx → EReal) (a : Fin 128) (k : Fin 128) : EReal :=
  (∑ e : Fin 64, x (ix3 0 a ⟨e.val, by have := e.isLt; omega⟩) * y (ix3 0 k ⟨e.val, by have := e.isLt; omega⟩))
    * Ideal.ofBits .f32 0x3E000000#32

/-- A value block's column. -/
def column (z : S1x128x128.Idx → EReal) (n : Fin 128) (k : Fin 128) : EReal := z (ix3 0 k n)

theorem pay3_apply (x y : Vec Ideal S1x128x128 .f32) (a k : Fin 128) :
    k0_pay3 x y (ix2 a k) = score x y a k := by
  unfold score
  pointwise [k0_pay3, k0_pay2]

theorem pay10_apply (x y : Vec Ideal S1x128x128 .f32) (a k : Fin 128) :
    k0_pay10 x y (ix2 a k) = score x y a k := by
  unfold score
  pointwise [k0_pay10, k0_pay2]

theorem pay4_apply (x y : Vec Ideal S1x128x128 .f32) (a : Fin 128) :
    k0_pay4 x y (ix2 a 0) = top (score x y a) := by
  unfold top
  pointwise [k0_pay4]
  rw [neg_inf]
  exact congrArg (fun f => Finset.fold max ⊥ f Finset.univ) (funext fun k => pay3_apply x y a k)

theorem pay5_apply (x y : Vec Ideal S1x128x128 .f32) (a k : Fin 128) :
    k0_pay5 x y (ix2 a k) = wgt (score x y a) k := by
  unfold wgt
  pointwise [k0_pay5]
  rw [pay3_apply, pay4_apply]

theorem pay6_apply (x y : Vec Ideal S1x128x128 .f32) (a : Fin 128) :
    k0_pay6 x y (ix2 a 0) = tot (score x y a) := by
  unfold tot
  pointwise [k0_pay6]
  exact Finset.sum_congr rfl fun k _ => pay5_apply x y a k

theorem pay7_apply (x y z : Vec Ideal S1x128x128 .f32) (a : Fin 128) (n : Fin 64) :
    k0_pay7 x y z (ix2 a n) = mix (score x y a) (column z ⟨n.val, by have := n.isLt; omega⟩) := by
  unfold mix column
  pointwise [k0_pay7]
  exact Finset.sum_congr rfl fun k _ => by rw [pay5_apply]

theorem pay8_apply (x y : Vec Ideal S1x128x128 .f32) (a : Fin 128) :
    k0_pay8 x y (ix2 a 0) = lse (score x y a) := by
  unfold lse
  pointwise [k0_pay8]
  rw [pay4_apply, pay6_apply]

theorem pay9_apply (z : Vec Ideal S1x128x128 .f32) (k : Fin 128) (n : Fin 64) :
    k0_pay9 z (ix2 k n) = column z ⟨n.val, by have := n.isLt; omega⟩ k := by
  unfold column
  pointwise [k0_pay9]

/-- What the sampled keys' scores have added: a large negative number where the sampled token lies in the query's own
    block. -/
def bias (b : BitVec 32) (w : Vec Ideal S1x1x128 .i32) (k : Fin 128) : EReal :=
  Scalar.select (IntOp.cmpi .eq (w (ix3 0 0 k)) b) (Ideal.ofBits .f32 0xFF7FFFFF#32) 0

theorem pay12_left (b : BitVec 32) (x y z y' z' : Vec Ideal S1x128x128 .f32) (w : Vec Ideal S1x1x128 .i32) (a n : Fin 128)
    (hn : n.val < 64) :
    k0_pay12 b (k0_pay6 x y) (k0_pay7 x y z) (k0_pay8 x y) (k0_pay9 z') (k0_pay10 x y') (k0_pay11 w) (ix2 a n)
      = kernelElt (score x y a) (column z n) (fun k => score x y' a k + bias b w k) (column z' n)
          (Ideal.ofBits .f32 0x40851592#32) := by
  unfold kernelElt gap
  pointwise [k0_pay12, k0_pay11]
  rw [dif_pos hn]
  simp only [neg_inf, pay6_apply, pay7_apply, pay8_apply, pay9_apply, pay10_apply]
  rfl

theorem pay12_right (b : BitVec 32) (x y z y' z' : Vec Ideal S1x128x128 .f32) (w : Vec Ideal S1x1x128 .i32) (a n : Fin 128)
    (hn : ¬ n.val < 64) :
    k0_pay12 b (k0_pay6 x y) (k0_pay7 x y z) (k0_pay8 x y) (k0_pay9 z') (k0_pay10 x y') (k0_pay11 w) (ix2 a n) = 0 := by
  pointwise [k0_pay12, k0_pay11]
  rw [dif_neg hn]

theorem out_apply (i : grid0.Coords) (x y z y' z' : Vec Ideal S1x128x128 .f32) (w : Vec Ideal S1x1x128 .i32) (a n : Fin 128) :
    out0_6 i x y z y' z' w (ix3 0 a n)
      = k0_pay12 (BitVec.ofNat 32 (i 1).val) (k0_pay6 x y) (k0_pay7 x y z) (k0_pay8 x y) (k0_pay9 z') (k0_pay10 x y')
          (k0_pay11 w) (ix2 a n) := by
  unfold out0_6
  have h0 : (![0, 0, 0] : Fin 3 → ℕ) = fun _ => 0 := by
    funext d
    fin_cases d <;> rfl
  rw [View.canon_unit_zero h0]
  have hr : ∀ v : Vec Ideal S1x128x128 .f32, View.ld v r0_0 = v := fun v => View.ld_unit_zero h0 _ v
  have hw : ∀ v : Vec Ideal S1x1x128 .i32, View.ld v r0_1 = v := fun v => View.ld_unit_zero h0 _ v
  rw [hr, hr, hr, hr, hr, hw]
  pointwise [k0_pay1]

end Cert.Proof.AttnBlock
-- ==== Proof.AttnArray.lean ====
/-
  The attention call's output array, element by element, as one function of the arrays its blocks are cut from: the
  blocks of the 32 heads' 64 runs of 128 rows tile it.
-/
module

public import proofs.«01_k».proof.Proof.AttnBlock
public import Idealize.ShloMosaic.Lib.Pipeline.ValueKit
public import Idealize.ShloMosaic.Lib.Pipeline.Covers

@[expose] public section

set_option maxRecDepth 16384

noncomputable section

namespace Cert.Proof.AttnArray

open Idealize.ShloMosaic Idealize.ShloMosaic.TcCoe Idealize.SL.Sem
open Cert.AttnIdeal Cert.AttnIdeal.Gen Cert.Proof.AttnRow Cert.Proof.AttnBlock

/-- Key `k` of the block of row `r`. -/
def peer (r : Fin 8192) (k : Fin 128) : Fin 8192 := ⟨r.val / 128 * 128 + k.val, by have := r.isLt; have := k.isLt; omega⟩

/-- A feature lane. -/
def lane (e : Fin 64) : Fin 128 := ⟨e.val, by have := e.isLt; omega⟩

/-- The scores of row `r` of head `h` against its own block's keys. -/
def ownScore (q k : S32x8192x128.Idx → EReal) (h : Fin 32) (r : Fin 8192) (j : Fin 128) : EReal :=
  (∑ e : Fin 64, q (ix3 h r (lane e)) * k (ix3 h (peer r j) (lane e))) * Ideal.ofBits .f32 0x3E000000#32

/-- The scores of row `r` of head `h` against the sampled keys, before the bias. -/
def subScore (q : S32x8192x128.Idx → EReal) (k : S32x128x128.Idx → EReal) (h : Fin 32) (r : Fin 8192) (j : Fin 128) : EReal :=
  (∑ e : Fin 64, q (ix3 h r (lane e)) * k (ix3 h j (lane e))) * Ideal.ofBits .f32 0x3E000000#32

/-- The bias of sampled key `j` for row `r`: a large negative number where the sampled token's block is the row's. -/
def blockBias (d : S32x1x128.Idx → BitVec 32) (h : Fin 32) (r : Fin 8192) (j : Fin 128) : EReal :=
  Scalar.select (IntOp.cmpi .eq (d (ix3 h 0 j)) (BitVec.ofNat 32 (r.val / 128))) (Ideal.ofBits .f32 0xFF7FFFFF#32) 0

/-- The attention call's output at row `r` of head `h`, lane `n`. -/
def elt (q k v : S32x8192x128.Idx → EReal) (ks vs : S32x128x128.Idx → EReal) (d : S32x1x128.Idx → BitVec 32)
    (h : Fin 32) (r : Fin 8192) (n : Fin 128) : EReal :=
  if n.val < 64 then
    kernelElt (ownScore q k h r) (fun j => v (ix3 h (peer r j) n)) (fun j => subScore q ks h r j + blockBias d h r j)
      (fun j => vs (ix3 h j n)) (Ideal.ofBits .f32 0x40851592#32)
  else 0

theorem idx0 (t : Fin cfg0.N) : win0_0.index t = ![(grid0.coords t 0).val, (grid0.coords t 1).val, 0] := by
  revert t; exact (by decide +kernel : ∀ t : Fin grid0.N, win0_0.index t = ![(grid0.coords t 0).val, (grid0.coords t 1).val, 0])
theorem idx1 (t : Fin cfg0.N) : win0_1.index t = ![(grid0.coords t 0).val, (grid0.coords t 1).val, 0] := idx0 t
theorem idx2 (t : Fin cfg0.N) : win0_2.index t = ![(grid0.coords t 0).val, (grid0.coords t 1).val, 0] := idx0 t
theorem idx3 (t : Fin cfg0.N) : win0_3.index t = ![(grid0.coords t 0).val, 0, 0] := by
  revert t; exact (by decide +kernel : ∀ t : Fin grid0.N, win0_3.index t = ![(grid0.coords t 0).val, 0, 0])
theorem idx4 (t : Fin cfg0.N) : win0_4.index t = ![(grid0.coords t 0).val, 0, 0] := idx3 t
theorem idx5 (t : Fin cfg0.N) : win0_5.index t = ![(grid0.coords t 0).val, 0, 0] := idx3 t
theorem idx6 (t : Fin cfg0.N) : win0_6.index t = ![(grid0.coords t 0).val, (grid0.coords t 1).val, 0] := idx0 t

variable (m : (ℓ : Loc nD τ sig) → Buf (Elt Ideal) ℓ)

/-- The blocks of the output tile it. -/
theorem covers : (cfg0.win 6).Covers := by decide +kernel

end Cert.Proof.AttnArray
-- ==== Proof.AttnFinal.lean ====
/-
  The attention call's output array after the run is the row formula at every element.
-/
module

public import proofs.«01_k».proof.Proof.AttnArray

@[expose] public section

set_option maxRecDepth 16384

noncomputable section

namespace Cert.Proof.AttnFinal

open Idealize.ShloMosaic Idealize.ShloMosaic.TcCoe Idealize.SL.Sem
open Cert.AttnIdeal Cert.AttnIdeal.Gen Cert.Proof.AttnRow Cert.Proof.AttnBlock Cert.Proof.AttnArray

variable (m : (ℓ : Loc nD τ sig) → Buf (Elt Ideal) ℓ)

/-- The head of a grid point. -/
def head (t : Fin cfg0.N) : Fin 32 := ⟨(grid0.coords t 0).val, (grid0.coords t 0).isLt⟩

/-- The block of a grid point. -/
def blockNo (t : Fin cfg0.N) : Fin 64 := ⟨(grid0.coords t 1).val, (grid0.coords t 1).isLt⟩

/-- The row at place `a` of a grid point's block. -/
def rowAt (t : Fin cfg0.N) (a : Fin 128) : Fin 8192 :=
  ⟨(blockNo t).val * 128 + a.val, by have := (blockNo t).isLt; have := a.isLt; omega⟩

theorem blk0 (c : Dev nD) (t : Fin cfg0.N) (a e : Fin 128) :
    iblk m c 0 t (ix3 0 a e) = V m c main_arg0 (ix3 (head t) (rowAt t a) e) := by
  unfold head rowAt blockNo
  blk_ext [iblk, idx0 t]

theorem blk1 (c : Dev nD) (t : Fin cfg0.N) (a e : Fin 128) :
    iblk m c 1 t (ix3 0 a e) = V m c main_arg1 (ix3 (head t) (rowAt t a) e) := by
  unfold head rowAt blockNo
  blk_ext [iblk, idx1 t]

theorem blk2 (c : Dev nD) (t : Fin cfg0.N) (a e : Fin 128) :
    iblk m c 2 t (ix3 0 a e) = V m c main_arg2 (ix3 (head t) (rowAt t a) e) := by
  unfold head rowAt blockNo
  blk_ext [iblk, idx2 t]

theorem blk3 (c : Dev nD) (t : Fin cfg0.N) (a e : Fin 128) :
    iblk m c 3 t (ix3 0 a e) = V m c main_arg3 (ix3 (head t) a e) := by
  unfold head
  blk_ext [iblk, idx3 t]

theorem blk4 (c : Dev nD) (t : Fin cfg0.N) (a e : Fin 128) :
    iblk m c 4 t (ix3 0 a e) = V m c main_arg4 (ix3 (head t) a e) := by
  unfold head
  blk_ext [iblk, idx4 t]

theorem blk5 (c : Dev nD) (t : Fin cfg0.N) (e : Fin 128) :
    iblk m c 5 t (ix3 0 0 e) = V m c main_v1 (ix3 (head t) 0 e) := by
  unfold head
  blk_ext [iblk, idx5 t]

theorem emb6 (t : Fin cfg0.N) (a n : Fin 128) : (win0_6.blk t).view.emb (ix3 0 a n) = ix3 (head t) (rowAt t a) n := by
  unfold head rowAt blockNo
  blk_ext [idx6 t]

theorem peer_rowAt (t : Fin cfg0.N) (a k : Fin 128) : peer (rowAt t a) k = rowAt t k := by
  apply Fin.ext
  show ((blockNo t).val * 128 + a.val) / 128 * 128 + k.val = (blockNo t).val * 128 + k.val
  have := a.isLt
  omega

/-- A grid point's block of the output, element by element. -/
theorem block_elt (c : Dev nD) (t : Fin cfg0.N) (a n : Fin 128) :
    out0_6 (grid0.coords t) (iblk m c 0 t) (iblk m c 1 t) (iblk m c 2 t) (iblk m c 3 t) (iblk m c 4 t) (iblk m c 5 t) (ix3 0 a n)
      = elt (V m c main_arg0) (V m c main_arg1) (V m c main_arg2) (V m c main_arg3) (V m c main_arg4) (V m c main_v1)
          (head t) (rowAt t a) n := by
  refine (out_apply _ _ _ _ _ _ _ a n).trans ?_
  unfold elt
  by_cases hn : n.val < 64
  · rw [if_pos hn]
    refine (pay12_left _ _ _ _ _ _ _ a n hn).trans ?_
    have e1 : score (iblk m c 0 t) (iblk m c 1 t) a = ownScore (V m c main_arg0) (V m c main_arg1) (head t) (rowAt t a) := by
      funext k
      unfold score ownScore
      refine congrArg (· * _) (Finset.sum_congr rfl fun e _ => ?_)
      rw [peer_rowAt]
      exact congrArg₂ (· * ·) (blk0 m c t a (lane e)) (blk1 m c t k (lane e))
    have e2 : column (iblk m c 2 t) n = fun j => V m c main_arg2 (ix3 (head t) (peer (rowAt t a) j) n) := by
      funext k
      rw [peer_rowAt]
      exact blk2 m c t k n
    have e3 : (fun k => score (iblk m c 0 t) (iblk m c 3 t) a k + bias (BitVec.ofNat 32 (grid0.coords t 1).val) (iblk m c 5 t) k)
        = fun j => subScore (V m c main_arg0) (V m c main_arg3) (head t) (rowAt t a) j + blockBias (V m c main_v1) (head t) (rowAt t a) j := by
      funext k
      refine congrArg₂ (· + ·) ?_ ?_
      · unfold score subScore
        refine congrArg (· * _) (Finset.sum_congr rfl fun e _ => ?_)
        exact congrArg₂ (· * ·) (blk0 m c t a (lane e)) (blk3 m c t k (lane e))
      · have hb : (rowAt t a).val / 128 = (grid0.coords t 1).val := by
          show ((blockNo t).val * 128 + a.val) / 128 = (blockNo t).val
          have := a.isLt
          omega
        unfold bias blockBias
        rw [hb, blk5]
    have e4 : column (iblk m c 4 t) n = fun j => V m c main_arg4 (ix3 (head t) j n) := by
      funext k
      exact blk4 m c t k n
    rw [e1, e2, e3, e4]
  · rw [if_neg hn]
    exact pay12_right _ _ _ _ _ _ _ a n hn

theorem final (c : Dev nD) : (dats m 0 c).arrAt 6 cfg0.N
    = fun j : S32x8192x128.Idx => elt (V m c main_arg0) (V m c main_arg1) (V m c main_arg2) (V m c main_arg3)
        (V m c main_arg4) (V m c main_v1) (j 0) (j 1) (j 2) := by
  refine (dats m 0 c).arrAt_eq_of_covers 6 _ covers fun t hf y => ?_
  blk_simp
  rw [after0_6]
  obtain ⟨u, a, n, rfl⟩ : ∃ (u : Fin 1) (a n : Fin 128), y = ix3 u a n := ⟨y 0, y 1, y 2, eq_ix3 y⟩
  obtain rfl : u = 0 := Subsingleton.elim _ _
  rw [emb6]
  exact block_elt m c t a n

end Cert.Proof.AttnFinal
-- ==== Proof.AttnTail.lean ====
/-
  The host operations after the attention call: the gather that puts every row back at its token.
-/
module

public import proofs.«01_k».proof.Proof.AttnFinal
public import Idealize.ShloMosaic.Lib.StableHlo.ReadAt

@[expose] public section

set_option maxRecDepth 16384

noncomputable section

namespace Cert.Proof.AttnTail

open Idealize.ShloMosaic Idealize.ShloMosaic.TcCoe Idealize.SL.Sem
open Cert.AttnIdeal Cert.AttnIdeal.Gen Cert.Proof.AttnRow Cert.Proof.AttnBlock Cert.Proof.AttnArray

/-- The row a start word names: its number, kept inside the table of all rows. -/
def clampRow (w : BitVec 32) : Fin 262144 := ⟨min w.toInt.toNat 262143, by omega⟩

/-- The row gather read at `(a, n)`: lane `n` of the row the start word names. -/
theorem gather_wide (x : S262144x128.Idx → EReal) (i : IVec S262144x1 32) (a : Fin 262144) (n : Fin 128) :
    Host.gather gather_S262144x128_S262144x1_S262144x128_1_0_n_n_0_1_1128 x i (ix2 a n) = x (ix2 (clampRow (i (ix2 a 0))) n) := by
  generalize hd : gather_S262144x128_S262144x1_S262144x128_1_0_n_n_0_1_1128 = d
  unfold Host.gather
  refine congrArg x (funext fun e => Fin.ext ?_)
  have hstart : d.start (ix2 a n) i (0 : Fin 2) = (clampRow (i (ix2 a 0))).val := by
    subst hd
    unfold GatherDims.start
    refine (dif_pos (List.mem_singleton.mpr rfl)).trans ?_
    have hsi : gather_S262144x128_S262144x1_S262144x128_1_0_n_n_0_1_1128.siIdx (ix2 a n) ⟨List.idxOf (0 : Fin 2) gather_S262144x128_S262144x1_S262144x128_1_0_n_n_0_1_1128.startIndexMap,
        List.idxOf_lt_length_iff.2 (List.mem_singleton.mpr rfl)⟩ = ix2 a (0 : Fin 1) := by
      funext b; refine Fin.ext ?_
      match b with
      | ⟨0, _⟩ => rfl
      | ⟨1, _⟩ => rfl
    rw [hsi]
    rfl
  have hstart1 : d.start (ix2 a n) i (1 : Fin 2) = 0 := by
    subst hd
    unfold GatherDims.start
    exact dif_neg (show (1 : Fin 2) ∉ ([0] : List (Fin 2)) by decide)
  have hb : ∀ e : Fin 2, d.batchCoord (ix2 a n) e = 0 := fun e => by
    subst hd
    exact GatherDims.batchCoord_eq_zero _ _ _ List.not_mem_nil
  have ho0 : d.offCoord (ix2 a n) (0 : Fin 2) = 0 := by
    subst hd
    exact GatherDims.offCoord_eq_zero _ _ _ (fun h => ((GatherDims.mem_sKept _ _).mp h).1 (List.mem_singleton.mpr rfl))
  have ho1 : d.offCoord (ix2 a n) (1 : Fin 2) = n.val := by
    subst hd
    rfl
  match e with
  | ⟨0, _⟩ =>
    show d.start (ix2 a n) i (0 : Fin 2) + d.batchCoord (ix2 a n) (0 : Fin 2) + d.offCoord (ix2 a n) (0 : Fin 2)
      = (clampRow (i (ix2 a 0))).val
    have := hb 0
    omega
  | ⟨1, _⟩ =>
    show d.start (ix2 a n) i (1 : Fin 2) + d.batchCoord (ix2 a n) (1 : Fin 2) + d.offCoord (ix2 a n) (1 : Fin 2) = n.val
    have := hb 1
    omega

/-- The start words of the gather, one per token. -/
def starts (w : IVec S32x1x8192 32) : IVec S262144x1 32 :=
  broadcastInDim S262144x1 ![0] bcast_S262144_S262144x1_0
    (select (cmpi .slt (shapeCast _ w shapeCasts_S32x1x8192_S262144) (broadcastInDim S262144 ![] bcast_S_S262144 (constantI S_ 32 0#32)))
      (addi (shapeCast _ w shapeCasts_S32x1x8192_S262144) (broadcastInDim S262144 ![] bcast_S_S262144 (constantI S_ 32 262144#32)))
      (shapeCast _ w shapeCasts_S32x1x8192_S262144))

/-- What the last operations make of the attention call's output `x` and the token numbers `w`. -/
def tail (x : S32x8192x128.Idx → EReal) (w : IVec S32x1x8192 32) : S2x16x8192x64.Idx → EReal :=
  shapeCast _ (extractStridedSlice S262144x64 ![0, 0]
    (Host.gather gather_S262144x128_S262144x1_S262144x128_1_0_n_n_0_1_1128 (shapeCast _ x shapeCasts_S32x8192x128_S262144x128) (starts w))
    slices_S262144x128_S262144x64_0_0) shapeCasts_S262144x64_S2x16x8192x64

/-- Token `s` of head `(b, h)` as a row of the table of all rows. -/
def token (b : Fin 2) (h : Fin 16) (s : Fin 8192) : Fin 262144 :=
  ⟨b.val * 131072 + h.val * 8192 + s.val, by have := b.isLt; have := h.isLt; have := s.isLt; omega⟩

/-- The head of a row of the table. -/
def rowHead (r : Fin 262144) : Fin 32 := ⟨r.val / 8192, by have := r.isLt; omega⟩

/-- The place in its head of a row of the table. -/
def rowPlace (r : Fin 262144) : Fin 8192 := ⟨r.val % 8192, by omega⟩

theorem tail_apply (x : S32x8192x128.Idx → EReal) (w : IVec S32x1x8192 32) (b : Fin 2) (h : Fin 16) (s : Fin 8192) (n : Fin 64) :
    tail x w (ix4 b h s n) = x (ix3 (rowHead (clampRow (starts w (ix2 (token b h s) 0))))
      (rowPlace (clampRow (starts w (ix2 (token b h s) 0)))) (lane n)) := by
  have e1 : tail x w (ix4 b h s n) = Host.gather gather_S262144x128_S262144x1_S262144x128_1_0_n_n_0_1_1128
      (shapeCast _ x shapeCasts_S32x8192x128_S262144x128) (starts w) (ix2 (token b h s) (lane n)) := by
    unfold tail token lane
    generalize Host.gather gather_S262144x128_S262144x1_S262144x128_1_0_n_n_0_1_1128
      (shapeCast _ x shapeCasts_S32x8192x128_S262144x128) (starts w) = y
    pointwise
  rw [e1]
  refine (gather_wide _ _ _ _).trans ?_
  generalize clampRow (starts w (ix2 (token b h s) 0)) = r
  unfold rowHead rowPlace
  pointwise

variable (m : (ℓ : Loc nD τ sig) → Buf (Elt Ideal) ℓ)

/-- The result buffer after the last operations. -/
theorem after_tail (W : Valuation τ sig (Elt Ideal)) :
    StableHlo.after hostOps1 W (Proc.devRef .tc main_v13) = tail (W (Proc.devRef .tc main_v2)) (W (Proc.devRef .tc main_arg6)) := by
  after_reads_simp
  rfl

/-- The sign of a word. -/
def signWord (w : BitVec 32) : BitVec 32 := if w = 0 then 0 else if w.msb = true then -1 else 1

/-- The block of a token number: the quotient by 128, rounded down, as the host computes it. -/
def blockWord (w : BitVec 32) : BitVec 32 :=
  Scalar.select
    (IntOp.andi (IntOp.cmpi .ne (signWord w) (signWord 128#32)) (IntOp.cmpi .ne (IntOp.remsi .host w 128#32) 0#32))
    (IntOp.subi (IntOp.divsi .host w 128#32) 1#32)
    (IntOp.divsi .host w 128#32)

/-- The batch entry of a head. -/
def headBatch (h : Fin 32) : Fin 2 := ⟨h.val / 16, by have := h.isLt; omega⟩

/-- The head within its batch entry. -/
def headIn (h : Fin 32) : Fin 16 := ⟨h.val % 16, by omega⟩

theorem entry (c : Dev nD) (h : Fin 32) (j : Fin 128) :
    V m c main_v1 (ix3 h 0 j) = blockWord (m (c, Proc.devRef .tc main_arg5) (ix3 (headBatch h) (headIn h) j)) := by
  unfold V
  after_reads_at
  rfl

/-- The bias of sampled key `j` for row `r`, from the sampled token numbers. -/
def sampleBias (d : S2x16x128.Idx → BitVec 32) (h : Fin 32) (r : Fin 8192) (j : Fin 128) : EReal :=
  Scalar.select (IntOp.cmpi .eq (blockWord (d (ix3 (headBatch h) (headIn h) j))) (BitVec.ofNat 32 (r.val / 128)))
    (Ideal.ofBits .f32 0xFF7FFFFF#32) 0

/-- The attention of row `r` of head `h`, lane `n`. -/
def attended (q k v : S32x8192x128.Idx → EReal) (ks vs : S32x128x128.Idx → EReal) (d : S2x16x128.Idx → BitVec 32)
    (h : Fin 32) (r : Fin 8192) (n : Fin 64) : EReal :=
  kernelElt (ownScore q k h r) (fun j => v (ix3 h (peer r j) (lane n))) (fun j => subScore q ks h r j + sampleBias d h r j)
    (fun j => vs (ix3 h j (lane n))) (Ideal.ofBits .f32 0x40851592#32)

/-- The kernel's result: token `s` of head `(b, h)` takes the attention of the row its start word names. -/
def answer (q k v : S32x8192x128.Idx → EReal) (ks vs : S32x128x128.Idx → EReal) (d : S2x16x128.Idx → BitVec 32)
    (w : IVec S32x1x8192 32) : S2x16x8192x64.Idx → EReal := fun i =>
  attended q k v ks vs d (rowHead (clampRow (starts w (ix2 (token (i 0) (i 1) (i 2)) 0))))
    (rowPlace (clampRow (starts w (ix2 (token (i 0) (i 1) (i 2)) 0)))) (i 3)

/-- The output array at one of the first 64 lanes, over the arguments. -/
theorem elt_attended (c : Dev nD) (h : Fin 32) (r : Fin 8192) (n : Fin 64) :
    elt (V m c main_arg0) (V m c main_arg1) (V m c main_arg2) (V m c main_arg3) (V m c main_arg4) (V m c main_v1) h r (lane n)
      = attended (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) h r n := by
  have hb : ∀ j, blockBias (V m c main_v1) h r j = sampleBias (m ((c : Thread nD τ).loc main_arg5)) h r j := fun j => by
    unfold blockBias sampleBias
    rw [entry]
  refine (if_pos (show (lane n).val < 64 from n.isLt)).trans ?_
  unfold attended
  simp only [hb]
  rw [V_main_arg0, V_main_arg1, V_main_arg2, V_main_arg3, V_main_arg4]

/-- The result buffer after the run. -/
theorem kernel_result (c : Dev nD) :
    Pipeline.afterTail₀ cfgs (dats m) 0 (V0 m) [hostOps1] c main_v13
      = answer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  have hx : Pipeline.withArrays spec0 c (V0 m c) (fun w => (dats m 0 c).arrAt w cfg0.N) (Proc.devRef .tc main_v2)
      = (dats m 0 c).arrAt 6 cfg0.N := Pipeline.withArrays_arr spec0 winFacts0.arr_inj c (V0 m c) _ 6
  have hw : Pipeline.withArrays spec0 c (V0 m c) (fun w => (dats m 0 c).arrAt w cfg0.N) (Proc.devRef .tc main_arg6)
      = m ((c : Thread nD τ).loc main_arg6) := (Pipeline.withArrays_of_ne spec0 c (V0 m c) _ main_arg6 (by decide)).trans (V_main_arg6 m c)
  refine (after_tail (Pipeline.withArrays spec0 c (V0 m c) fun w => (dats m 0 c).arrAt w cfg0.N)).trans ?_
  rw [hx, hw, AttnFinal.final m c]
  funext i
  obtain ⟨b, h, s, n, rfl⟩ : ∃ b h s n, i = ix4 b h s n := ⟨i 0, i 1, i 2, i 3, eq_ix4 i⟩
  refine (tail_apply _ _ b h s n).trans ?_
  exact elt_attended m c _ _ n

/-- The run: the result buffer holds the answer, and the arguments are as they were. -/
theorem run_attn (ρ : Dev nD → PrngReg) :
    θ_run defs (onTc (τ := τ) (main (F := Ideal))) ⟨m, fun _ => 0, ρ⟩ (fun r => ∀ c : Dev nD,
      r.2.mem ((c.tc : Thread nD τ).loc main_v13)
        = answer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v13 (Pipeline.mem_restRefs_of main_v13 (by decide) (by decide))).trans (kernel_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.Proof.AttnTail
-- ==== Proof.AttnRef.lean ====
/-
  The attention reference read at one element: the row formula at the element's row.
-/
module

public import proofs.«01_k».proof.Proof.AttnTail
public import proofs.«01_k».proof.Proof.Gen.AttnReferenceIdeal.Read

@[expose] public section

set_option maxRecDepth 16384

noncomputable section

namespace Cert.Proof.AttnRef

open Idealize.ShloMosaic Idealize.ShloMosaic.TcCoe Idealize.SL.Sem
open Cert.AttnReferenceIdeal Cert.AttnReferenceIdeal.Gen Cert.AttnReferenceIdeal.Read
open Cert.Proof.AttnRow Cert.Proof.AttnArray

/-- A head from its batch entry and its number there. -/
def headOf (b : Fin 2) (h : Fin 16) : Fin 32 := ⟨b.val * 16 + h.val, by have := b.isLt; have := h.isLt; omega⟩

/-- A row from its block and its place there. -/
def rowOf (g : Fin 64) (a : Fin 128) : Fin 8192 := ⟨g.val * 128 + a.val, by have := g.isLt; have := a.isLt; omega⟩

variable (q k v : S32x8192x128.Idx → EReal) (ks vs : S32x128x128.Idx → EReal) (d : S2x16x128.Idx → BitVec 32)

theorem q_apply (b : Fin 2) (h : Fin 16) (s : Fin 8192) (e : Fin 64) :
    val_main_v1 (F := Ideal) q (ix4 b h s e) = q (ix3 (headOf b h) s (lane e)) := by
  unfold headOf lane
  pointwise [val_main_v1, val_main_v0]

theorem k_apply (b : Fin 2) (h : Fin 16) (s : Fin 8192) (e : Fin 64) :
    val_main_v3 (F := Ideal) k (ix4 b h s e) = k (ix3 (headOf b h) s (lane e)) := by
  unfold headOf lane
  pointwise [val_main_v3, val_main_v2]

theorem v_apply (b : Fin 2) (h : Fin 16) (s : Fin 8192) (e : Fin 64) :
    val_main_v5 (F := Ideal) v (ix4 b h s e) = v (ix3 (headOf b h) s (lane e)) := by
  unfold headOf lane
  pointwise [val_main_v5, val_main_v4]

theorem ks_apply (b : Fin 2) (h : Fin 16) (j : Fin 128) (e : Fin 64) :
    val_main_v7 (F := Ideal) ks (ix4 b h j e) = ks (ix3 (headOf b h) j (lane e)) := by
  unfold headOf lane
  pointwise [val_main_v7, val_main_v6]

theorem vs_apply (b : Fin 2) (h : Fin 16) (j : Fin 128) (e : Fin 64) :
    val_main_v9 (F := Ideal) vs (ix4 b h j e) = vs (ix3 (headOf b h) j (lane e)) := by
  unfold headOf lane
  pointwise [val_main_v9, val_main_v8]

theorem peer_rowOf (g : Fin 64) (a j : Fin 128) : peer (rowOf g a) j = rowOf g j := by
  have := a.isLt
  unfold peer rowOf
  exact Fin.ext (by simp only []; omega)

theorem own_apply (b : Fin 2) (h : Fin 16) (g : Fin 64) (a j : Fin 128) :
    val_main_v15 (F := Ideal) q k (ix5 b h g a j) = ownScore q k (headOf b h) (rowOf g a) j := by
  unfold ownScore
  pointwise [val_main_v15, val_main_v14, val_main_v13, val_main_cst, val_main_v10, val_main_v11]
  simp only [q_apply, k_apply, peer_rowOf]
  rfl

theorem top_apply (b : Fin 2) (h : Fin 16) (g : Fin 64) (a : Fin 128) :
    val_main_v17 (F := Ideal) q k (ix5 b h g a 0) = top (ownScore q k (headOf b h) (rowOf g a)) := by
  unfold top
  pointwise [val_main_v17, val_main_v16, val_main_cst_0]
  rw [AttnBlock.neg_inf]
  exact congrArg (fun f => Finset.fold max ⊥ f Finset.univ) (funext fun j => own_apply q k b h g a j)

theorem wgt_apply (b : Fin 2) (h : Fin 16) (g : Fin 64) (a j : Fin 128) :
    val_main_v20 (F := Ideal) q k (ix5 b h g a j) = wgt (ownScore q k (headOf b h) (rowOf g a)) j := by
  unfold wgt
  pointwise [val_main_v20, val_main_v19, val_main_v18]
  rw [own_apply, top_apply]

theorem tot_apply (b : Fin 2) (h : Fin 16) (g : Fin 64) (a : Fin 128) :
    val_main_v21 (F := Ideal) q k (ix4 b h g a) = tot (ownScore q k (headOf b h) (rowOf g a)) := by
  unfold tot
  refine (val_main_v21_apply q k (ix4 b h g a)).trans ?_
  rw [val_main_cst_1_apply]
  refine (congrArg₂ (· + ·) Ideal.ofBits_zero_f32 (Finset.sum_congr rfl fun j _ => ?_)).trans (zero_add _)
  have e : idx_main_v21 (ix4 b h g a) j = ix5 b h g a j := by
    funext x
    match x with | ⟨0, _⟩ => rfl | ⟨1, _⟩ => rfl | ⟨2, _⟩ => rfl | ⟨3, _⟩ => rfl | ⟨4, _⟩ => rfl
  rw [e]
  exact wgt_apply q k b h g a j

end Cert.Proof.AttnRef
-- ==== Proof.AttnRefMix.lean ====
/-
  The attention reference read at one element: the row formula at the element's row.
-/
module

public import proofs.«01_k».proof.Proof.AttnRef

@[expose] public section

set_option maxRecDepth 16384

noncomputable section

namespace Cert.Proof.AttnRefMix

open Idealize.ShloMosaic Idealize.ShloMosaic.TcCoe Idealize.SL.Sem
open Cert.AttnReferenceIdeal Cert.AttnReferenceIdeal.Gen Cert.AttnReferenceIdeal.Read
open Cert.Proof.AttnRow Cert.Proof.AttnArray Cert.Proof.AttnTail Cert.Proof.AttnRef

variable (q k v : S32x8192x128.Idx → EReal) (ks vs : S32x128x128.Idx → EReal) (d : S2x16x128.Idx → BitVec 32)

/-- A maximum and the logarithm of a total, as the host adds them. -/
theorem add_log (x y : EReal) :
    FloatOps.addf (F := Ideal) (φ := .f32) x (FloatOps.hostUnary (F := Ideal) (φ := .f32) .log y) = x + Ideal.log y := rfl

theorem lse_apply (b : Fin 2) (h : Fin 16) (g : Fin 64) (a : Fin 128) :
    val_main_v24 (F := Ideal) q k (ix5 b h g a 0) = lse (ownScore q k (headOf b h) (rowOf g a)) := by
  have e : idx_main_v22 (ix5 b h g a 0) = ix4 b h g a := by
    funext x
    match x with | ⟨0, _⟩ => rfl | ⟨1, _⟩ => rfl | ⟨2, _⟩ => rfl | ⟨3, _⟩ => rfl
  rw [val_main_v24_apply, val_main_v23_apply, val_main_v22_apply, e, top_apply, tot_apply]
  exact add_log _ _

theorem attn_apply (b : Fin 2) (h : Fin 16) (g : Fin 64) (a : Fin 128) (n : Fin 64) :
    val_main_v28 (F := Ideal) q k v (ix5 b h g a n)
      = ∑ j, Ideal.exp (ownScore q k (headOf b h) (rowOf g a) j - lse (ownScore q k (headOf b h) (rowOf g a)))
          * v (ix3 (headOf b h) (rowOf g j) (lane n)) := by
  pointwise [val_main_v28, val_main_v27, val_main_v26, val_main_v25, val_main_v12]
  simp only [own_apply, lse_apply, v_apply]
  rfl

/-- A row number's block, as the host computes it, is its quotient by 128. -/
theorem blockWord_row (s : Fin 8192) : blockWord (BitVec.ofNat 32 s.val) = BitVec.ofNat 32 (s.val / 128) := by
  revert s
  decide +kernel

theorem rowBlock_apply (s : Fin 8192) : val_main_v31 (F := Ideal) (ix4 0 0 s 0) = BitVec.ofNat 32 (s.val / 128) := by
  rw [← blockWord_row]
  pointwise [val_main_v31, val_main_call0_v13, val_main_call0_v12, val_main_call0_c_0, val_main_call0_v11, val_main_call0_v10, val_main_call0_v9,
    val_main_call0_c, val_main_call0_v8, val_main_call0_v7, val_main_call0_v6, val_main_call0_v5, val_main_call0_v4, val_main_call0_v3,
    val_main_call0_v2, val_main_call0_v1, val_main_call0_v0, val_main_c, val_main_v30, val_main_v29]
  rfl

theorem sampleBlock_apply (b : Fin 2) (h : Fin 16) (j : Fin 128) :
    val_main_v33 (F := Ideal) d (ix4 b h 0 j) = blockWord (d (ix3 b h j)) := by
  pointwise [val_main_v33, val_main_call1_v13, val_main_call1_v12, val_main_call1_c_0, val_main_call1_v11, val_main_call1_v10, val_main_call1_v9,
    val_main_call1_c, val_main_call1_v8, val_main_call1_v7, val_main_call1_v6, val_main_call1_v5, val_main_call1_v4, val_main_call1_v3,
    val_main_call1_v2, val_main_call1_v1, val_main_call1_v0, val_main_c_2, val_main_v32]
  rfl

theorem headBatch_headOf (b : Fin 2) (h : Fin 16) : headBatch (headOf b h) = b := by
  have := h.isLt
  unfold headBatch headOf
  exact Fin.ext (by simp only []; omega)

theorem headIn_headOf (b : Fin 2) (h : Fin 16) : headIn (headOf b h) = h := by
  have := h.isLt
  unfold headIn headOf
  exact Fin.ext (by simp only []; omega)

/-- Equality of words, as a bit, reads the same either way round. -/
theorem cmpi_eq_comm (x y : BitVec 32) : IntOp.cmpi .eq x y = IntOp.cmpi .eq y x := by
  unfold IntOp.cmpi
  exact congrArg BitVec.ofBool (Bool.eq_iff_iff.mpr (by rw [beq_iff_eq, beq_iff_eq]; exact eq_comm))

theorem bias_apply (b : Fin 2) (h : Fin 16) (s : Fin 8192) (j : Fin 128) :
    val_main_v37 (F := Ideal) d (ix4 b h s j) = sampleBias d (headOf b h) s j := by
  unfold sampleBias
  rw [headBatch_headOf, headIn_headOf, cmpi_eq_comm]
  pointwise [val_main_v37, val_main_v36, val_main_v35, val_main_v34, val_main_call2_v0, val_main_call2_v1, val_main_cst_3, val_main_cst_4]
  rw [rowBlock_apply, sampleBlock_apply]

/-- The scores of a row against the sampled keys, with the bias. -/
def sampled (h : Fin 32) (r : Fin 8192) (j : Fin 128) : EReal := subScore q ks h r j + sampleBias d h r j

theorem sub_apply (b : Fin 2) (h : Fin 16) (s : Fin 8192) (j : Fin 128) :
    val_main_v40 (F := Ideal) q ks (ix4 b h s j) = subScore q ks (headOf b h) s j := by
  unfold subScore
  pointwise [val_main_v40, val_main_v39, val_main_v38, val_main_cst_5]
  simp only [q_apply, ks_apply]

theorem sampled_apply (b : Fin 2) (h : Fin 16) (s : Fin 8192) (j : Fin 128) :
    val_main_v41 (F := Ideal) q ks d (ix4 b h s j) = sampled q ks d (headOf b h) s j := by
  rw [val_main_v41_apply, sub_apply, bias_apply]
  exact Ideal.addf_def _ _

theorem sampledTop_apply (b : Fin 2) (h : Fin 16) (s : Fin 8192) :
    val_main_v43 (F := Ideal) q ks d (ix4 b h s 0) = top (sampled q ks d (headOf b h) s) := by
  unfold top
  pointwise [val_main_v43, val_main_v42, val_main_cst_6]
  rw [AttnBlock.neg_inf]
  exact congrArg (fun f => Finset.fold max ⊥ f Finset.univ) (funext fun j => sampled_apply q ks d b h s j)

theorem sampledWgt_apply (b : Fin 2) (h : Fin 16) (s : Fin 8192) (j : Fin 128) :
    val_main_v46 (F := Ideal) q ks d (ix4 b h s j) = wgt (sampled q ks d (headOf b h) s) j := by
  unfold wgt
  pointwise [val_main_v46, val_main_v45, val_main_v44]
  rw [sampled_apply, sampledTop_apply]

theorem sampledTot_apply (b : Fin 2) (h : Fin 16) (s : Fin 8192) :
    val_main_v47 (F := Ideal) q ks d (ix3 b h s) = tot (sampled q ks d (headOf b h) s) := by
  unfold tot
  refine (val_main_v47_apply q ks d (ix3 b h s)).trans ?_
  rw [val_main_cst_7_apply]
  refine (congrArg₂ (· + ·) Ideal.ofBits_zero_f32 (Finset.sum_congr rfl fun j _ => ?_)).trans (zero_add _)
  have e : idx_main_v47 (ix3 b h s) j = ix4 b h s j := by
    funext x
    match x with | ⟨0, _⟩ => rfl | ⟨1, _⟩ => rfl | ⟨2, _⟩ => rfl | ⟨3, _⟩ => rfl
  rw [e]
  exact sampledWgt_apply q ks d b h s j

theorem sampledLse_apply (b : Fin 2) (h : Fin 16) (s : Fin 8192) :
    val_main_v50 (F := Ideal) q ks d (ix4 b h s 0) = lse (sampled q ks d (headOf b h) s) := by
  have e : idx_main_v48 (ix4 b h s 0) = ix3 b h s := by
    funext x
    match x with | ⟨0, _⟩ => rfl | ⟨1, _⟩ => rfl | ⟨2, _⟩ => rfl
  rw [val_main_v50_apply, val_main_v49_apply, val_main_v48_apply, e, sampledTop_apply, sampledTot_apply]
  exact add_log _ _

theorem sampledAttn_apply (b : Fin 2) (h : Fin 16) (s : Fin 8192) (n : Fin 64) :
    val_main_v54 (F := Ideal) q ks vs d (ix4 b h s n)
      = ∑ j, Ideal.exp (sampled q ks d (headOf b h) s j - lse (sampled q ks d (headOf b h) s)) * vs (ix3 (headOf b h) j (lane n)) := by
  pointwise [val_main_v54, val_main_v53, val_main_v52, val_main_v51]
  simp only [sampled_apply, sampledLse_apply, vs_apply]

end Cert.Proof.AttnRefMix
-- ==== Proof.AttnRefElt.lean ====
/-
  The attention reference's result: the row formula at the row a token's rank names.
-/
module

public import proofs.«01_k».proof.Proof.AttnRefMix

@[expose] public section

set_option maxRecDepth 16384

noncomputable section

namespace Cert.Proof.AttnRefElt

open Idealize.ShloMosaic Idealize.ShloMosaic.TcCoe Idealize.SL.Sem
open Cert.AttnReferenceIdeal Cert.AttnReferenceIdeal.Gen Cert.AttnReferenceIdeal.Read
open Cert.Proof.AttnRow Cert.Proof.AttnArray Cert.Proof.AttnTail Cert.Proof.AttnRef Cert.Proof.AttnRefMix

variable (q k v : S32x8192x128.Idx → EReal) (ks vs : S32x128x128.Idx → EReal) (d : S2x16x128.Idx → BitVec 32)

/-- The block of a row. -/
def blockOf (s : Fin 8192) : Fin 64 := ⟨s.val / 128, by have := s.isLt; omega⟩

/-- The place of a row in its block. -/
def placeOf (s : Fin 8192) : Fin 128 := ⟨s.val % 128, by omega⟩

theorem rowOf_blockOf (s : Fin 8192) : rowOf (blockOf s) (placeOf s) = s := by
  unfold rowOf blockOf placeOf
  exact Fin.ext (by simp only []; omega)

theorem ownLse_apply (b : Fin 2) (h : Fin 16) (s : Fin 8192) :
    val_main_v58 (F := Ideal) q k (ix4 b h s 0) = lse (ownScore q k (headOf b h) s) := by
  have hx := lse_apply q k b h (blockOf s) (placeOf s)
  rw [rowOf_blockOf] at hx
  rw [← hx]
  unfold val_main_v58 blockOf placeOf
  generalize val_main_v24 (F := Ideal) q k = x
  pointwise

theorem ownAttn_apply (b : Fin 2) (h : Fin 16) (s : Fin 8192) (n : Fin 64) :
    val_main_v57 (F := Ideal) q k v (ix4 b h s n)
      = ∑ j, Ideal.exp (ownScore q k (headOf b h) s j - lse (ownScore q k (headOf b h) s)) * v (ix3 (headOf b h) (peer s j) (lane n)) := by
  have hx := attn_apply q k v b h (blockOf s) (placeOf s) n
  rw [rowOf_blockOf] at hx
  refine Eq.trans ?_ hx
  unfold val_main_v57 blockOf placeOf
  generalize val_main_v28 (F := Ideal) q k v = x
  pointwise

/-- The gap of the two log-sum-exps, as the reference takes it. -/
theorem gap_apply (b : Fin 2) (h : Fin 16) (s : Fin 8192) :
    val_main_v59 (F := Ideal) q k ks d (ix4 b h s 0)
      = gap (ownScore q k (headOf b h) s) (sampled q ks d (headOf b h) s) (Ideal.ofBits .f32 0x40851592#32) := by
  rw [val_main_v59_apply, val_main_v56_apply, val_main_v55_apply, val_main_cst_8_apply, sampledLse_apply, ownLse_apply]
  rfl

/-- The share of the row's own block, from the gap. -/
theorem share_of (x : EReal) :
    FloatOps.hostDivf (F := Ideal) (φ := .f32) (FloatOps.ofBits .f32 0x3F800000#32)
      (FloatOps.addf (FloatOps.ofBits .f32 0x3F800000#32) (FloatOps.hostUnary (F := Ideal) (φ := .f32) .exp x))
      = Ideal.div 1 (1 + Ideal.exp x) := by
  have h1 : (FloatOps.ofBits (F := Ideal) .f32 0x3F800000#32) = (1 : EReal) := Ideal.ofBits_one_f32
  rw [h1]
  rfl

theorem share_apply (b : Fin 2) (h : Fin 16) (s : Fin 8192) :
    val_main_v64 (F := Ideal) q k ks d (ix4 b h s 0)
      = Ideal.div 1 (1 + Ideal.exp (gap (ownScore q k (headOf b h) s) (sampled q ks d (headOf b h) s) (Ideal.ofBits .f32 0x40851592#32))) := by
  rw [val_main_v64_apply, val_main_v63_apply, val_main_cst_10_apply, val_main_v62_apply, val_main_v61_apply, val_main_cst_9_apply,
    val_main_v60_apply, gap_apply]
  exact share_of _

/-- The mix of the two attentions, from the share. -/
theorem mix_of (p x y : EReal) :
    FloatOps.addf (F := Ideal) (φ := .f32) (FloatOps.mulf p x)
      (FloatOps.mulf (FloatOps.subf (F := Ideal) (φ := .f32) (FloatOps.ofBits .f32 0x3F800000#32) p) y) = p * x + (1 - p) * y := by
  have h1 : (FloatOps.ofBits (F := Ideal) .f32 0x3F800000#32) = (1 : EReal) := Ideal.ofBits_one_f32
  rw [h1]
  rfl

theorem mixed_apply (b : Fin 2) (h : Fin 16) (s : Fin 8192) (n : Fin 64) :
    val_main_v71 (F := Ideal) q k v ks vs d (ix4 b h s n)
      = referenceElt (ownScore q k (headOf b h) s) (fun j => v (ix3 (headOf b h) (peer s j) (lane n)))
        (sampled q ks d (headOf b h) s) (fun j => vs (ix3 (headOf b h) j (lane n))) (Ideal.ofBits .f32 0x40851592#32) := by
  have e5 : idx_main_v65 (ix4 b h s n) = ix4 b h s 0 := by
    funext x
    match x with | ⟨0, _⟩ => rfl | ⟨1, _⟩ => rfl | ⟨2, _⟩ => rfl | ⟨3, _⟩ => rfl
  have e9 : idx_main_v69 (ix4 b h s n) = ix4 b h s 0 := by
    funext x
    match x with | ⟨0, _⟩ => rfl | ⟨1, _⟩ => rfl | ⟨2, _⟩ => rfl | ⟨3, _⟩ => rfl
  unfold referenceElt
  rw [val_main_v71_apply, val_main_v66_apply, val_main_v70_apply, val_main_v65_apply, val_main_v69_apply, e5, e9, val_main_v68_apply,
    val_main_v67_apply, val_main_cst_11_apply, share_apply, ownAttn_apply, sampledAttn_apply]
  exact mix_of _ _ _

/-- The row gather read at `(a, n)`: lane `n` of the row the start word names. -/
theorem gather_narrow (x : S262144x64.Idx → EReal) (i : IVec S262144x1 32) (a : Fin 262144) (n : Fin 64) :
    Host.gather gather_S262144x64_S262144x1_S262144x64_1_0_n_n_0_1_164 x i (ix2 a n) = x (ix2 (clampRow (i (ix2 a 0))) n) := by
  generalize hd : gather_S262144x64_S262144x1_S262144x64_1_0_n_n_0_1_164 = d
  unfold Host.gather
  refine congrArg x (funext fun e => Fin.ext ?_)
  have hstart : d.start (ix2 a n) i (0 : Fin 2) = (clampRow (i (ix2 a 0))).val := by
    subst hd
    unfold GatherDims.start
    refine (dif_pos (List.mem_singleton.mpr rfl)).trans ?_
    have hsi : gather_S262144x64_S262144x1_S262144x64_1_0_n_n_0_1_164.siIdx (ix2 a n) ⟨List.idxOf (0 : Fin 2) gather_S262144x64_S262144x1_S262144x64_1_0_n_n_0_1_164.startIndexMap,
        List.idxOf_lt_length_iff.2 (List.mem_singleton.mpr rfl)⟩ = ix2 a (0 : Fin 1) := by
      funext b; refine Fin.ext ?_
      match b with
      | ⟨0, _⟩ => rfl
      | ⟨1, _⟩ => rfl
    rw [hsi]
    rfl
  have hstart1 : d.start (ix2 a n) i (1 : Fin 2) = 0 := by
    subst hd
    unfold GatherDims.start
    exact dif_neg (show (1 : Fin 2) ∉ ([0] : List (Fin 2)) by decide)
  have hb : ∀ e : Fin 2, d.batchCoord (ix2 a n) e = 0 := fun e => by
    subst hd
    exact GatherDims.batchCoord_eq_zero _ _ _ List.not_mem_nil
  have ho0 : d.offCoord (ix2 a n) (0 : Fin 2) = 0 := by
    subst hd
    exact GatherDims.offCoord_eq_zero _ _ _ (fun h => ((GatherDims.mem_sKept _ _).mp h).1 (List.mem_singleton.mpr rfl))
  have ho1 : d.offCoord (ix2 a n) (1 : Fin 2) = n.val := by
    subst hd
    rfl
  match e with
  | ⟨0, _⟩ =>
    show d.start (ix2 a n) i (0 : Fin 2) + d.batchCoord (ix2 a n) (0 : Fin 2) + d.offCoord (ix2 a n) (0 : Fin 2)
      = (clampRow (i (ix2 a 0))).val
    have := hb 0
    omega
  | ⟨1, _⟩ =>
    show d.start (ix2 a n) i (1 : Fin 2) + d.batchCoord (ix2 a n) (1 : Fin 2) + d.offCoord (ix2 a n) (1 : Fin 2) = n.val
    have := hb 1
    omega

/-- The reference's start words are the kernel's. -/
theorem starts_eq (w : S32x1x8192.Idx → BitVec 32) : val_main_v79 (F := Ideal) w = starts w := rfl

/-- A row of the table is the token its head and place name. -/
theorem headOf_row (r : Fin 262144) : headOf ⟨r.val / 131072, by have := r.isLt; omega⟩ ⟨r.val / 8192 % 16, by omega⟩ = rowHead r := by
  unfold headOf rowHead
  exact Fin.ext (by simp only []; omega)

theorem table_apply (r : Fin 262144) (n : Fin 64) :
    val_main_v72 (F := Ideal) q k v ks vs d (ix2 r n)
      = referenceElt (ownScore q k (rowHead r) (rowPlace r)) (fun j => v (ix3 (rowHead r) (peer (rowPlace r) j) (lane n)))
        (sampled q ks d (rowHead r) (rowPlace r)) (fun j => vs (ix3 (rowHead r) j (lane n))) (Ideal.ofBits .f32 0x40851592#32) := by
  have hx := mixed_apply q k v ks vs d ⟨r.val / 131072, by have := r.isLt; omega⟩ ⟨r.val / 8192 % 16, by omega⟩ (rowPlace r) n
  rw [headOf_row] at hx
  refine Eq.trans ?_ hx
  unfold val_main_v72 rowPlace
  generalize val_main_v71 (F := Ideal) q k v ks vs d = x
  pointwise

/-- The reference's result, one element. -/
theorem result_apply (w : S32x1x8192.Idx → BitVec 32) (b : Fin 2) (h : Fin 16) (s : Fin 8192) (n : Fin 64) :
    val_main_v81 (F := Ideal) q k v ks vs d w (ix4 b h s n)
      = val_main_v72 (F := Ideal) q k v ks vs d (ix2 (clampRow (starts w (ix2 (token b h s) 0))) n) := by
  refine Eq.trans ?_ (gather_narrow (val_main_v72 (F := Ideal) q k v ks vs d) (starts w) (token b h s) n)
  unfold val_main_v81 val_main_v80 token
  rw [starts_eq]
  generalize Host.gather gather_S262144x64_S262144x1_S262144x64_1_0_n_n_0_1_164 (val_main_v72 (F := Ideal) q k v ks vs d) (starts w) = x
  pointwise

end Cert.Proof.AttnRefElt
-- ==== Proof.AttnEqual.lean ====
/-
  The attention kernel's result is the reference's where the query and the sampled keys are real numbers.
-/
module

public import proofs.«01_k».proof.Defs
public import proofs.«01_k».proof.Proof.AttnRefElt
public import Idealize.ShloMosaic.Lib.ReduceAll
public import Idealize.ShloMosaic.Lib.Affine
public import proofs.«01_k».proof.Proof.Gen.Pre_floats_finite

@[expose] public section

set_option maxRecDepth 16384

noncomputable section

namespace Cert.Proof.AttnEqual

open Idealize.ShloMosaic
open Cert.Proof.AttnRow Cert.Proof.AttnArray Cert.Proof.AttnTail Cert.Proof.AttnRefMix Cert.Proof.AttnRefElt
open Cert.Pre_floats_finite Cert.Pre_floats_finite.Gen

/-- A pattern whose exponent is not all ones stands for a real number. -/
theorem literal_real (b : BitVec 32) (h : ¬ (b.extractLsb' 23 8).toNat = 2 ^ 8 - 1) : ∃ r : ℝ, Ideal.ofBits .f32 b = (r : EReal) := by
  unfold Ideal.ofBits Ideal.ieee
  dsimp only
  rw [if_neg h]
  split
  · exact ⟨_, rfl⟩
  · exact ⟨_, rfl⟩

theorem scale_real : ∃ r : ℝ, Ideal.ofBits .f32 0x3E000000#32 = (r : EReal) := literal_real _ (by decide)
theorem low_real : ∃ r : ℝ, Ideal.ofBits .f32 0xFF7FFFFF#32 = (r : EReal) := literal_real _ (by decide)
theorem weight_real : ∃ r : ℝ, Ideal.ofBits .f32 0x40851592#32 = (r : EReal) := literal_real _ (by decide)

theorem pos_inf : Ideal.ofBits .f32 0x7F800000#32 = ⊤ := by simp [Ideal.ofBits, Ideal.ieee]

/-- A number whose absolute value is below infinity is real. -/
theorem real_of_abs (x : EReal)
    (h : FloatOps.cmpf (F := Ideal) (φ := .f32) .olt (FloatOps.hostAbsf (F := Ideal) (φ := .f32) x) (FloatOps.ofBits .f32 0x7F800000#32) = 1#1) :
    ∃ r : ℝ, x = (r : EReal) := by
  have h' : max x (-x) < ⊤ := by
    have e : (FloatOps.ofBits (F := Ideal) .f32 0x7F800000#32) = (⊤ : EReal) := pos_inf
    rw [e] at h
    have h2 : BitVec.ofBool (decide (max x (-x) < ⊤)) = 1#1 := h
    by_contra hn
    rw [decide_eq_false hn] at h2
    exact absurd h2 (by decide)
  induction x with
  | bot => exact absurd h' (by simp)
  | top => exact absurd h' (by simp)
  | coe r => exact ⟨r, rfl⟩

/-- What the precondition gives: every element of the query and of the sampled keys is a real number. -/
theorem reals (q k v : S32x8192x128.Idx → EReal) (ks vs : S32x128x128.Idx → EReal) (d : IVec S2x16x128 32) (w : IVec S32x1x8192 32)
    (h : fn (F := Ideal) q k v ks vs d w = fun _ => 1#1) :
    (∀ j, ∃ r : ℝ, q j = (r : EReal)) ∧ ∀ j, ∃ r : ℝ, ks j = (r : EReal) := by
  have : Subsingleton S_.Idx := ⟨fun a b => funext fun i => i.elim0⟩
  have e := congrFun h (fun i => i.elim0)
  dsimp only [fn] at e
  obtain ⟨e1, e2⟩ := IntOp.andi_eq_one.1 e
  exact ⟨fun j => real_of_abs _ (Host.reduce_andi_all _ _ _ _ _ e1 j), fun j => real_of_abs _ (Host.reduce_andi_all _ _ _ _ _ e2 j)⟩

/-- A sum of products of reals is real. -/
theorem sum_real (x y : Fin 64 → EReal) (hx : ∀ e, ∃ r : ℝ, x e = (r : EReal)) (hy : ∀ e, ∃ r : ℝ, y e = (r : EReal)) :
    ∃ r : ℝ, ∑ e, x e * y e = (r : EReal) := by
  choose f hf using hx
  choose g hg using hy
  refine ⟨∑ e, f e * g e, ?_⟩
  simp only [hf, hg]
  simp only [← EReal.coe_mul]
  exact (map_sum (⟨⟨Real.toEReal, EReal.coe_zero⟩, EReal.coe_add⟩ : ℝ →+ EReal) _ _).symm

theorem sampled_real (q : S32x8192x128.Idx → EReal) (ks : S32x128x128.Idx → EReal) (d : IVec S2x16x128 32)
    (hq : ∀ j, ∃ r : ℝ, q j = (r : EReal)) (hk : ∀ j, ∃ r : ℝ, ks j = (r : EReal)) (h : Fin 32) (r : Fin 8192) (j : Fin 128) :
    ∃ x : ℝ, sampled q ks d h r j = (x : EReal) := by
  obtain ⟨a, ha⟩ := sum_real (fun e => q (ix3 h r (lane e))) (fun e => ks (ix3 h j (lane e))) (fun _ => hq _) (fun _ => hk _)
  obtain ⟨s, hs⟩ := scale_real
  obtain ⟨l, hl⟩ := low_real
  have hb : ∃ b : ℝ, sampleBias d h r j = (b : EReal) := by
    unfold sampleBias Scalar.select
    split
    · exact ⟨l, hl⟩
    · exact ⟨0, rfl⟩
  obtain ⟨b, hb⟩ := hb
  unfold sampled subScore
  rw [hb, hs, ha]
  exact ⟨a * s + b, by push_cast; rfl⟩

/-- The kernel's result is the reference's. -/
theorem answer_eq (q k v : S32x8192x128.Idx → EReal) (ks vs : S32x128x128.Idx → EReal) (d : IVec S2x16x128 32) (w : IVec S32x1x8192 32)
    (h : fn (F := Ideal) q k v ks vs d w = fun _ => 1#1) :
    Cert.AttnReferenceIdeal.Read.val_main_v81 (F := Ideal) q k v ks vs d w = answer q k v ks vs d w := by
  obtain ⟨hq, hk⟩ := reals q k v ks vs d w h
  obtain ⟨x, hx⟩ := weight_real
  funext i
  obtain ⟨b, g, s, n, rfl⟩ : ∃ b g s n, i = ix4 b g s n := ⟨i 0, i 1, i 2, i 3, eq_ix4 i⟩
  refine (result_apply q k v ks vs d w b g s n).trans ((table_apply q k v ks vs d _ n).trans ?_)
  refine Eq.trans ?_ (show attended q k v ks vs d _ _ n = answer q k v ks vs d w (ix4 b g s n) from rfl)
  unfold attended
  rw [hx]
  exact (elt_eq _ _ _ _ x (sampled_real q ks d hq hk _ _)).symm

end Cert.Proof.AttnEqual

end
-- ==== Proof.PadEqual.lean ====
/-
  The padding call: its output array is the operand's rows with 64 zero lanes after the 64 features, and so is the host's
  padding of the same rows.
-/
module

public import proofs.«01_k».proof.Proof.Gen.PadIdeal.Frame
public import proofs.«01_k».proof.Proof.Gen.PadReferenceIdeal.Read
public import Idealize.ShloMosaic.Lib.Pointwise
public import Idealize.ShloMosaic.Lib.Pipeline.ValueKit
public import Idealize.ShloMosaic.Lib.Pipeline.Covers
public import Idealize.ShloMosaic.Lib.StableHlo.ReadAt

@[expose] public section

set_option maxRecDepth 16384

noncomputable section

namespace Cert.Proof.PadEqual

open Idealize.ShloMosaic Idealize.ShloMosaic.TcCoe Idealize.SL.Sem
open Cert.PadIdeal Cert.PadIdeal.Gen

/-- Lane `n` of row `r` of head `h`: the operand's feature below 64, zero from there on. -/
def padded (x : S32x8192x64.Idx → EReal) (h : Fin 32) (r : Fin 8192) (n : Fin 128) : EReal :=
  if hn : n.val < 64 then x (ix3 h r ⟨n.val, hn⟩) else 0

/-- What the body leaves at one place of a block. -/
theorem out_apply (x : Vec Ideal S1x512x64 .f32) (a : Fin 512) (n : Fin 128) :
    out0_1 x (ix3 0 a n) = if hn : n.val < 64 then x (ix3 0 a ⟨n.val, hn⟩) else 0 := by
  unfold out0_1
  have h0 : (![0, 0, 0] : Fin 3 → ℕ) = fun _ => 0 := by
    funext d
    fin_cases d <;> rfl
  rw [View.canon_unit_zero h0, View.ld_unit_zero h0]
  by_cases hn : n.val < 64
  · rw [dif_pos hn]
    pointwise [k0_pay1]
    rw [dif_pos hn]
  · rw [dif_neg hn]
    pointwise [k0_pay1]
    rw [dif_neg hn]

theorem idx0 (t : Fin cfg0.N) : win0_0.index t = ![(grid0.coords t 0).val, (grid0.coords t 1).val, 0] := by
  revert t; exact (by decide +kernel : ∀ t : Fin grid0.N, win0_0.index t = ![(grid0.coords t 0).val, (grid0.coords t 1).val, 0])
theorem idx1 (t : Fin cfg0.N) : win0_1.index t = ![(grid0.coords t 0).val, (grid0.coords t 1).val, 0] := idx0 t

/-- The head of a grid point. -/
def head (t : Fin cfg0.N) : Fin 32 := ⟨(grid0.coords t 0).val, (grid0.coords t 0).isLt⟩

/-- The run of 512 rows of a grid point. -/
def runNo (t : Fin cfg0.N) : Fin 16 := ⟨(grid0.coords t 1).val, (grid0.coords t 1).isLt⟩

/-- The row at place `a` of a grid point's block. -/
def rowAt (t : Fin cfg0.N) (a : Fin 512) : Fin 8192 :=
  ⟨(runNo t).val * 512 + a.val, by have := (runNo t).isLt; have := a.isLt; omega⟩

variable (m : (ℓ : Loc nD τ sig) → Buf (Elt Ideal) ℓ)

theorem blk0 (c : Dev nD) (t : Fin cfg0.N) (a : Fin 512) (e : Fin 64) :
    iblk m c 0 t (ix3 0 a e) = V m c main_v0 (ix3 (head t) (rowAt t a) e) := by
  unfold head rowAt runNo
  blk_ext [iblk, idx0 t]

theorem emb1 (t : Fin cfg0.N) (a : Fin 512) (n : Fin 128) : (win0_1.blk t).view.emb (ix3 0 a n) = ix3 (head t) (rowAt t a) n := by
  unfold head rowAt runNo
  blk_ext [idx1 t]

/-- The blocks of the output tile it. -/
theorem covers : (cfg0.win 1).Covers := by decide +kernel

/-- The output array after the run. -/
theorem final (c : Dev nD) :
    (dats m 0 c).arrAt 1 cfg0.N = fun j : S32x8192x128.Idx => padded (V m c main_v0) (j 0) (j 1) (j 2) := by
  refine (dats m 0 c).arrAt_eq_of_covers 1 _ covers fun t hf y => ?_
  blk_simp
  rw [after0_1]
  obtain ⟨u, a, n, rfl⟩ : ∃ (u : Fin 1) (a : Fin 512) (n : Fin 128), y = ix3 u a n := ⟨y 0, y 1, y 2, eq_ix3 y⟩
  obtain rfl : u = 0 := Subsingleton.elim _ _
  rw [emb1]
  refine (out_apply _ a n).trans ?_
  show _ = padded (V m c main_v0) (head t) (rowAt t a) n
  unfold padded
  by_cases hn : n.val < 64
  · rw [dif_pos hn, dif_pos hn]
    exact blk0 m c t a _
  · rw [dif_neg hn, dif_neg hn]

/-- The operand as the call finds it: the argument's rows, its two leading axes as one. -/
theorem entry (c : Dev nD) :
    V m c main_v0 = shapeCast S32x8192x64 (m ((c : Thread nD τ).loc main_arg0)) shapeCasts_S2x16x8192x64_S32x8192x64 := by
  unfold V
  after_reads_simp
  rfl

/-- The run: the result buffer holds the padded rows, and the argument is as it was. -/
theorem run_pad (ρ : Dev nD → PrngReg) :
    θ_run defs (onTc (τ := τ) (main (F := Ideal))) ⟨m, fun _ => 0, ρ⟩ (fun r => ∀ c : Dev nD,
      r.2.mem ((c.tc : Thread nD τ).loc main_v1) = (fun j : S32x8192x128.Idx => padded
          (shapeCast S32x8192x64 (m ((c : Thread nD τ).loc main_arg0)) shapeCasts_S2x16x8192x64_S32x8192x64) (j 0) (j 1) (j 2))
      ∧ r.2.mem ((c.tc : Thread nD τ).loc main_arg0) = m ((c.tc : Thread nD τ).loc main_arg0)) :=
  (θ_run defs _ _).mono (fun _ h c =>
    ⟨((h c).1 1).trans ((final m c).trans (by rw [entry])),
      ((h c).2 main_arg0 (Pipeline.mem_restRefs_of main_arg0 (by decide) (by decide))).trans (V_main_arg0 m c)⟩)
    (run_main m ρ)

/-- The integer zero, read as a float, is zero. -/
theorem zero_word : FloatOps.sitofp (F := Ideal) .f32 (0#32) = (0 : EReal) := by
  show (((0#32 : BitVec 32).toInt : ℝ) : EReal) = 0
  simp

/-- The reference's result is the padded rows. -/
theorem reference_eq (x : S2x16x8192x64.Idx → EReal) :
    Cert.PadReferenceIdeal.Read.val_main_v1 (F := Ideal) x
      = fun j : S32x8192x128.Idx => padded (shapeCast S32x8192x64 x shapeCasts_S2x16x8192x64_S32x8192x64) (j 0) (j 1) (j 2) := by
  funext j
  obtain ⟨h, r, n, rfl⟩ : ∃ (h : Fin 32) (r : Fin 8192) (n : Fin 128), j = ix3 h r n := ⟨j 0, j 1, j 2, eq_ix3 j⟩
  show _ = padded _ h r n
  unfold padded Cert.PadReferenceIdeal.Read.val_main_v1 Cert.PadReferenceIdeal.Read.val_main_v0
  generalize hx : shapeCast S32x8192x64 x shapeCasts_S2x16x8192x64_S32x8192x64 = y
  by_cases hn : n.val < 64
  · rw [dif_pos hn]
    refine (pad_apply _ _ _ _ _ _ _ _).trans ((dif_pos fun a => ?_).trans (congrArg y ?_))
    · match a with
      | ⟨0, _⟩ => exact ⟨Nat.zero_le _, Nat.mod_one _, by show (h.val - 0) / 1 < 32; have := h.isLt; omega⟩
      | ⟨1, _⟩ => exact ⟨Nat.zero_le _, Nat.mod_one _, by show (r.val - 0) / 1 < 8192; have := r.isLt; omega⟩
      | ⟨2, _⟩ => exact ⟨Nat.zero_le _, Nat.mod_one _, by show (n.val - 0) / 1 < 64; omega⟩
    · funext a
      match a with
      | ⟨0, _⟩ => exact Fin.ext (show (h.val - 0) / 1 = h.val by omega)
      | ⟨1, _⟩ => exact Fin.ext (show (r.val - 0) / 1 = r.val by omega)
      | ⟨2, _⟩ => exact Fin.ext (show (n.val - 0) / 1 = n.val by omega)
  · rw [dif_neg hn]
    refine (pad_apply _ _ _ _ _ _ _ _).trans ((dif_neg fun a => ?_).trans zero_word)
    have := (a 2).2.2
    exact absurd (show (n.val - 0) / 1 < 64 from this) (by omega)

end Cert.Proof.PadEqual
-- ==== Proof.RankLoops.lean ====
/-
  The ranking call's four counted loops, each by an invariant: before trip `k` the row buffers hold
  the rows of the trips before `k`, the histogram is that of the chunks before `k`, and the sorted
  positions are those of the tokens of the chunks before `k`. The recursions are over the read
  contents of the buffers alone, for any float semantics.
-/
module

public import proofs.«01_k».proof.Proof.Gen.RankIdeal.Skeleton
public import proofs.«01_k».proof.Proof.Gen.RankIdeal.Frame
public import Idealize.ShloMosaic.Lib.Exec
public import Idealize.ShloMosaic.Lib.VecWindow

@[expose] public section

set_option maxRecDepth 8192

noncomputable section

namespace Cert.RankIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.RankIdeal.Gen

variable {F : FTy → Type} [FloatOps F]

local notation "𝕄" => MT nD τ sig Unit (Elt F) ℕ (UR sig nD τ) ℕ

/-! ## The recursions -/

/-- Chunk `k` of 128 token rows of a head's tokens. -/
def chunk (x : Vec F S1x8192x64 .f32) (k : Fin k0_t1_loop.trips) : Vec F S1x128x64 .f32 :=
  View.ld x (Rect.unit (s := S1x8192x64) (k0_off1 k) S1x128x64.size (k0_off1_inb k))

/-- The histogram of the chunks before `k`. -/
def hist (v10 : FVec F S1x128 .f32) (v17 : IVec S256x128 32) (v24 : FVec F S64x128 .f32) (x : Vec F S1x8192x64 .f32) : ℕ → FVec F S256x1 .f32
  | 0 => k0_pay14
  | k + 1 => if h : k < k0_t1_loop.trips then k0_pay29 v10 v17 v24 (hist v10 v17 v24 x k) (chunk x ⟨k, h⟩) else hist v10 v17 v24 x k

/-- The rows of bin numbers written by the trips before `k`, last first. -/
def binRows (v10 : FVec F S1x128 .f32) (v24 : FVec F S64x128 .f32) (x : Vec F S1x8192x64 .f32) : ℕ → List (View.Piece (Elt F) S64x128 .i32)
  | 0 => []
  | k + 1 => if h : k < k0_t1_loop.trips then
      ⟨Rect.unit (s := S64x128) (k0_off2 ⟨k, h⟩) S1x128.size (k0_off2_inb ⟨k, h⟩), k0_pay26 v10 v24 (chunk x ⟨k, h⟩)⟩ :: binRows v10 v24 x k
    else binRows v10 v24 x k

/-- The rows of counts of earlier tokens in the same bin written by the trips before `k`, last first. -/
def priorRows (v10 : FVec F S1x128 .f32) (v16 : FVec F S128x128 .bf16) (v17 : IVec S256x128 32) (v24 : FVec F S64x128 .f32) (x : Vec F S1x8192x64 .f32) : ℕ → List (View.Piece (Elt F) S64x128 .f32)
  | 0 => []
  | k + 1 => if h : k < k0_t1_loop.trips then
      ⟨Rect.unit (s := S64x128) (k0_off2 ⟨k, h⟩) S1x128.size (k0_off2_inb ⟨k, h⟩), k0_pay28 v10 v16 v17 v24 (hist v10 v17 v24 x k) (chunk x ⟨k, h⟩)⟩
        :: priorRows v10 v16 v17 v24 x k
    else priorRows v10 v16 v17 v24 x k

theorem hist_succ (v10 : FVec F S1x128 .f32) (v17 : IVec S256x128 32) (v24 : FVec F S64x128 .f32) (x : Vec F S1x8192x64 .f32) (k : Fin k0_t1_loop.trips) :
    hist v10 v17 v24 x (k.val + 1) = k0_pay29 v10 v17 v24 (hist v10 v17 v24 x k.val) (chunk x k) := by
  rw [hist]; exact dif_pos k.isLt

theorem binRows_succ (v10 : FVec F S1x128 .f32) (v24 : FVec F S64x128 .f32) (x : Vec F S1x8192x64 .f32) (k : Fin k0_t1_loop.trips) :
    binRows v10 v24 x (k.val + 1) = ⟨Rect.unit (s := S64x128) (k0_off2 k) S1x128.size (k0_off2_inb k), k0_pay26 v10 v24 (chunk x k)⟩
      :: binRows v10 v24 x k.val := by
  rw [binRows]; exact dif_pos k.isLt

theorem priorRows_succ (v10 : FVec F S1x128 .f32) (v16 : FVec F S128x128 .bf16) (v17 : IVec S256x128 32) (v24 : FVec F S64x128 .f32) (x : Vec F S1x8192x64 .f32) (k : Fin k0_t1_loop.trips) :
    priorRows v10 v16 v17 v24 x (k.val + 1)
      = ⟨Rect.unit (s := S64x128) (k0_off2 k) S1x128.size (k0_off2_inb k), k0_pay28 v10 v16 v17 v24 (hist v10 v17 v24 x k.val) (chunk x k)⟩
        :: priorRows v10 v16 v17 v24 x k.val := by
  rw [priorRows]; exact dif_pos k.isLt

/-- The row of numbers `0` to `255` of bins, one column a token. -/
abbrev binNo : IVec S256x128 32 := iota .tc S256x128 32 [0] iota_S256x128_d0_w32

/-! ## The first hashing loop -/

set_option warn.classDefReducibility false in
/-- The queries' hashing loop by its invariant. -/
@[sl_loop] def loop1 (𝒱 : Variants) (c : Dev nD) (bd : Option 𝒱.V) (E : Set ℕ) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x1x8192 .i32) (harg4 : arg4.IsWhole) (arg5 : Memref sig .tc .vmem S1x64x128 .i32) (harg5 : arg5.IsWhole) (arg6 : Memref sig .tc .vmem S1x64x128 .i32) (harg6 : arg6.IsWhole) (arg7 : Memref sig .tc .vmem S64x128 .i32) (harg7 : arg7.IsWhole) (arg8 : Memref sig .tc .vmem S64x128 .f32) (harg8 : arg8.IsWhole) (arg9 : Memref sig .tc .vmem S64x128 .f32) (harg9 : arg9.IsWhole)
    (v23 : Vec F S64x128 .f32) (X1 : BufTy.Contents (Elt F) arg1.view.ty) (G7 : BufTy.Contents (Elt F) arg7.view.ty) (G8 : BufTy.Contents (Elt F) arg8.view.ty) :
    Idealize.ShloMosaic.LoopInv (M := 𝕄) frame (wpE (defs₀ (F := F)) 𝒱 (c : Thread nD τ) bd) E
      k0_t1_loop.lb k0_t1_loop.ub k0_t1_loop.st k0_t1_ok (k0_pay14 (F := F))
      (k0_t1_body (F := F) i arg1 harg1 arg2 harg2 arg3 harg3 arg4 harg4 arg5 harg5 arg6 harg6 arg7 harg7 arg8 harg8 arg9 harg9 v23) where
  inv k acc := iprop((arg1.view.loc (c : Thread nD τ) ↦[arg1.view.set]{fullShare} X1)
    ∗ (∃ f, (arg7.view.loc (c : Thread nD τ) ↦[arg7.view.set]{fullShare} f) ∗ ⌜f = arg7.view.writes (Elt F) G7 (binRows k0_pay10 (k0_pay13 v23) (arg1.view.read (Elt F) X1) k)⌝)
    ∗ (∃ f, (arg8.view.loc (c : Thread nD τ) ↦[arg8.view.set]{fullShare} f) ∗ ⌜f = arg8.view.writes (Elt F) G8 (priorRows k0_pay10 k0_pay11 binNo (k0_pay13 v23) (arg1.view.read (Elt F) X1) k)⌝)
    ∗ ⌜acc = hist k0_pay10 binNo (k0_pay13 v23) (arg1.view.read (Elt F) X1) k⌝)
  step k acc := by
    have hk : k.val < 64 := Nat.lt_of_lt_of_le k.isLt k0_t1_abs.2.1
    unfold k0_t1_body
    iintro ⟨HR1, ⟨%f7, HW7, %h7⟩, ⟨%f8, HW8, %h8⟩, %hacc⟩
    subst h7 h8 hacc
    sl_exec
    sl_step
    isplitl [HR1]; · iexact HR1
    isplitl [HW7]
    · iexists _; isplitl [HW7]; · iexact HW7
      ipureintro
      rw [binRows_succ]
      rfl
    isplitl [HW8]
    · iexists _; isplitl [HW8]; · iexact HW8
      ipureintro
      rw [priorRows_succ]
      rfl
    ipureintro
    rw [hist_succ]
    rfl

/-! ## The recursions of the placing loops -/

/-- Row `k` of a buffer of 64 rows of 128. -/
def rowOf {e : EltTy} (d : Vec F S64x128 e) (k : Fin k0_t2_loop.trips) : Vec F S1x128 e :=
  View.ld d (Rect.unit (s := S64x128) (k0_off3 k) S1x128.size (k0_off3_inb k))

/-- The sorted positions placed by the chunks before `k`, from what was there before (`g`), the bins' first ranks
    (`b`), the rows of bins and the rows of counts of earlier tokens. -/
def fwd (v17 : IVec S256x128 32) (v25 : IVec S64x1 32) (v26 : IVec S128x1 32) (b : FVec F S256x1 .f32)
    (d7 : Vec F S64x128 .i32) (d8 : Vec F S64x128 .f32) (g : Vec F S64x128 .f32) : ℕ → Vec F S64x128 .f32
  | 0 => g
  | k + 1 => if h : k < k0_t2_loop.trips then
      k0_pay22 (k0_pay7 v17 v25 v26 b (rowOf d7 ⟨k, h⟩) (rowOf d8 ⟨k, h⟩))
        (k0_pay8 v17 v25 v26 b (rowOf d7 ⟨k, h⟩) (rowOf d8 ⟨k, h⟩) (fwd v17 v25 v26 b d7 d8 g k)) (k0_pay9 0#32 1#32 ⟨k, h⟩)
    else fwd v17 v25 v26 b d7 d8 g k

theorem fwd_succ (v17 : IVec S256x128 32) (v25 : IVec S64x1 32) (v26 : IVec S128x1 32) (b : FVec F S256x1 .f32)
    (d7 : Vec F S64x128 .i32) (d8 : Vec F S64x128 .f32) (g : Vec F S64x128 .f32) (k : Fin k0_t2_loop.trips) :
    fwd v17 v25 v26 b d7 d8 g (k.val + 1) = k0_pay22 (k0_pay7 v17 v25 v26 b (rowOf d7 k) (rowOf d8 k))
        (k0_pay8 v17 v25 v26 b (rowOf d7 k) (rowOf d8 k) (fwd v17 v25 v26 b d7 d8 g k.val)) (k0_pay9 0#32 1#32 k) := by
  rw [fwd]; exact dif_pos k.isLt

/-- The stores of the sorted positions by the trips before `k`, last first: each the whole buffer. -/
def fwdStores (v17 : IVec S256x128 32) (v25 : IVec S64x1 32) (v26 : IVec S128x1 32) (b : FVec F S256x1 .f32)
    (d7 : Vec F S64x128 .i32) (d8 : Vec F S64x128 .f32) (g : Vec F S64x128 .f32) : ℕ → List (View.Piece (Elt F) S64x128 .f32)
  | 0 => []
  | k + 1 => ⟨Rect.unit (s := S64x128) ![0, 0] S64x128.size inb_S64x128_S64x128_0_0, fwd v17 v25 v26 b d7 d8 g (k + 1)⟩
      :: fwdStores v17 v25 v26 b d7 d8 g k

/-- What the stores before `k` leave to be loaded: the sorted positions placed so far. -/
theorem readAt_fwdStores (v17 : IVec S256x128 32) (v25 : IVec S64x1 32) (v26 : IVec S128x1 32) (b : FVec F S256x1 .f32)
    (d7 : Vec F S64x128 .i32) (d8 : Vec F S64x128 .f32) (arg9 : Memref sig .tc .vmem S64x128 .f32)
    (G9 : BufTy.Contents (Elt F) arg9.view.ty) (k : ℕ) :
    arg9.view.readAt (Elt F) (Rect.unit (s := S64x128) ![0, 0] S64x128.size inb_S64x128_S64x128_0_0).toLoadRect
      (arg9.view.writes (Elt F) G9 (fwdStores v17 v25 v26 b d7 d8 (arg9.view.read (Elt F) G9) k))
      = fwd v17 v25 v26 b d7 d8 (arg9.view.read (Elt F) G9) k := by
  cases k with
  | zero => exact View.readAt_full _ _ _
  | succ k => exact View.readAt_writes_full _ _ _ _ _ _

/-- The slices of ranks written by the trips before `k`, last first. -/
def rankSlices (v0 : BitVec 32) (v17 : IVec S256x128 32) (b : FVec F S256x1 .f32)
    (d7 : Vec F S64x128 .i32) (d8 : Vec F S64x128 .f32) : ℕ → List (View.Piece (Elt F) S1x1x8192 .i32)
  | 0 => []
  | k + 1 => if h : k < k0_t2_loop.trips then
      ⟨Rect.unit (s := S1x1x8192) (k0_off4 ⟨k, h⟩) S1x1x128.size (k0_off4_inb ⟨k, h⟩), k0_pay4 v0 v17 b (rowOf d7 ⟨k, h⟩) (rowOf d8 ⟨k, h⟩)⟩
        :: rankSlices v0 v17 b d7 d8 k
    else rankSlices v0 v17 b d7 d8 k

theorem rankSlices_succ (v0 : BitVec 32) (v17 : IVec S256x128 32) (b : FVec F S256x1 .f32)
    (d7 : Vec F S64x128 .i32) (d8 : Vec F S64x128 .f32) (k : Fin k0_t2_loop.trips) :
    rankSlices v0 v17 b d7 d8 (k.val + 1)
      = ⟨Rect.unit (s := S1x1x8192) (k0_off4 k) S1x1x128.size (k0_off4_inb k), k0_pay4 v0 v17 b (rowOf d7 k) (rowOf d8 k)⟩
        :: rankSlices v0 v17 b d7 d8 k.val := by
  rw [rankSlices]; exact dif_pos k.isLt

/-- A trip of the keys' placing loop places as one of the queries' does. -/
theorem place_keys (v17 : IVec S256x128 32) (v25 : IVec S64x1 32) (v26 : IVec S128x1 32) (b : FVec F S256x1 .f32)
    (k : Fin k0_t2_loop.trips) (r7 : Vec F S1x128 .i32) (r8 : Vec F S1x128 .f32) (g : Vec F S64x128 .f32) :
    k0_pay1 v17 v25 v26 b k r7 r8 g
      = k0_pay22 (k0_pay7 v17 v25 v26 b r7 r8) (k0_pay8 v17 v25 v26 b r7 r8 g) (k0_pay9 0#32 1#32 k) := rfl

/-! ## The placing loops and the second hashing loop -/

set_option warn.classDefReducibility false in
/-- The queries' placing loop by its invariant. -/
@[sl_loop] def loop2 (𝒱 : Variants) (c : Dev nD) (bd : Option 𝒱.V) (E : Set ℕ) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x1x8192 .i32) (harg4 : arg4.IsWhole) (arg5 : Memref sig .tc .vmem S1x64x128 .i32) (harg5 : arg5.IsWhole) (arg6 : Memref sig .tc .vmem S1x64x128 .i32) (harg6 : arg6.IsWhole) (arg7 : Memref sig .tc .vmem S64x128 .i32) (harg7 : arg7.IsWhole) (arg8 : Memref sig .tc .vmem S64x128 .f32) (harg8 : arg8.IsWhole) (arg9 : Memref sig .tc .vmem S64x128 .f32) (harg9 : arg9.IsWhole)
    (v0 : BitVec 32) (v10 : FVec F S1x128 .f32) (v16 : FVec F S128x128 .bf16) (v17 : IVec S256x128 32) (v22 : FVec F S256x256 .f32) (v24 : FVec F S64x128 .f32) (v25 : IVec S64x1 32) (v26 : IVec S128x1 32) (v41 : FVec F S256x1 .f32)
    (X7 : BufTy.Contents (Elt F) arg7.view.ty) (X8 : BufTy.Contents (Elt F) arg8.view.ty) (G4 : BufTy.Contents (Elt F) arg4.view.ty) (G9 : BufTy.Contents (Elt F) arg9.view.ty) :
    Idealize.ShloMosaic.LoopInv (M := 𝕄) frame (wpE (defs₀ (F := F)) 𝒱 (c : Thread nD τ) bd) E
      k0_t2_loop.lb k0_t2_loop.ub k0_t2_loop.st k0_t2_ok ()
      (k0_t2_body (F := F) i arg1 harg1 arg2 harg2 arg3 harg3 arg4 harg4 arg5 harg5 arg6 harg6 arg7 harg7 arg8 harg8 arg9 harg9 v0 v10 v16 v17 v22 v24 v25 v26 v41) where
  inv k _ := iprop((arg7.view.loc (c : Thread nD τ) ↦[arg7.view.set]{fullShare} X7)
    ∗ (arg8.view.loc (c : Thread nD τ) ↦[arg8.view.set]{fullShare} X8)
    ∗ (∃ f, (arg4.view.loc (c : Thread nD τ) ↦[arg4.view.set]{fullShare} f) ∗ ⌜f = arg4.view.writes (Elt F) G4
        (rankSlices v0 v17 v41 (arg7.view.read (Elt F) X7) (arg8.view.read (Elt F) X8) k)⌝)
    ∗ (∃ f, (arg9.view.loc (c : Thread nD τ) ↦[arg9.view.set]{fullShare} f) ∗ ⌜f = arg9.view.writes (Elt F) G9
        (fwdStores v17 v25 v26 v41 (arg7.view.read (Elt F) X7) (arg8.view.read (Elt F) X8) (arg9.view.read (Elt F) G9) k)⌝))
  step k acc := by
    have hk : k.val < 64 := Nat.lt_of_lt_of_le k.isLt k0_t2_abs.2.1
    unfold k0_t2_body
    simp only [k0_part1_eq_skeleton]; unfold k0_part1_skel
    iintro ⟨HR7, HR8, ⟨%f4, HW4, %h4⟩, ⟨%f9, HW9, %h9⟩⟩
    subst h4 h9
    sl_exec
    sl_step
    isplitl [HR7]; · iexact HR7
    isplitl [HR8]; · iexact HR8
    isplitl [HW4]
    · iexists _; isplitl [HW4]; · iexact HW4
      ipureintro
      rw [rankSlices_succ]
      rfl
    · iexists _; isplitl [HW9]; · iexact HW9
      ipureintro
      rw [fwdStores, fwd_succ]
      rw [← readAt_fwdStores v17 v25 v26 v41 _ _ arg9 G9 k.val]
      rfl

set_option warn.classDefReducibility false in
/-- The keys' hashing loop by its invariant. -/
@[sl_loop] def loop3 (𝒱 : Variants) (c : Dev nD) (bd : Option 𝒱.V) (E : Set ℕ) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x1x8192 .i32) (harg4 : arg4.IsWhole) (arg5 : Memref sig .tc .vmem S1x64x128 .i32) (harg5 : arg5.IsWhole) (arg6 : Memref sig .tc .vmem S1x64x128 .i32) (harg6 : arg6.IsWhole) (arg7 : Memref sig .tc .vmem S64x128 .i32) (harg7 : arg7.IsWhole) (arg8 : Memref sig .tc .vmem S64x128 .f32) (harg8 : arg8.IsWhole) (arg9 : Memref sig .tc .vmem S64x128 .f32) (harg9 : arg9.IsWhole)
    (v0 : BitVec 32) (v10 : FVec F S1x128 .f32) (v16 : FVec F S128x128 .bf16) (v17 : IVec S256x128 32) (v22 : FVec F S256x256 .f32) (v24 : FVec F S64x128 .f32) (v25 : IVec S64x1 32) (v26 : IVec S128x1 32) (v41 : FVec F S256x1 .f32)
    (X2 : BufTy.Contents (Elt F) arg2.view.ty) (G7 : BufTy.Contents (Elt F) arg7.view.ty) (G8 : BufTy.Contents (Elt F) arg8.view.ty) :
    Idealize.ShloMosaic.LoopInv (M := 𝕄) frame (wpE (defs₀ (F := F)) 𝒱 (c : Thread nD τ) bd) E
      k0_t3_loop.lb k0_t3_loop.ub k0_t3_loop.st k0_t3_ok (k0_pay24 (F := F))
      (k0_t3_body (F := F) i arg1 harg1 arg2 harg2 arg3 harg3 arg4 harg4 arg5 harg5 arg6 harg6 arg7 harg7 arg8 harg8 arg9 harg9 v0 v10 v16 v17 v22 v24 v25 v26 v41) where
  inv k acc := iprop((arg2.view.loc (c : Thread nD τ) ↦[arg2.view.set]{fullShare} X2)
    ∗ (∃ f, (arg7.view.loc (c : Thread nD τ) ↦[arg7.view.set]{fullShare} f) ∗ ⌜f = arg7.view.writes (Elt F) G7 (binRows v10 v24 (arg2.view.read (Elt F) X2) k)⌝)
    ∗ (∃ f, (arg8.view.loc (c : Thread nD τ) ↦[arg8.view.set]{fullShare} f) ∗ ⌜f = arg8.view.writes (Elt F) G8 (priorRows v10 v16 v17 v24 (arg2.view.read (Elt F) X2) k)⌝)
    ∗ ⌜acc = hist v10 v17 v24 (arg2.view.read (Elt F) X2) k⌝)
  step k acc := by
    have hk : k.val < 64 := Nat.lt_of_lt_of_le k.isLt k0_t3_abs.2.1
    unfold k0_t3_body
    iintro ⟨HR1, ⟨%f7, HW7, %h7⟩, ⟨%f8, HW8, %h8⟩, %hacc⟩
    subst h7 h8 hacc
    sl_exec
    sl_step
    isplitl [HR1]; · iexact HR1
    isplitl [HW7]
    · iexists _; isplitl [HW7]; · iexact HW7
      ipureintro
      refine Eq.trans ?_ (congrArg _ (binRows_succ v10 v24 _ k).symm)
      rfl
    isplitl [HW8]
    · iexists _; isplitl [HW8]; · iexact HW8
      ipureintro
      refine Eq.trans ?_ (congrArg _ (priorRows_succ v10 v16 v17 v24 _ k).symm)
      rfl
    ipureintro
    refine Eq.trans ?_ (hist_succ v10 v17 v24 _ k).symm
    rfl

set_option warn.classDefReducibility false in
/-- The keys' placing loop by its invariant. -/
@[sl_loop] def loop4 (𝒱 : Variants) (c : Dev nD) (bd : Option 𝒱.V) (E : Set ℕ) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x1x8192 .i32) (harg4 : arg4.IsWhole) (arg5 : Memref sig .tc .vmem S1x64x128 .i32) (harg5 : arg5.IsWhole) (arg6 : Memref sig .tc .vmem S1x64x128 .i32) (harg6 : arg6.IsWhole) (arg7 : Memref sig .tc .vmem S64x128 .i32) (harg7 : arg7.IsWhole) (arg8 : Memref sig .tc .vmem S64x128 .f32) (harg8 : arg8.IsWhole) (arg9 : Memref sig .tc .vmem S64x128 .f32) (harg9 : arg9.IsWhole)
    (v17 : IVec S256x128 32) (v25 : IVec S64x1 32) (v26 : IVec S128x1 32) (v68 : FVec F S256x1 .f32)
    (X7 : BufTy.Contents (Elt F) arg7.view.ty) (X8 : BufTy.Contents (Elt F) arg8.view.ty) (G9 : BufTy.Contents (Elt F) arg9.view.ty) :
    Idealize.ShloMosaic.LoopInv (M := 𝕄) frame (wpE (defs₀ (F := F)) 𝒱 (c : Thread nD τ) bd) E
      k0_t4_loop.lb k0_t4_loop.ub k0_t4_loop.st k0_t4_ok ()
      (k0_t4_body (F := F) i arg1 harg1 arg2 harg2 arg3 harg3 arg4 harg4 arg5 harg5 arg6 harg6 arg7 harg7 arg8 harg8 arg9 harg9 v17 v25 v26 v68) where
  inv k _ := iprop((arg7.view.loc (c : Thread nD τ) ↦[arg7.view.set]{fullShare} X7)
    ∗ (arg8.view.loc (c : Thread nD τ) ↦[arg8.view.set]{fullShare} X8)
    ∗ (∃ f, (arg9.view.loc (c : Thread nD τ) ↦[arg9.view.set]{fullShare} f) ∗ ⌜f = arg9.view.writes (Elt F) G9
        (fwdStores v17 v25 v26 v68 (arg7.view.read (Elt F) X7) (arg8.view.read (Elt F) X8) (arg9.view.read (Elt F) G9) k)⌝))
  step k acc := by
    have hk : k.val < 64 := Nat.lt_of_lt_of_le k.isLt k0_t4_abs.2.1
    unfold k0_t4_body
    iintro ⟨HR7, HR8, ⟨%f9, HW9, %h9⟩⟩
    subst h9
    sl_exec
    sl_step
    isplitl [HR7]; · iexact HR7
    isplitl [HR8]; · iexact HR8
    iexists _; isplitl [HW9]; · iexact HW9
    ipureintro
    rw [fwdStores]
    refine Eq.trans ?_ (congrArg (fun w => arg9.view.writes (Elt F) G9 (⟨Rect.unit (s := S64x128) ![0, 0] S64x128.size inb_S64x128_S64x128_0_0, w⟩ :: fwdStores v17 v25 v26 v68 (arg7.view.read (Elt F) X7) (arg8.view.read (Elt F) X8) (arg9.view.read (Elt F) G9) k.val)) (fwd_succ v17 v25 v26 v68 _ _ _ k).symm)
    rw [← readAt_fwdStores v17 v25 v26 v68 _ _ arg9 G9 k.val, ← place_keys]
    rfl

end Cert.RankIdeal.Run

end
-- ==== Proof.RankFrame.lean ====
/- The rank call's body run and its frame, at any values: each grid point's three result blocks in terms of the two
   blocks of tokens, the projections and the block's number. -/
module

public import proofs.«01_k».proof.Proof.RankLoops
public import Idealize.ShloMosaic.Lib.Claim

@[expose] public section

set_option maxRecDepth 16384

noncomputable section

namespace Cert.RankIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RankIdeal Cert.RankIdeal.Gen

variable {F : FTy → Type} [FloatOps F]

local notation "𝕄" => MT nD τ sig Unit (Elt F) ℕ (UR sig nD τ) ℕ

/-! ## What a grid point leaves, in closed form -/

/-- Column `j` of a row of 128. -/
def rowIx (j : Fin 128) : S1x128.Idx := fun a => match a with
  | ⟨0, _⟩ => (0 : Fin 1)
  | ⟨1, _⟩ => j

/-- The bin of every token, row `r` the tokens `128 r` to `128 r + 127`. -/
def bins (p : Vec F S64x128 .f32) (x : Vec F S1x8192x64 .f32) : Vec F S64x128 .i32 := fun y =>
  k0_pay26 k0_pay10 (k0_pay13 p) (chunk x (y 0)) (rowIx (y 1))

/-- Of every token, how many earlier ones share its bin. -/
def prior (p : Vec F S64x128 .f32) (x : Vec F S1x8192x64 .f32) : Vec F S64x128 .f32 := fun y =>
  k0_pay28 k0_pay10 k0_pay11 binNo (k0_pay13 p) (hist k0_pay10 binNo (k0_pay13 p) x (y 0).val) (chunk x (y 0)) (rowIx (y 1))

/-- The first rank of every bin. -/
def first (p : Vec F S64x128 .f32) (x : Vec F S1x8192x64 .f32) : FVec F S256x1 .f32 :=
  k0_pay20 (hist k0_pay10 binNo (k0_pay13 p) x 64)

/-- The number of the row of 128 of an index into 8192. -/
def rowNo (n : Fin 8192) : Fin k0_t2_loop.trips := ⟨n.val / 128, show n.val / 128 < 64 by omega⟩

/-- Column `j` of a block of one row of 128. -/
def blkIx (j : Fin 128) : S1x1x128.Idx := fun a => match a with
  | ⟨0, _⟩ => (0 : Fin 1)
  | ⟨1, _⟩ => (0 : Fin 1)
  | ⟨2, _⟩ => j

/-- The first position of grid point `i`'s tokens among all. -/
def base (i : grid0.Coords) : BitVec 32 := Scalar.muli (BitVec.ofNat 32 (i 0).val) 8192#32

/-- The ranks a grid point leaves. -/
def outRank (i : grid0.Coords) (q : Vec F S1x8192x64 .f32) (p : Vec F S64x128 .f32) : Vec F S1x1x8192 .i32 := fun y =>
  k0_pay4 (base i) binNo (first p q) (rowOf (bins p q) (rowNo (y 2))) (rowOf (prior p q) (rowNo (y 2)))
    (blkIx ⟨(y 2).val % 128, Nat.mod_lt _ (by decide)⟩)

/-- The token of every rank, as the placing loop leaves it. -/
def placed (p : Vec F S64x128 .f32) (x : Vec F S1x8192x64 .f32) : Vec F S64x128 .f32 :=
  fwd binNo (iota .tc S64x1 32 [0] iota_S64x1_d0_w32) (iota .tc S128x1 32 [0] iota_S128x1_d0_w32)
    (first p x) (bins p x) (prior p x) k0_pay21 64

/-- The sorted positions a grid point leaves. -/
def outSort (i : grid0.Coords) (p : Vec F S64x128 .f32) (x : Vec F S1x8192x64 .f32) : Vec F S1x64x128 .i32 :=
  k0_pay2 (base i) (placed p x)

/-! ## The stores read back -/

section Reads

variable (p : Vec F S64x128 .f32) (x : Vec F S1x8192x64 .f32)

theorem read_binRows {κ : Kind} {sp : Space} (v : View sig κ sp S64x128 .i32) (G : v.ty.Contents (Elt F)) (n : ℕ) (hn : n ≤ 64)
    (y : S64x128.Idx) (hy : (y 0).val < n) :
    v.read (Elt F) (v.writes (Elt F) G (binRows k0_pay10 (k0_pay13 p) x n)) y = bins p x y := by
  induction n with
  | zero => exact absurd hy (Nat.not_lt_zero _)
  | succ n ih =>
    have hs := binRows_succ k0_pay10 (k0_pay13 p) x ⟨n, hn⟩
    dsimp only at hs
    rw [hs]
    by_cases h : (y 0).val = n
    · have e : (⟨n, hn⟩ : Fin k0_t1_loop.trips) = y 0 := Fin.ext h.symm
      refine (View.read_writes_cons_rows_of_mem v G _ _ _ y (rowIx (y 1)) (o := n) (k0_off2_eq ⟨n, hn⟩) ?_ rfl).trans ?_
      · exact h
      · unfold bins; rw [e]
    · refine (View.read_writes_cons_rows_of_not_mem v G _ _ _ y (o := n) (W := 1) (k0_off2_eq ⟨n, hn⟩) rfl (.inl ?_)).trans (ih (by omega) ?_)
      all_goals omega

theorem read_priorRows {κ : Kind} {sp : Space} (v : View sig κ sp S64x128 .f32) (G : v.ty.Contents (Elt F)) (n : ℕ) (hn : n ≤ 64)
    (y : S64x128.Idx) (hy : (y 0).val < n) :
    v.read (Elt F) (v.writes (Elt F) G (priorRows k0_pay10 k0_pay11 binNo (k0_pay13 p) x n)) y = prior p x y := by
  induction n with
  | zero => exact absurd hy (Nat.not_lt_zero _)
  | succ n ih =>
    have hs := priorRows_succ k0_pay10 k0_pay11 binNo (k0_pay13 p) x ⟨n, hn⟩
    dsimp only at hs
    rw [hs]
    by_cases h : (y 0).val = n
    · have e : (⟨n, hn⟩ : Fin k0_t1_loop.trips) = y 0 := Fin.ext h.symm
      refine (View.read_writes_cons_rows_of_mem v G _ _ _ y (rowIx (y 1)) (o := n) (k0_off2_eq ⟨n, hn⟩) ?_ rfl).trans ?_
      · exact h
      · unfold prior; rw [e, h]
    · refine (View.read_writes_cons_rows_of_not_mem v G _ _ _ y (o := n) (W := 1) (k0_off2_eq ⟨n, hn⟩) rfl (.inl ?_)).trans (ih (by omega) ?_)
      all_goals omega

theorem read_rankSlices {κ : Kind} {sp : Space} (v : View sig κ sp S1x1x8192 .i32) (G : v.ty.Contents (Elt F)) (i : grid0.Coords)
    (n : ℕ) (hn : n ≤ 64) (y : S1x1x8192.Idx) (hy : (y 2).val < 128 * n) :
    v.read (Elt F) (v.writes (Elt F) G (rankSlices (base i) binNo (first p x) (bins p x) (prior p x) n)) y = outRank i x p y := by
  induction n with
  | zero => exact absurd hy (Nat.not_lt_zero _)
  | succ n ih =>
    have hs := rankSlices_succ (base i) binNo (first p x) (bins p x) (prior p x) ⟨n, hn⟩
    dsimp only at hs
    rw [hs]
    by_cases h : (y 2).val / 128 = n
    · have e : (⟨n, hn⟩ : Fin k0_t2_loop.trips) = rowNo (y 2) := Fin.ext h.symm
      refine (View.read_writes_cons_unit_of_mem v G _ _ _ y (blkIx ⟨(y 2).val % 128, Nat.mod_lt _ (by decide)⟩) (k0_off4_eq ⟨n, hn⟩) ?_).trans ?_
      · intro a
        match a with
        | ⟨0, _⟩ => exact Nat.lt_one_iff.mp (y 0).isLt
        | ⟨1, _⟩ => exact Nat.lt_one_iff.mp (y 1).isLt
        | ⟨2, _⟩ => show (y 2).val = 128 * n + (y 2).val % 128; omega
      · unfold outRank; rw [e]
    · refine (View.read_writes_cons_unit_of_not_mem v G _ _ _ y (k0_off4_eq ⟨n, hn⟩) 2 (.inl ?_)).trans (ih (by omega) ?_)
      · show (y 2).val < 128 * n
        omega
      · omega

theorem bins_left {κ : Kind} {sp : Space} (v : View sig κ sp S64x128 .i32) (G : v.ty.Contents (Elt F)) :
    v.read (Elt F) (v.writes (Elt F) G (binRows k0_pay10 (k0_pay13 p) x 64)) = bins p x :=
  funext fun y => read_binRows p x v G 64 le_rfl y (y 0).isLt

theorem prior_left {κ : Kind} {sp : Space} (v : View sig κ sp S64x128 .f32) (G : v.ty.Contents (Elt F)) :
    v.read (Elt F) (v.writes (Elt F) G (priorRows k0_pay10 k0_pay11 binNo (k0_pay13 p) x 64)) = prior p x :=
  funext fun y => read_priorRows p x v G 64 le_rfl y (y 0).isLt

theorem rank_left {κ : Kind} {sp : Space} (v : View sig κ sp S1x1x8192 .i32) (G : v.ty.Contents (Elt F)) (i : grid0.Coords)
    (d7 : Vec F S64x128 .i32) (d8 : Vec F S64x128 .f32) (h7 : d7 = bins p x) (h8 : d8 = prior p x) :
    v.read (Elt F) (v.writes (Elt F) G (rankSlices (base i) binNo (first p x) d7 d8 64)) = outRank i x p := by
  subst h7 h8
  exact funext fun y => read_rankSlices p x v G i 64 le_rfl y (y 2).isLt

theorem placed_left {κ : Kind} {sp : Space} (v : View sig κ sp S64x128 .f32) (L : List (View.Piece (Elt F) S64x128 .f32))
    (d7 : Vec F S64x128 .i32) (d8 : Vec F S64x128 .f32) (g : Vec F S64x128 .f32) (h7 : d7 = bins p x) (h8 : d8 = prior p x)
    (hg : g = k0_pay21) :
    v.readCov (fwdStores binNo (iota .tc S64x1 32 [0] iota_S64x1_d0_w32) (iota .tc S128x1 32 [0] iota_S128x1_d0_w32)
      (first p x) d7 d8 g 64 ++ L)
      (Rect.unit (s := S64x128) ![0, 0] S64x128.size inb_S64x128_S64x128_0_0).toLoadRect = placed p x := by
  subst h7 h8 hg
  exact View.readCov_full v _ _ _ _

end Reads

set_option maxHeartbeats 4000000 in
theorem body_run (c : Dev nD) (E : Set ℕ) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x1x8192 .i32) (harg4 : arg4.IsWhole) (arg5 : Memref sig .tc .vmem S1x64x128 .i32) (harg5 : arg5.IsWhole) (arg6 : Memref sig .tc .vmem S1x64x128 .i32) (harg6 : arg6.IsWhole) (arg7 : Memref sig .tc .vmem S64x128 .i32) (harg7 : arg7.IsWhole) (arg8 : Memref sig .tc .vmem S64x128 .f32) (harg8 : arg8.IsWhole) (arg9 : Memref sig .tc .vmem S64x128 .f32) (harg9 : arg9.IsWhole)
    (q k : Vec F S1x8192x64 .f32) (p : Vec F S64x128 .f32) (K : PUnit → sProp 𝕄) :
    iprop(owns (c : Thread nD τ) arg1 fullShare q ∗ owns (c : Thread nD τ) arg2 fullShare k ∗ owns (c : Thread nD τ) arg3 fullShare p
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare q ∗ owns (c : Thread nD τ) arg2 fullShare k ∗ owns (c : Thread nD τ) arg3 fullShare p
        ∗ owns (c : Thread nD τ) arg4 fullShare (outRank i q p) ∗ owns (c : Thread nD τ) arg5 fullShare (outSort i p q) ∗ owns (c : Thread nD τ) arg6 fullShare (outSort i p k)
        ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0__hash_rank_body i arg1 harg1 arg2 harg2 arg3 harg3 arg4 harg4 arg5 harg5 arg6 harg6 arg7 harg7 arg8 harg8 arg9 harg9) K := by
  simp only [cc0__hash_rank_body_eq_skeleton]; unfold cc0__hash_rank_body_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  have e3 : View.readAt (Elt F) arg3.view (Rect.unit (s := S64x128) ![0, 0] S64x128.size inb_S64x128_S64x128_0_0).toLoadRect f3
      = arg3.view.read (Elt F) f3 := View.readAt_full _ _ _
  rw [← e3]
  isplitl [H4]
  · iexists _; isplitr; swap; · iexact H4
    ipureintro
    exact rank_left _ _ _ _ i _ _ (bins_left _ _ _ _) (prior_left _ _ _ _)
  isplitl [H5]
  · iexists _; isplitr; swap; · iexact H5
    ipureintro
    refine (View.read_writes_full _ _ _ _ _).trans (congrArg (k0_pay2 (base i)) ?_)
    exact placed_left _ _ _ _ _ _ _ (bins_left _ _ _ _) (prior_left _ _ _ _) (View.read_writes_full _ _ _ _ _)
  isplitl [H6]
  · iexists _; isplitr; swap; · iexact H6
    ipureintro
    refine (View.read_writes_full _ _ _ _ _).trans (congrArg (k0_pay2 (base i)) ?_)
    refine placed_left _ _ _ _ _ _ _ ?_ ?_ (View.read_writes_full _ _ _ _ _)
    · rw [View.writes_append]; exact bins_left _ _ _ _
    · rw [View.writes_append]; exact prior_left _ _ _ _
  isplitl [H7]
  · iexists _; iexists _; isplitr; swap; · iexact H7
    ipureintro; rfl
  isplitl [H8]
  · iexists _; iexists _; isplitr; swap; · iexact H8
    ipureintro; rfl
  iexists _; iexists _; isplitr; swap; · iexact H9
  ipureintro; rfl

/-! ## The whole grid -/

variable (m : (ℓ : Loc nD τ sig) → Buf (Elt F) ℓ) (ρ : Dev nD → PrngReg)

/-- What each grid point leaves, window by window: the inputs as they were, the three results in closed form. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outRank (grid0.coords t) (iblk m c 0 t) (iblk m c 2 t)
    | ⟨4, _⟩ => outSort (grid0.coords t) (iblk m c 2 t) (iblk m c 0 t)
    | ⟨5, _⟩ => outSort (grid0.coords t) (iblk m c 2 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_queries (c : Dev nD) (t : Fin cfg0.N) : (dats m 0 c).after 0 t = iblk m c 0 t := by dsimp only [dats]
theorem after_keys (c : Dev nD) (t : Fin cfg0.N) : (dats m 0 c).after 1 t = iblk m c 1 t := by dsimp only [dats]
theorem after_proj (c : Dev nD) (t : Fin cfg0.N) : (dats m 0 c).after 2 t = iblk m c 2 t := by dsimp only [dats]
theorem after_rank (c : Dev nD) (t : Fin cfg0.N) :
    (dats m 0 c).after 3 t = outRank (grid0.coords t) (iblk m c 0 t) (iblk m c 2 t) := by dsimp only [dats]
theorem after_sortQ (c : Dev nD) (t : Fin cfg0.N) :
    (dats m 0 c).after 4 t = outSort (grid0.coords t) (iblk m c 2 t) (iblk m c 0 t) := by dsimp only [dats]
theorem after_sortK (c : Dev nD) (t : Fin cfg0.N) :
    (dats m 0 c).after 5 t = outSort (grid0.coords t) (iblk m c 2 t) (iblk m c 1 t) := by dsimp only [dats]

theorem before_queries (c : Dev nD) (t : Fin cfg0.N) (d) : (dats m 0 c).before 0 t d = iblk m c 0 t :=
  before0_0_of m (dats m 0 c) (A_eq m c 0) (after_queries m c) t d
theorem before_keys (c : Dev nD) (t : Fin cfg0.N) (d) : (dats m 0 c).before 1 t d = iblk m c 1 t :=
  before0_1_of m (dats m 0 c) (A_eq m c 1) (after_keys m c) t d
theorem before_proj (c : Dev nD) (t : Fin cfg0.N) (d) : (dats m 0 c).before 2 t d = iblk m c 2 t :=
  before0_2_of m (dats m 0 c) (A_eq m c 2) (after_proj m c) t d

/-- What a grid point starts with. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What a grid point ends with. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The class invariant is the three scratch buffers, each at some contents, and the generator register. -/
theorem scratch_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA
  rw [scopedRest0_eq]
  simp only [owns_whole]

theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [before_queries, before_keys, before_proj]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_queries, after_keys, after_proj, after_rank, after_sortQ, after_sortK, scratch_eq]
  iintro ⟨⟨⟨H7, H8, H9⟩, Hr⟩, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H7]; · iexact H7
  isplitl [H8]; · iexact H8
  isplitl [H9]; · iexact H9
  iintro ⟨H0, H1, H2, H3, H4, H5, H7, H8, H9⟩
  isplitl [H7 H8 H9 Hr]
  · isplitl [H7 H8 H9]
    · isplitl [H7]; · iexact H7
      isplitl [H8]; · iexact H8
      iexact H9
    · iexact Hr
  isplitl [Ho]; · iexact Ho
  isplitl [H0]; · iexact H0
  isplitl [H1]; · iexact H1
  isplitl [H2]; · iexact H2
  isplitl [H3]; · iexact H3
  isplitl [H4]; · iexact H4
  iexact H5

theorem row_eq (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (point_run m c t) rfl .rfl fun _ => .rfl

set_option backward.isDefEq.respectTransparency.types false in
set_option maxHeartbeats 800000 in
/-- The run ends with the pipeline's arrays as `dats` says and every counter at zero. -/
theorem run_ends : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_ends m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_arrays m ρ)) ((θ_run defs _ _).mono (fun _ h => h.2) (run_ends m ρ))

end Cert.RankIdeal.Run

end
-- ==== Proof.RankSort.lean ====
/-
  Counting sort against stable sort, on natural numbers alone: with `b m` the bucket of token `m`, the rank of a token is the
  number of tokens in lower buckets and of earlier tokens in its own. Ranks are a permutation of the positions, a stable
  sort by bucket lists the tokens in the order of their ranks, and a sort of that list gives the ranks back.
-/
module

public import Idealize.ShloMosaic.Lib.SortFacts
public import Mathlib.Order.Interval.Finset.Nat
public import Mathlib.Data.Nat.Count

@[expose] public section

namespace Cert.Proof.RankSort

open Idealize.ShloMosaic

/-- The rank of token `n` among `N` tokens with buckets `b`. -/
def rank (b : ℕ → ℕ) (N n : ℕ) : ℕ := Nat.count (fun m => b m < b n) N + Nat.count (fun m => b m = b n) n

/-- Token `m` comes before token `n`: in a lower bucket, or earlier in the same. -/
def Before (b : ℕ → ℕ) (m n : ℕ) : Prop := b m < b n ∨ (b m = b n ∧ m < n)

theorem count_lt_succ (b : ℕ → ℕ) (i N : ℕ) :
    Nat.count (fun m => b m < i + 1) N = Nat.count (fun m => b m < i) N + Nat.count (fun m => b m = i) N := by
  induction N with
  | zero => simp
  | succ N ih =>
    rw [Nat.count_succ, Nat.count_succ, Nat.count_succ, ih]
    split_ifs <;> omega

theorem sum_count (b : ℕ → ℕ) (i N : ℕ) :
    ∑ j ∈ Finset.range i, Nat.count (fun m => b m = j) N = Nat.count (fun m => b m < i) N := by
  induction i with
  | zero => symm; simp [Nat.count_eq_card_filter_range]
  | succ i ih => rw [Finset.sum_range_succ, ih, count_lt_succ]

open Classical in
/-- The rank is the number of tokens before. -/
theorem rank_eq_card (b : ℕ → ℕ) {N n : ℕ} (hn : n ≤ N) :
    rank b N n = ((Finset.range N).filter fun m => Before b m n).card := by
  unfold rank Before
  rw [Nat.count_eq_card_filter_range, Nat.count_eq_card_filter_range, ← Finset.card_union_of_disjoint]
  · congr 1
    ext m
    simp only [Finset.mem_union, Finset.mem_filter, Finset.mem_range]
    constructor
    · rintro (⟨h, g⟩ | ⟨h, g⟩)
      · exact ⟨h, .inl g⟩
      · exact ⟨by omega, .inr ⟨g, h⟩⟩
    · rintro ⟨h, g | ⟨g, g'⟩⟩
      · exact .inl ⟨h, g⟩
      · exact .inr ⟨g', g⟩
  · rw [Finset.disjoint_left]
    intro m hm hm'
    simp only [Finset.mem_filter, Finset.mem_range] at hm hm'
    omega

theorem rank_lt_rank (b : ℕ → ℕ) {N m n : ℕ} (hm : m < N) (hn : n < N) (h : Before b m n) : rank b N m < rank b N n := by
  classical
  rw [rank_eq_card b hm.le, rank_eq_card b hn.le]
  apply Finset.card_lt_card
  rw [Finset.ssubset_iff_of_subset]
  · refine ⟨m, ?_, ?_⟩
    · simp only [Finset.mem_filter, Finset.mem_range]; exact ⟨hm, h⟩
    · rw [Finset.mem_filter]; unfold Before; omega
  · intro a
    rw [Finset.mem_filter, Finset.mem_filter]
    rintro ⟨ha, g⟩
    refine ⟨ha, ?_⟩
    unfold Before at h g ⊢
    omega

theorem rank_lt (b : ℕ → ℕ) {N n : ℕ} (hn : n < N) : rank b N n < N := by
  classical
  rw [rank_eq_card b hn.le]
  calc _ < (Finset.range N).card := Finset.card_lt_card (by
        rw [Finset.ssubset_iff_of_subset (Finset.filter_subset _ _)]
        exact ⟨n, Finset.mem_range.mpr hn, by rw [Finset.mem_filter]; unfold Before; omega⟩)
    _ = N := Finset.card_range N

theorem before_trichotomy (b : ℕ → ℕ) (m n : ℕ) : Before b m n ∨ m = n ∨ Before b n m := by
  unfold Before; omega

theorem rank_lt_iff (b : ℕ → ℕ) {N m n : ℕ} (hm : m < N) (hn : n < N) : rank b N m < rank b N n ↔ Before b m n := by
  refine ⟨fun h => ?_, rank_lt_rank b hm hn⟩
  rcases before_trichotomy b m n with g | g | g
  · exact g
  · subst g; omega
  · have := rank_lt_rank b hn hm g; omega

theorem rank_inj (b : ℕ → ℕ) {N m n : ℕ} (hm : m < N) (hn : n < N) (h : rank b N m = rank b N n) : m = n := by
  rcases before_trichotomy b m n with g | g | g
  · have := rank_lt_rank b hm hn g; omega
  · exact g
  · have := rank_lt_rank b hn hm g; omega

/-- The ranks as a permutation of the positions. -/
noncomputable def perm (b : ℕ → ℕ) (N : ℕ) : Equiv.Perm (Fin N) :=
  Equiv.ofBijective (fun n => ⟨rank b N n.val, rank_lt b n.isLt⟩)
    (Finite.injective_iff_bijective.mp fun m n h => Fin.ext (rank_inj b m.isLt n.isLt (congrArg Fin.val h)))

theorem perm_val (b : ℕ → ℕ) {N : ℕ} (n : Fin N) : (perm b N n).val = rank b N n.val := rfl

theorem rank_symm (b : ℕ → ℕ) {N : ℕ} (t : Fin N) : rank b N ((perm b N).symm t).val = t.val := by
  rw [← perm_val, Equiv.apply_symm_apply]

/-- The one token of rank `t`, as a sum over all tokens. -/
theorem sum_rank (b : ℕ → ℕ) {N : ℕ} (t : Fin N) :
    ∑ n ∈ Finset.range N, (if rank b N n = t.val then n else 0) = ((perm b N).symm t).val := by
  rw [Finset.sum_eq_single ((perm b N).symm t).val]
  · rw [if_pos (rank_symm b t)]
  · intro n hn hne
    rw [if_neg]
    intro h
    exact hne (rank_inj b (Finset.mem_range.mp hn) (Fin.isLt _) (h.trans (rank_symm b t).symm))
  · intro h
    exact absurd (Finset.mem_range.mpr (Fin.isLt _)) h

/-- A stable sort only asks whether a later position comes before an earlier one. -/
theorem stableSort_congr_later {ι : Type} (R R' : ι → ι → Bool) (l : List ι) (hl : l.Pairwise fun a b => R b a = R' b a) :
    stableSort R l = stableSort R' l := by
  induction l with
  | nil => rfl
  | cons a l ih =>
    rw [List.pairwise_cons] at hl
    unfold stableSort
    rw [ih hl.2]
    exact insertBefore_congr R R' a _ fun b hb => hl.1 b ((perm_stableSort R' l).mem_iff.mp hb)

theorem sortedFrom_congr_later {N : ℕ} (R R' : Fin N → Fin N → Bool) (h : ∀ m n, m < n → R n m = R' n m) :
    sortedFrom R = sortedFrom R' := by
  have e : sortPositions N R = sortPositions N R' :=
    stableSort_congr_later R R' _ ((List.pairwise_lt_finRange N).imp fun {a b} g => h a b g)
  funext k
  unfold sortedFrom
  rw [List.get_of_eq e]
  rfl

/-- A sort by the inverse of a permutation lists the permutation. -/
theorem sortedFrom_of_perm {N : ℕ} (σ : Equiv.Perm (Fin N)) (R : Fin N → Fin N → Bool)
    (h : ∀ m n, R m n = decide (σ.symm m < σ.symm n)) (k : Fin N) : sortedFrom R k = σ k := by
  have e : R = fun m n => decide (σ.symm m < σ.symm n) := funext fun m => funext fun n => h m n
  subst e
  unfold sortedFrom
  rw [List.get_of_eq (sortPositions_of_perm σ)]
  simp

/-- A stable sort by bucket lists the tokens by rank. -/
theorem sortedFrom_bucket (b : ℕ → ℕ) {N : ℕ} (R : Fin N → Fin N → Bool) (h : ∀ m n : Fin N, R m n = decide (b m.val < b n.val))
    (k : Fin N) : sortedFrom R k = (perm b N).symm k := by
  rw [sortedFrom_congr_later R (fun m n => decide (perm b N m < perm b N n))]
  · exact sortedFrom_of_perm (perm b N).symm _ (fun m n => rfl) k
  · intro m n hmn
    rw [h]
    congr 1
    refine propext ⟨fun g => ?_, fun g => ?_⟩
    · exact rank_lt_rank b n.isLt m.isLt (.inl g)
    · rcases (rank_lt_iff b n.isLt m.isLt).mp g with g | ⟨_, g⟩
      · exact g
      · exact absurd hmn (by simpa using Nat.le_of_lt g)

end Cert.Proof.RankSort

end
-- ==== Proof.RankPay.lean ====
/-
  The ranking body's operations at extended reals, element by element: with small natural numbers in, they count.
-/
module

public import proofs.«01_k».proof.Proof.RankLoops
public import proofs.«01_k».proof.Proof.RankSort
public import Idealize.ShloMosaic.Lib.Pointwise
public import Idealize.ShloMosaic.PureOps.Ideal.Laws

@[expose] public section

set_option maxRecDepth 16384

noncomputable section

namespace Cert.Proof.RankPay

open Idealize.ShloMosaic
open Cert.RankIdeal Cert.RankIdeal.Gen
open Cert.RankIdeal.Run (binNo)

/-- A count as an extended real. -/
def nat (n : ℕ) : EReal := ((n : ℕ) : EReal)

theorem nat_real (n : ℕ) : nat n = (((n : ℕ) : ℝ) : EReal) := (EReal.coe_natCast (n := n)).symm

theorem fptosi_nat (n : ℕ) (h : n < 2 ^ 31) : FloatOps.fptosi (F := Ideal) (φ := .f32) 32 (nat n) = BitVec.ofNat 32 n := by
  show Ideal.fptosi 32 (nat n) = _
  rw [nat_real]
  unfold Ideal.fptosi
  rw [show Ideal.toIntClamped (-(2 ^ (32 - 1) : Nat)) ((2 ^ (32 - 1) : Nat) - 1) ((((n : ℕ) : ℝ) : EReal)) = (n : ℤ) from ?_]
  · exact BitVec.ofInt_natCast 32 n
  · show max _ (min _ (if (0 : ℝ) ≤ (n : ℝ) then ⌊(n : ℝ)⌋ else ⌈(n : ℝ)⌉)) = (n : ℤ)
    rw [if_pos (Nat.cast_nonneg n), Int.floor_natCast]
    norm_num
    omega

theorem sitofp_nat (n : ℕ) (h : n < 2 ^ 31) : FloatOps.sitofp (F := Ideal) .f32 (BitVec.ofNat 32 n) = nat n := by
  show (((BitVec.ofNat 32 n).toInt : ℝ) : EReal) = nat n
  rw [nat_real, BitVec.toInt_ofNat', Int.bmod_eq_of_le (by omega) (by omega)]
  norm_cast

theorem sum_nat {ι : Type} (s : Finset ι) (f : ι → ℕ) : ∑ i ∈ s, nat (f i) = nat (∑ i ∈ s, f i) := by
  unfold nat; exact (Nat.cast_sum s f).symm

theorem mul_nat (a b : ℕ) : nat a * nat b = nat (a * b) := by
  unfold nat; exact (EReal.natCast_mul a b).symm

theorem add_nat (a b : ℕ) : nat a + nat b = nat (a + b) := by
  unfold nat; exact (Nat.cast_add a b).symm

/-- A truth value as a number. -/
def one (p : Bool) : ℕ := if p then 1 else 0

theorem sitofp_bit (p : Bool) : FloatOps.sitofp (F := Ideal) .f32 (BitVec.setWidth 32 (BitVec.ofBool p)) = nat (one p) := by
  cases p
  · exact sitofp_nat 0 (by decide)
  · exact sitofp_nat 1 (by decide)

theorem cmpi_eq_word {a b : ℕ} (ha : a < 2 ^ 32) (hb : b < 2 ^ 32) :
    IntOp.cmpi .eq (BitVec.ofNat 32 a) (BitVec.ofNat 32 b) = BitVec.ofBool (decide (a = b)) := by
  unfold IntOp.cmpi
  congr 1
  rw [Bool.eq_iff_iff]
  simp only [beq_iff_eq, decide_eq_true_eq]
  constructor
  · intro h
    have := congrArg BitVec.toNat h
    rwa [BitVec.toNat_ofNat, BitVec.toNat_ofNat, Nat.mod_eq_of_lt ha, Nat.mod_eq_of_lt hb] at this
  · rintro rfl; rfl

theorem cmpi_slt_word {a b : ℕ} (ha : a < 2 ^ 31) (hb : b < 2 ^ 31) :
    IntOp.cmpi .slt (BitVec.ofNat 32 a) (BitVec.ofNat 32 b) = BitVec.ofBool (decide (a < b)) := by
  unfold IntOp.cmpi
  congr 1
  show BitVec.slt _ _ = _
  rw [BitVec.slt_eq_decide, BitVec.toInt_ofNat', BitVec.toInt_ofNat', Int.bmod_eq_of_le (by omega) (by omega),
    Int.bmod_eq_of_le (by omega) (by omega)]
  simp

theorem toNat_word {a : ℕ} (ha : a < 2 ^ 32) : (BitVec.ofNat 32 a).toNat = a := by
  rw [BitVec.toNat_ofNat, Nat.mod_eq_of_lt ha]

theorem shrui_word {a : ℕ} (u : ArithUnit) (ha : a < 2 ^ 32) (k : ℕ) (hk : k < 32) :
    IntOp.shrui u (BitVec.ofNat 32 a) (BitVec.ofNat 32 k) = BitVec.ofNat 32 (a >>> k) := by
  have hk' : (BitVec.ofNat 32 k).toNat = k := toNat_word (by omega)
  have e : IntOp.shrui u (BitVec.ofNat 32 a) (BitVec.ofNat 32 k) = BitVec.ofNat 32 a >>> k := by
    unfold IntOp.shrui
    simp [hk', hk]
  rw [e]
  apply BitVec.eq_of_toNat_eq
  have h2 : a >>> k < 2 ^ 32 := lt_of_le_of_lt (Nat.shiftRight_le a k) ha
  rw [BitVec.toNat_ushiftRight, toNat_word ha, toNat_word h2]

theorem andi_word {a : ℕ} (ha : a < 2 ^ 32) (k : ℕ) (hk : 2 ^ k ≤ 2 ^ 32) :
    IntOp.andi (BitVec.ofNat 32 a) (BitVec.ofNat 32 (2 ^ k - 1)) = BitVec.ofNat 32 (a % 2 ^ k) := by
  have hp : 0 < 2 ^ k := Nat.two_pow_pos k
  apply BitVec.eq_of_toNat_eq
  unfold IntOp.andi
  rw [BitVec.toNat_and, toNat_word ha, toNat_word (show 2 ^ k - 1 < 2 ^ 32 by omega), toNat_word (lt_of_le_of_lt (Nat.mod_le _ _) ha)]
  exact Nat.and_two_pow_sub_one_eq_mod a k

/-! ## The bucket of a token -/

/-- The number whose binary digits are the signs of the first eight projections. -/
def code (s : ℕ → Bool) : ℕ := ∑ k ∈ Finset.range 8, 2 ^ k * one (s k)

/-- The Gray code. -/
def gray (c : ℕ) : ℕ := c ^^^ (c >>> 1)

theorem one_le (p : Bool) : one p ≤ 1 := by cases p <;> decide

theorem code_lt (s : ℕ → Bool) : code s < 256 := by
  unfold code
  simp only [Finset.sum_range_succ, Finset.sum_range_zero]
  have := one_le (s 0); have := one_le (s 1); have := one_le (s 2); have := one_le (s 3)
  have := one_le (s 4); have := one_le (s 5); have := one_le (s 6); have := one_le (s 7)
  omega

theorem gray_lt {c : ℕ} (h : c < 256) : gray c < 256 := by
  unfold gray
  exact Nat.xor_lt_two_pow (n := 8) h (lt_of_le_of_lt (Nat.shiftRight_le c 1) h)

theorem xori_word {a : ℕ} (ha : a < 256) :
    IntOp.xori (BitVec.ofNat 32 a) (IntOp.shrui .vector (BitVec.ofNat 32 a) 1#32) = BitVec.ofNat 32 (gray a) := by
  have h1 : a >>> 1 < 2 ^ 32 := lt_of_le_of_lt (Nat.shiftRight_le a 1) (by omega)
  have hs := shrui_word .vector (show a < 2 ^ 32 by omega) 1 (by decide)
  rw [show (1#32 : BitVec 32) = BitVec.ofNat 32 1 from rfl, hs]
  apply BitVec.eq_of_toNat_eq
  unfold IntOp.xori
  rw [BitVec.toNat_xor, toNat_word (by omega), toNat_word h1, toNat_word (lt_trans (gray_lt ha) (by decide))]
  rfl

/-- Whether a projection is positive. -/
def pos (r : EReal) : Bool := decide (0 < r)

theorem pay10_apply (j : Fin 128) : k0_pay10 (F := Ideal) (ix2 0 j) = nat (if j.val < 8 then 2 ^ j.val else 0) := by
  pointwise [k0_pay10]
  have hb : (if j.val < 8 then 2 ^ j.val else 0) < 2 ^ 31 := by
    split_ifs with h
    · exact Nat.pow_lt_pow_right (by decide) (by omega)
    · decide
  rw [← sitofp_nat _ hb]
  clear hb
  refine congrArg _ ?_
  revert j
  decide +kernel

theorem pay11_apply (r j : Fin 128) : k0_pay11 (F := Ideal) (ix2 r j) = nat (one (decide (r.val < j.val))) := by
  pointwise [k0_pay11]
  rw [cmpi_slt_word (by omega) (by omega), sitofp_bit]

theorem pay12_apply (r j : Fin 256) : k0_pay12 (F := Ideal) (ix2 r j) = nat (one (decide (j.val < r.val))) := by
  pointwise [k0_pay12]
  rw [cmpi_slt_word (by omega) (by omega), sitofp_bit]

/-- The bucket's word of a token, from the signs of its first eight projections. -/
theorem pay25_apply (w : Vec Ideal S64x128 .f32) (x : Vec Ideal S1x128x64 .f32) (j : Fin 128) (s : ℕ → Bool)
    (hs : ∀ k : Fin 128, k.val < 8 → pos (∑ d : Fin 64, x (ix3 0 j d) * w (ix2 d k)) = s k.val) :
    k0_pay25 k0_pay10 w x (ix2 0 j) = BitVec.ofNat 32 (gray (code s)) := by
  have e : ∑ k : Fin 128, k0_pay10 (F := Ideal) (ix2 0 k) *
      FloatOps.sitofp (F := Ideal) .f32 (BitVec.setWidth 32 (BitVec.ofBool (pos (∑ d : Fin 64, x (ix3 0 j d) * w (ix2 d k)))))
      = nat (code s) := by
    have e1 : ∀ k : Fin 128, k0_pay10 (F := Ideal) (ix2 0 k) *
        FloatOps.sitofp (F := Ideal) .f32 (BitVec.setWidth 32 (BitVec.ofBool (pos (∑ d : Fin 64, x (ix3 0 j d) * w (ix2 d k)))))
        = nat ((fun m : ℕ => if m < 8 then 2 ^ m * one (s m) else 0) k.val) := by
      intro k
      rw [pay10_apply, sitofp_bit, mul_nat]
      dsimp only
      by_cases h : k.val < 8
      · rw [if_pos h, if_pos h, hs k h]
      · rw [if_neg h, if_neg h, Nat.zero_mul]
    rw [Finset.sum_congr rfl fun k _ => e1 k, sum_nat,
      Fin.sum_univ_eq_sum_range (fun m : ℕ => if m < 8 then 2 ^ m * one (s m) else 0) 128]
    refine congrArg nat ?_
    unfold code
    rw [← Finset.sum_subset (s₁ := Finset.range 8) (by intro a; simp only [Finset.mem_range]; omega)]
    · exact Finset.sum_congr rfl fun a ha => if_pos (Finset.mem_range.mp ha)
    · intro a _ ha
      rw [if_neg]
      simpa using ha
  pointwise [k0_pay25]
  unfold pos at e
  rw [e, fptosi_nat _ (lt_trans (code_lt s) (by decide)), xori_word (code_lt s)]

theorem pay26_apply (w : Vec Ideal S64x128 .f32) (x : Vec Ideal S1x128x64 .f32) (j : Fin 128) :
    k0_pay26 k0_pay10 w x (ix2 0 j) = k0_pay25 k0_pay10 w x (ix2 0 j) := by
  pointwise [k0_pay26]

/-! ## Counting inside a chunk -/

theorem sum_one_eq {N : ℕ} (p : ℕ → Prop) [DecidablePred p] : ∑ j : Fin N, one (decide (p j.val)) = Nat.count p N := by
  rw [Fin.sum_univ_eq_sum_range (fun j => one (decide (p j))) N, Nat.count_eq_card_filter_range, Finset.card_filter]
  unfold one
  simp

section Chunk

variable (w : Vec Ideal S64x128 .f32) (x : Vec Ideal S1x128x64 .f32) (c : ℕ → ℕ) (hc : ∀ j, c j < 256)
  (hx : ∀ j : Fin 128, k0_pay25 k0_pay10 w x (ix2 0 j) = BitVec.ofNat 32 (c j.val))

include hc hx

theorem pay27_apply (i : Fin 256) (j : Fin 128) :
    k0_pay27 k0_pay10 binNo w x (ix2 i j) = nat (one (decide (i.val = c j.val))) := by
  pointwise [k0_pay27]
  rw [hx, cmpi_eq_word (by omega) (lt_trans (hc _) (by decide)), sitofp_bit]

theorem pay29_apply (h : FVec Ideal S256x1 .f32) (H : ℕ → ℕ) (hh : ∀ i : Fin 256, h (ix2 i 0) = nat (H i.val)) (i : Fin 256) :
    k0_pay29 k0_pay10 binNo w h x (ix2 i 0) = nat (H i.val + Nat.count (fun j => c j = i.val) 128) := by
  pointwise [k0_pay29]
  simp only [pay27_apply w x c hc hx, hh]
  rw [sum_nat, add_nat]
  refine congrArg (fun z => nat (H i.val + z)) ?_
  rw [← sum_one_eq (fun j => c j = i.val)]
  simp only [eq_comm]

omit hx in
theorem sum_pick (j : ℕ) (f : ℕ → ℕ) : ∑ i : Fin 256, one (decide (i.val = c j)) * f i.val = f (c j) := by
  rw [Finset.sum_eq_single (⟨c j, hc j⟩ : Fin 256)]
  · simp [one]
  · intro i _ hi
    have : i.val ≠ c j := fun h => hi (Fin.ext h)
    simp [one, this]
  · intro h; exact absurd (Finset.mem_univ _) h

theorem pay28_apply (h : FVec Ideal S256x1 .f32) (H : ℕ → ℕ) (hh : ∀ i : Fin 256, h (ix2 i 0) = nat (H i.val)) (j : Fin 128) :
    k0_pay28 k0_pay10 k0_pay11 binNo w h x (ix2 0 j) = nat (H (c j.val) + Nat.count (fun r => c r = c j.val) j.val) := by
  pointwise [k0_pay28]
  simp only [pay27_apply w x c hc hx, hh, pay11_apply, mul_nat, sum_nat, add_nat]
  refine congrArg nat ?_
  rw [sum_pick c hc j.val H,
    sum_pick c hc j.val (fun i => ∑ r : Fin 128, one (decide (i = c r.val)) * one (decide (r.val < j.val))), add_comm]
  refine congrArg (H (c j.val) + ·) ?_
  rw [Fin.sum_univ_eq_sum_range (fun r => one (decide (c j.val = c r)) * one (decide (r < j.val))) 128,
    Nat.count_eq_card_filter_range, Finset.card_filter,
    ← Finset.sum_subset (s₁ := Finset.range j.val) (by intro a; simp only [Finset.mem_range]; omega)]
  · refine Finset.sum_congr rfl fun r hr => ?_
    have := Finset.mem_range.mp hr
    simp [one, this, eq_comm]
  · intro a _ ha
    have : ¬ a < j.val := by simpa using ha
    simp [one, this]

end Chunk

/-! ## First ranks, ranks, and placing -/

theorem ofBits_256 : Ideal.ofBits .f32 1132462080#32 = nat 256 := by
  rw [nat_real]
  simp [Ideal.ofBits, Ideal.ieee]
  norm_cast
  norm_num

theorem pay20_apply (h : FVec Ideal S256x1 .f32) (H : ℕ → ℕ) (hh : ∀ i : Fin 256, h (ix2 i 0) = nat (H i.val))
    (hH : ∀ i, H i < 2 ^ 31) (i : Fin 256) : k0_pay20 h (ix2 i 0) = nat (∑ k ∈ Finset.range i.val, H k) := by
  pointwise [k0_pay20]
  have e1 : ∀ k : Fin 256, FloatOps.sitofp (F := Ideal) .f32 (IntOp.shrui ArithUnit.vector (FloatOps.fptosi (F := Ideal) (φ := .f32) 32 (h (ix2 k 0))) 8#32)
      = nat (H k.val / 256) := fun k => by
    rw [hh, fptosi_nat _ (hH _), show (8#32 : BitVec 32) = BitVec.ofNat 32 8 from rfl,
      shrui_word _ (lt_trans (hH _) (by decide)) 8 (by decide), Nat.shiftRight_eq_div_pow, sitofp_nat _ (lt_of_le_of_lt (Nat.div_le_self _ _) (hH _))]
  have e2 : ∀ k : Fin 256, FloatOps.sitofp (F := Ideal) .f32 (IntOp.andi (FloatOps.fptosi (F := Ideal) (φ := .f32) 32 (h (ix2 k 0))) 255#32)
      = nat (H k.val % 256) := fun k => by
    rw [hh, fptosi_nat _ (hH _), show (255#32 : BitVec 32) = BitVec.ofNat 32 (2 ^ 8 - 1) from rfl,
      andi_word (lt_trans (hH _) (by decide)) 8 (by decide), sitofp_nat _ (lt_of_le_of_lt (Nat.mod_le _ _) (hH _))]
    rfl
  simp only [e1, e2, ofBits_256, pay12_apply, mul_nat, sum_nat, add_nat]
  refine congrArg nat ?_
  rw [Finset.mul_sum, ← Finset.sum_add_distrib,
    Finset.sum_congr rfl fun (k : Fin 256) _ => show 256 * (one (decide (k.val < i.val)) * (H k.val / 256))
      + one (decide (k.val < i.val)) * (H k.val % 256) = (fun k => if k < i.val then H k else 0) k.val from ?_,
    Fin.sum_univ_eq_sum_range (fun k => if k < i.val then H k else 0) 256,
    ← Finset.sum_subset (s₁ := Finset.range i.val) (by intro a; simp only [Finset.mem_range]; omega)]
  · exact Finset.sum_congr rfl fun a ha => if_pos (Finset.mem_range.mp ha)
  · intro a _ ha
    rw [if_neg]
    simpa using ha
  · dsimp only
    by_cases g : k.val < i.val
    · simp only [one, g, decide_true, if_true]; omega
    · simp [one, g]

section Place

variable (h : FVec Ideal S256x1 .f32) (v : Vec Ideal S1x128 .i32) (u : Vec Ideal S1x128 .f32)
  (H : ℕ → ℕ) (c p : ℕ → ℕ) (hh : ∀ i : Fin 256, h (ix2 i 0) = nat (H i.val)) (hc : ∀ j, c j < 256)
  (hv : ∀ j : Fin 128, v (ix2 0 j) = BitVec.ofNat 32 (c j.val)) (hu : ∀ j : Fin 128, u (ix2 0 j) = nat (p j.val))
  (hr : ∀ j : Fin 128, H (c j.val) + p j.val < 8192)

include hh hc hv hu hr

theorem pay3_apply (j : Fin 128) : k0_pay3 binNo h v u (ix2 0 j) = BitVec.ofNat 32 (H (c j.val) + p j.val) := by
  pointwise [k0_pay3]
  have e : ∀ i : Fin 256, FloatOps.sitofp (F := Ideal) .f32 (BitVec.setWidth 32 (IntOp.cmpi CmpIPredicate.eq (BitVec.ofNat 32 i.val) (v (ix2 0 j))))
      * h (ix2 i 0) = nat (one (decide (i.val = c j.val)) * H i.val) := fun i => by
    rw [hv, cmpi_eq_word (by omega) (lt_trans (hc _) (by decide)), sitofp_bit, hh, mul_nat]
  rw [Finset.sum_congr rfl fun i _ => e i, sum_nat, sum_pick c hc j.val H, hu, add_nat, fptosi_nat _ (lt_trans (hr j) (by decide))]

theorem pay4_apply (b : BitVec 32) (j : Fin 128) :
    k0_pay4 b binNo h v u (ix3 0 0 j) = BitVec.ofNat 32 (H (c j.val) + p j.val) + b := by
  pointwise [k0_pay4]
  rw [pay3_apply h v u H c p hh hc hv hu hr]
  rfl

theorem pay5_apply (r : Fin 64) (j : Fin 128) :
    k0_pay5 binNo (iota .tc S64x1 32 [0] iota_S64x1_d0_w32) h v u (ix2 r j)
      = nat (one (decide (r.val = (H (c j.val) + p j.val) / 128))) := by
  pointwise [k0_pay5]
  rw [pay3_apply h v u H c p hh hc hv hu hr, show (7#32 : BitVec 32) = BitVec.ofNat 32 7 from rfl,
    shrui_word _ (lt_trans (hr j) (by decide)) 7 (by decide), Nat.shiftRight_eq_div_pow,
    cmpi_eq_word (by omega) (lt_of_le_of_lt (Nat.div_le_self _ _) (lt_trans (hr j) (by decide))), sitofp_bit]

theorem pay6_apply (l : Fin 128) (j : Fin 128) :
    k0_pay6 binNo (iota .tc S128x1 32 [0] iota_S128x1_d0_w32) h v u (ix2 l j)
      = nat (one (decide (l.val = (H (c j.val) + p j.val) % 128))) := by
  pointwise [k0_pay6]
  rw [pay3_apply h v u H c p hh hc hv hu hr, show (127#32 : BitVec 32) = BitVec.ofNat 32 (2 ^ 7 - 1) from rfl,
    andi_word (lt_trans (hr j) (by decide)) 7 (by decide),
    cmpi_eq_word (by omega) (lt_of_le_of_lt (Nat.mod_le _ _) (lt_trans (hr j) (by decide))), sitofp_bit]
  rfl

/-- What a chunk adds to the sorted positions: to each rank's place its token, if the chunk holds it. -/
theorem pay22_apply (g : Vec Ideal S64x128 .f32) (G : ℕ) (k : Fin k0_t2_loop.trips) (r : Fin 64) (l : Fin 128)
    (hg : g (ix2 r l) = nat G) :
    k0_pay22 (k0_pay7 binNo (iota .tc S64x1 32 [0] iota_S64x1_d0_w32) (iota .tc S128x1 32 [0] iota_S128x1_d0_w32) h v u)
      (k0_pay8 binNo (iota .tc S64x1 32 [0] iota_S64x1_d0_w32) (iota .tc S128x1 32 [0] iota_S128x1_d0_w32) h v u g)
      (k0_pay9 0#32 1#32 k) (ix2 r l)
      = nat (G + ∑ j ∈ Finset.range 128, if H (c j) + p j = r.val * 128 + l.val then 128 * k.val + j else 0) := by
  have hk : k.val < 64 := Nat.lt_of_lt_of_le k.isLt k0_t2_abs.2.1
  have e9 : (k0_pay9 (F := Ideal) 0#32 1#32 k) = nat (128 * k.val) := by
    rw [← sitofp_nat _ (by omega)]
    unfold k0_pay9
    show FloatOps.sitofp (F := Ideal) .f32 _ = _
    refine congrArg _ ?_
    exact (show ∀ n : Fin 64, Scalar.muli (Scf.iv 0#32 1#32 n.val) 128#32 = BitVec.ofNat 32 (128 * n.val) by decide +kernel) ⟨k.val, hk⟩
  rw [e9]
  pointwise [k0_pay22, k0_pay7, k0_pay8]
  have e0 : ∀ j : Fin 128, FloatOps.sitofp (F := Ideal) .f32 (BitVec.ofNat 32 j.val) = nat j.val := fun j => sitofp_nat _ (by omega)
  simp only [hg, pay5_apply h v u H c p hh hc hv hu hr, pay6_apply h v u H c p hh hc hv hu hr, e0, mul_nat, sum_nat, add_nat]
  refine congrArg nat ?_
  rw [add_assoc]
  refine congrArg (G + ·) ?_
  rw [Finset.mul_sum, ← Finset.sum_add_distrib,
    ← Fin.sum_univ_eq_sum_range (fun j => if H (c j) + p j = r.val * 128 + l.val then 128 * k.val + j else 0) 128]
  refine Finset.sum_congr rfl fun j _ => ?_
  by_cases g : H (c j.val) + p j.val = r.val * 128 + l.val
  · have g1 : r.val = (H (c j.val) + p j.val) / 128 := by omega
    have g2 : l.val = (H (c j.val) + p j.val) % 128 := by omega
    rw [if_pos g, decide_eq_true g1, decide_eq_true g2]
    simp only [one, if_true]; omega
  · rw [if_neg g]
    by_cases g1 : r.val = (H (c j.val) + p j.val) / 128
    · have g2 : ¬ l.val = (H (c j.val) + p j.val) % 128 := by omega
      rw [decide_eq_false g2]; simp [one]
    · rw [decide_eq_false g1]; simp [one]

end Place

theorem pay21_apply (r : Fin 64) (l : Fin 128) : k0_pay21 (F := Ideal) (ix2 r l) = nat 0 := by
  pointwise [k0_pay21]
  simp [nat]

theorem pay14_apply (i : Fin 256) : k0_pay14 (F := Ideal) (ix2 i 0) = nat 0 := by
  pointwise [k0_pay14]
  simp [nat]

theorem pay2_apply (b : BitVec 32) (g : Vec Ideal S64x128 .f32) (n : ℕ) (hn : n < 2 ^ 31) (r : Fin 64) (l : Fin 128)
    (hg : g (ix2 r l) = nat n) : k0_pay2 b g (ix3 0 r l) = BitVec.ofNat 32 n + b := by
  pointwise [k0_pay2]
  rw [hg, fptosi_nat _ hn]
  rfl

end Cert.Proof.RankPay

end
-- ==== Proof.RankHead.lean ====
/-
  What a grid point of the ranking call leaves, in numbers: the rank of every token, and for every rank its token.
-/
module

public import proofs.«01_k».proof.Proof.RankPay
public import proofs.«01_k».proof.Proof.RankFrame
public import Idealize.ShloMosaic.Lib.Pipeline.ValueKit.Tiles

@[expose] public section

set_option maxRecDepth 16384

noncomputable section

namespace Cert.Proof.RankHead

open Idealize.ShloMosaic
open Cert.RankIdeal Cert.RankIdeal.Gen Cert.RankIdeal.Run
open Cert.Proof.RankPay Cert.Proof.RankSort

variable (p : Vec Ideal S64x128 .f32) (x : Vec Ideal S1x8192x64 .f32)

/-- Whether token `n` is on the positive side of projection `k`. -/
def side (n k : ℕ) : Bool :=
  if h : n < 8192 ∧ k < 128 then pos (∑ d : Fin 64, x (ix3 0 ⟨n, h.1⟩ d) * p (ix2 d ⟨k, h.2⟩)) else false

/-- The bucket of token `n`. -/
def bucket (n : ℕ) : ℕ := gray (code (side p x n))

theorem bucket_lt (n : ℕ) : bucket p x n < 256 := gray_lt (code_lt _)

theorem rowIx_eq (j : Fin 128) : rowIx j = ix2 (0 : Fin 1) j := by
  funext a
  match a with
  | ⟨0, _⟩ => rfl
  | ⟨1, _⟩ => rfl

theorem blkIx_eq (j : Fin 128) : blkIx j = ix3 (0 : Fin 1) (0 : Fin 1) j := by
  funext a
  match a with
  | ⟨0, _⟩ => rfl
  | ⟨1, _⟩ => rfl
  | ⟨2, _⟩ => rfl

theorem trips1 (k : Fin k0_t1_loop.trips) : k.val < 64 := Nat.lt_of_lt_of_le k.isLt k0_t1_abs.2.1
theorem trips2 (k : Fin k0_t2_loop.trips) : k.val < 64 := Nat.lt_of_lt_of_le k.isLt k0_t2_abs.2.1

theorem chunk_apply (k : Fin k0_t1_loop.trips) (j : Fin 128) (d : Fin 64) :
    chunk x k (ix3 0 j d) = x (ix3 0 ⟨128 * k.val + j.val, by have := trips1 k; omega⟩ d) := by
  unfold chunk
  refine View.ld_unit_apply_of x (k0_off1 k) _ _ _ _ fun a => ?_
  refine Eq.trans ?_ (congrArg (· + _) (congrFun (k0_off1_eq k) a).symm)
  match a with
  | ⟨0, _⟩ => rfl
  | ⟨1, _⟩ => rfl
  | ⟨2, _⟩ => exact (Nat.zero_add _).symm

theorem row_apply {e : EltTy} (d : Vec Ideal S64x128 e) (k : Fin k0_t2_loop.trips) (j : Fin 128) :
    rowOf d k (ix2 0 j) = d (ix2 ⟨k.val, trips2 k⟩ j) := by
  unfold rowOf
  refine View.ld_unit_apply_of d (k0_off3 k) _ _ _ _ fun a => ?_
  refine Eq.trans ?_ (congrArg (· + _) (congrFun (k0_off3_eq k) a).symm)
  match a with
  | ⟨0, _⟩ => rfl
  | ⟨1, _⟩ => exact (Nat.zero_add _).symm

theorem word (k : Fin k0_t1_loop.trips) (j : Fin 128) :
    k0_pay25 k0_pay10 (k0_pay13 p) (chunk x k) (ix2 0 j) = BitVec.ofNat 32 (bucket p x (128 * k.val + j.val)) := by
  refine pay25_apply _ _ j (side p x (128 * k.val + j.val)) fun i hi => ?_
  have := trips1 k
  unfold side
  rw [dif_pos ⟨by omega, i.isLt⟩]
  refine congrArg pos (Finset.sum_congr rfl fun d _ => ?_)
  rw [chunk_apply]
  refine congrArg _ ?_
  pointwise [k0_pay13]

theorem hist_apply (k : ℕ) (hk : k ≤ 64) (i : Fin 256) :
    hist k0_pay10 binNo (k0_pay13 p) x k (ix2 i 0) = nat (Nat.count (fun m => bucket p x m = i.val) (128 * k)) := by
  induction k generalizing i with
  | zero =>
    rw [Nat.mul_zero, Nat.count_zero]
    exact pay14_apply i
  | succ k ih =>
    have hs := hist_succ k0_pay10 binNo (k0_pay13 p) x ⟨k, hk⟩
    dsimp only at hs
    rw [hs, pay29_apply (k0_pay13 p) (chunk x ⟨k, hk⟩) (fun j => bucket p x (128 * k + j)) (fun j => bucket_lt p x _)
      (word p x ⟨k, hk⟩) _ (fun i => Nat.count (fun m => bucket p x m = i) (128 * k)) (fun i => ih (by omega) i)]
    rw [Nat.mul_succ 128 k, Nat.count_add]

theorem bins_apply (r : Fin 64) (j : Fin 128) : bins p x (ix2 r j) = BitVec.ofNat 32 (bucket p x (128 * r.val + j.val)) := by
  have e : bins p x (ix2 r j) = k0_pay26 k0_pay10 (k0_pay13 p) (chunk x r) (rowIx j) := rfl
  rw [e, rowIx_eq, pay26_apply]
  exact word p x r j

theorem prior_apply (r : Fin 64) (j : Fin 128) :
    prior p x (ix2 r j)
      = nat (Nat.count (fun m => bucket p x m = bucket p x (128 * r.val + j.val)) (128 * r.val + j.val)) := by
  have e : prior p x (ix2 r j) = k0_pay28 k0_pay10 k0_pay11 binNo (k0_pay13 p)
    (hist k0_pay10 binNo (k0_pay13 p) x r.val) (chunk x r) (rowIx j) := rfl
  rw [e, rowIx_eq, pay28_apply (k0_pay13 p) (chunk x r) (fun j => bucket p x (128 * r.val + j)) (fun j => bucket_lt p x _)
      (word p x r) _ (fun i => Nat.count (fun m => bucket p x m = i) (128 * r.val)) (fun i => hist_apply p x r.val (by omega) i),
    Nat.count_add]

theorem first_apply (i : Fin 256) : first p x (ix2 i 0) = nat (Nat.count (fun m => bucket p x m < i.val) 8192) := by
  unfold first
  rw [pay20_apply _ (fun i => Nat.count (fun m => bucket p x m = i) 8192) (fun i => hist_apply p x 64 le_rfl i)
    (fun i => lt_of_le_of_lt (Nat.count_le _) (by decide)), sum_count]

section Chunk

variable (k : Fin k0_t2_loop.trips)

theorem row_bins (j : Fin 128) : rowOf (bins p x) k (ix2 0 j) = BitVec.ofNat 32 (bucket p x (128 * k.val + j.val)) := by
  rw [row_apply]
  exact bins_apply p x ⟨k.val, trips2 k⟩ j

theorem row_prior (j : Fin 128) : rowOf (prior p x) k (ix2 0 j)
    = nat (Nat.count (fun m => bucket p x m = bucket p x (128 * k.val + j.val)) (128 * k.val + j.val)) := by
  rw [row_apply]
  exact prior_apply p x ⟨k.val, trips2 k⟩ j

theorem rank_chunk (j : Fin 128) :
    Nat.count (fun m => bucket p x m < bucket p x (128 * k.val + j.val)) 8192
      + Nat.count (fun m => bucket p x m = bucket p x (128 * k.val + j.val)) (128 * k.val + j.val) < 8192 := by
  have := trips2 k
  exact rank_lt (bucket p x) (N := 8192) (n := 128 * k.val + j.val) (by omega)

end Chunk

/-- The ranks a grid point leaves. -/
theorem outRank_apply (i : grid0.Coords) (n : Fin 8192) :
    outRank i x p (ix3 0 0 n) = BitVec.ofNat 32 (rank (bucket p x) 8192 n.val) + base i := by
  have e : outRank i x p (ix3 0 0 n) = k0_pay4 (base i) binNo (first p x) (rowOf (bins p x) (rowNo n)) (rowOf (prior p x) (rowNo n))
    (blkIx ⟨n.val % 128, Nat.mod_lt _ (by decide)⟩) := rfl
  rw [e, blkIx_eq, pay4_apply (first p x) _ _ (fun i => Nat.count (fun m => bucket p x m < i) 8192)
    (fun j => bucket p x (128 * (rowNo n).val + j))
    (fun j => Nat.count (fun m => bucket p x m = bucket p x (128 * (rowNo n).val + j)) (128 * (rowNo n).val + j))
    (first_apply p x) (fun j => bucket_lt p x _) (row_bins p x (rowNo n)) (row_prior p x (rowNo n)) (rank_chunk p x (rowNo n))]
  have hn : 128 * (rowNo n).val + n.val % 128 = n.val := by show 128 * (n.val / 128) + n.val % 128 = n.val; omega
  dsimp only
  rw [hn]
  rfl

theorem fwd_apply (k : ℕ) (hk : k ≤ 64) (r : Fin 64) (l : Fin 128) :
    fwd binNo (iota .tc S64x1 32 [0] iota_S64x1_d0_w32) (iota .tc S128x1 32 [0] iota_S128x1_d0_w32)
      (first p x) (bins p x) (prior p x) (k0_pay21 (F := Ideal)) k (ix2 r l)
      = nat (∑ n ∈ Finset.range (128 * k), if rank (bucket p x) 8192 n = r.val * 128 + l.val then n else 0) := by
  induction k with
  | zero =>
    rw [Nat.mul_zero, Finset.sum_range_zero]
    exact pay21_apply r l
  | succ k ih =>
    have hs := fwd_succ binNo (iota .tc S64x1 32 [0] iota_S64x1_d0_w32) (iota .tc S128x1 32 [0] iota_S128x1_d0_w32)
      (first p x) (bins p x) (prior p x) (k0_pay21 (F := Ideal)) ⟨k, hk⟩
    dsimp only at hs
    rw [hs, pay22_apply (first p x) _ _ (fun i => Nat.count (fun m => bucket p x m < i) 8192)
      (fun j => bucket p x (128 * k + j))
      (fun j => Nat.count (fun m => bucket p x m = bucket p x (128 * k + j)) (128 * k + j))
      (first_apply p x) (fun j => bucket_lt p x _) (row_bins p x ⟨k, hk⟩) (row_prior p x ⟨k, hk⟩) (rank_chunk p x ⟨k, hk⟩)
      _ _ ⟨k, hk⟩ r l (ih (by omega)), Nat.mul_succ 128 k, Finset.sum_range_add]
    rfl

/-- The sorted positions a grid point leaves. -/
theorem outSort_apply (i : grid0.Coords) (r : Fin 64) (l : Fin 128) :
    outSort i p x (ix3 0 r l)
      = BitVec.ofNat 32 ((perm (bucket p x) 8192).symm ⟨r.val * 128 + l.val, by omega⟩).val + base i := by
  unfold outSort
  refine pay2_apply _ _ _ (lt_trans (Fin.isLt _) (by decide)) r l ?_
  unfold placed
  rw [fwd_apply p x 64 le_rfl r l]
  exact congrArg nat (sum_rank (bucket p x) (N := 8192) ⟨r.val * 128 + l.val, by omega⟩)

end Cert.Proof.RankHead

end
-- ==== Proof.RankRef.lean ====
/-
  What the reference of the ranking call computes, in numbers.
-/
module

public import proofs.«01_k».proof.Proof.RankPay
public import proofs.«01_k».proof.Proof.Gen.RankReferenceIdeal.Read
public import Idealize.ShloMosaic.Lib.SortFacts

@[expose] public section

set_option maxRecDepth 16384

noncomputable section

namespace Cert.Proof.RankRef

open Idealize.ShloMosaic
open Cert.RankReferenceIdeal Cert.RankReferenceIdeal.Gen Cert.RankReferenceIdeal.Read
open Cert.Proof.RankPay Cert.Proof.RankSort

/-- The weights of the eight sides. -/
theorem mask_apply : ∀ k : Fin 8, (val_main_v151 (F := Ideal) (ix1 k) : BitVec 32) = BitVec.ofNat 32 (2 ^ k.val) := by
  decide +kernel

/-- The table of bucket numbers. -/
theorem table_apply : ∀ c : Fin 256, (val_main_v191 (F := Ideal) (ix1 c) : BitVec 32) = BitVec.ofNat 32 (gray c.val) := by
  decide +kernel

variable (x : (⟨S2x16x8192x64, .f32⟩ : BufTy).Contents (Elt Ideal)) (w : (⟨S64x8, .f32⟩ : BufTy).Contents (Elt Ideal))

theorem same_hash : val_main_v98 (F := Ideal) x w = val_main_v198 (F := Ideal) x w := rfl

/-- A sum of words of natural numbers. -/
theorem fold_word {ι : Type} [DecidableEq ι] (f : ι → BitVec 32) (g : ι → ℕ) (h : ∀ i, f i = BitVec.ofNat 32 (g i)) (S : Finset ι) :
    S.fold IntOp.addi (0#32) f = BitVec.ofNat 32 (∑ i ∈ S, g i) := by
  induction S using Finset.induction_on with
  | empty => rfl
  | insert a S ha ih =>
    rw [Finset.fold_insert ha, Finset.sum_insert ha, ih, h a]
    exact (BitVec.ofNat_add ..).symm

theorem side_word (q : Bool) (k : ℕ) :
    IntOp.muli (BitVec.setWidth 32 (BitVec.ofBool q)) (BitVec.ofNat 32 (2 ^ k)) = BitVec.ofNat 32 (2 ^ k * one q) := by
  cases q
  · show BitVec.ofNat 32 0 * _ = _
    rw [← BitVec.ofNat_mul, Nat.zero_mul]
    rfl
  · show BitVec.ofNat 32 1 * _ = _
    rw [← BitVec.ofNat_mul, Nat.one_mul, show one true = 1 from rfl, Nat.mul_one]

section Hash

variable (b : Fin 2) (h : Fin 16) (n : Fin 8192) (s : ℕ → Bool)
  (hs : ∀ k : Fin 8, pos (∑ d : Fin 64, x (ix4 b h n d) * w (ix2 d k)) = s k.val)

include hs

theorem dot_apply (k : Fin 8) : decide (0 < val_main_v155 (F := Ideal) x w (ix4 b h n k)) = s k.val := by
  rw [← hs k, val_main_v155_apply]
  unfold pos
  have e : ∀ d : Fin 64, x (lidx_main_v155 (ix4 b h n k) d) * w (ridx_main_v155 (ix4 b h n k) d)
      = x (ix4 b h n d) * w (ix2 d k) := by
    intro d
    have e1 : lidx_main_v155 (ix4 b h n k) d = ix4 b h n d := by
      funext a
      match a with
      | ⟨0, _⟩ => rfl
      | ⟨1, _⟩ => rfl
      | ⟨2, _⟩ => rfl
      | ⟨3, _⟩ => rfl
    have e2 : ridx_main_v155 (ix4 b h n k) d = ix2 d k := by
      funext a
      match a with
      | ⟨0, _⟩ => rfl
      | ⟨1, _⟩ => rfl
    rw [e1, e2]
  rw [Finset.sum_congr rfl fun d _ => e d]

theorem code_apply : val_main_v162 (F := Ideal) x w (ix3 b h n) = BitVec.ofNat 32 (code s) := by
  pointwise [val_main_v162]
  refine (fold_word _ (fun k : Fin 8 => 2 ^ k.val * one (s k.val)) (fun k => ?_) Finset.univ).trans ?_
  · pointwise [val_main_v161, val_main_v160, val_main_v159, val_main_v158, val_main_v157, val_main_v156, val_main_cst_49]
    rw [dot_apply x w b h n s hs k, mask_apply k, side_word]
  · unfold code
    rw [Fin.sum_univ_eq_sum_range (fun k : ℕ => 2 ^ k * one (s k)) 8]

theorem start_apply : val_main_v197 (F := Ideal) x w (ix4 b h n 0) = BitVec.ofNat 32 (code s) := by
  have hc := code_lt s
  pointwise [val_main_v197, val_main_v196, val_main_v195, val_main_v194, val_main_v193, val_main_v192, val_main_c_58]
  rw [code_apply x w b h n s hs]
  have e : IntOp.cmpi .slt (BitVec.ofNat 32 (code s)) (BitVec.ofNat 32 0) = BitVec.ofBool (decide (code s < 0)) :=
    cmpi_slt_word (by omega) (by decide)
  rw [e, decide_eq_false (Nat.not_lt_zero _)]
  rfl

end Hash

theorem table_read (t : IVec S256 32) (idx : IVec S2x16x8192x1 32) (b : Fin 2) (h : Fin 16) (n : Fin 8192) (c : ℕ) (hc : c < 256)
    (hi : idx (ix4 b h n 0) = BitVec.ofNat 32 c) :
    Host.gather gather_S256_S2x16x8192x1_S2x16x8192_n_0_n_n_0_3_1 t idx (ix3 b h n) = t (ix1 ⟨c, hc⟩) := by
  refine congrArg t (funext fun a => Fin.ext ?_)
  match a with
  | ⟨0, _⟩ =>
    have e : (gather_S256_S2x16x8192x1_S2x16x8192_n_0_n_n_0_3_1.siIdx (ix3 b h n) ⟨0, by decide⟩) = ix4 b h n 0 := by
      funext a
      match a with
      | ⟨0, _⟩ => rfl
      | ⟨1, _⟩ => rfl
      | ⟨2, _⟩ => rfl
      | ⟨3, _⟩ => rfl
    show min (idx (gather_S256_S2x16x8192x1_S2x16x8192_n_0_n_n_0_3_1.siIdx (ix3 b h n) ⟨0, _⟩)).toInt.toNat 255 + 0 + 0 = c
    rw [e, hi, BitVec.toInt_ofNat', Int.bmod_eq_of_le (by omega) (by omega)]
    omega

/-- The buckets of the reference. -/
theorem hash_apply (b : Fin 2) (h : Fin 16) (n : Fin 8192) (s : ℕ → Bool)
    (hs : ∀ k : Fin 8, pos (∑ d : Fin 64, x (ix4 b h n d) * w (ix2 d k)) = s k.val) :
    val_main_v198 (F := Ideal) x w (ix3 b h n) = BitVec.ofNat 32 (gray (code s)) :=
  (table_read _ _ b h n (code s) (code_lt s) (start_apply x w b h n s hs)).trans (table_apply ⟨code s, code_lt s⟩)

section Sorted

variable (b : Fin 2) (h : Fin 16)

theorem along_eq (n k : Fin 8192) : (ix3 b h n : S2x16x8192.Idx).along 2 k = ix3 b h k := by
  funext a
  match a with
  | ⟨0, _⟩ => rfl
  | ⟨1, _⟩ => rfl
  | ⟨2, _⟩ => rfl

/-- A sort of pairs, along its fiber. -/
theorem sort_apply (u v : IVec S2x16x8192 32) (n : Fin 8192) :
    (Host.sort2 S2x16x8192 2 comparator_i32_i32_d2 u v).2 (ix3 b h n)
      = v (ix3 b h (sortedFrom (fun k k' => IntOp.cmpi .slt (u (ix3 b h k)) (u (ix3 b h k')) == 1#1) n)) := by
  exact congrArg v ((along_eq b h n _).trans (congrArg (fun R => ix3 b h (sortedFrom R n)) (funext fun k => funext fun k' =>
    congrArg₂ (fun p q => IntOp.cmpi .slt (u p) (u q) == 1#1) (along_eq b h n k) (along_eq b h n k'))))

theorem slt_true {m n : ℕ} (hm : m < 2 ^ 31) (hn : n < 2 ^ 31) :
    (IntOp.cmpi .slt (BitVec.ofNat 32 m) (BitVec.ofNat 32 n) == 1#1) = decide (m < n) := by
  rw [cmpi_slt_word hm hn]
  cases decide (m < n) <;> rfl

variable (B : ℕ → ℕ) (hB : ∀ n, B n < 256)

include hB

/-- The tokens in the order of their buckets. -/
theorem argsort_apply (hv : ∀ n : Fin 8192, val_main_v198 (F := Ideal) x w (ix3 b h n) = BitVec.ofNat 32 (B n.val)) (n : Fin 8192) :
    val_main_v199 (F := Ideal) x w (ix3 b h n) = BitVec.ofNat 32 ((perm B 8192).symm n).val := by
  unfold val_main_v199
  rw [sort_apply, sortedFrom_bucket B]
  · rfl
  · intro k k'
    rw [hv, hv]
    exact slt_true (lt_trans (hB _) (by decide)) (lt_trans (hB _) (by decide))

/-- The rank of every token. -/
theorem inverse_apply (hv : ∀ n : Fin 8192, val_main_v98 (F := Ideal) x w (ix3 b h n) = BitVec.ofNat 32 (B n.val)) (n : Fin 8192) :
    val_main_v200 (F := Ideal) x w (ix3 b h n) = BitVec.ofNat 32 (rank B 8192 n.val) := by
  unfold val_main_v200
  rw [sort_apply, sortedFrom_of_perm (perm B 8192)]
  · rfl
  · intro k k'
    have e : ∀ k, val_main_v99 (F := Ideal) x w (ix3 b h k) = BitVec.ofNat 32 ((perm B 8192).symm k).val :=
      argsort_apply x w b h B hB hv
    rw [e, e]
    exact slt_true (lt_trans (Fin.isLt _) (by decide)) (lt_trans (Fin.isLt _) (by decide))

end Sorted

end Cert.Proof.RankRef

end
-- ==== Proof.RankEqual.lean ====
/-
  The ranking call and its reference leave the same three arrays: the rank of every query, the queries in the order of
  their buckets and the keys in the order of theirs.
-/
module

public import proofs.«01_k».proof.Proof.RankHead
public import proofs.«01_k».proof.Proof.RankRef
public import Idealize.ShloMosaic.Lib.KernelVsHost
public import Idealize.ShloMosaic.Lib.Pointwise
public import Idealize.ShloMosaic.Lib.Pipeline.ValueKit
public import Idealize.ShloMosaic.Lib.Pipeline.Covers
public import Idealize.ShloMosaic.Lib.StableHlo.ReadAt

@[expose] public section

set_option maxRecDepth 16384

noncomputable section

namespace Cert.Proof.RankEqual

open Idealize.ShloMosaic Idealize.ShloMosaic.TcCoe Idealize.SL.Sem
open Cert.RankIdeal Cert.RankIdeal.Gen Cert.RankIdeal.Run
open Cert.Proof.RankPay Cert.Proof.RankSort

/-! ## The three arrays -/

/-- Whether token `n` of head `h` is on the positive side of projection `k`. -/
def sideOf (x : S2x16x8192x64.Idx → EReal) (w : S64x8.Idx → EReal) (h : Fin 32) (n k : ℕ) : Bool :=
  if hk : n < 8192 ∧ k < 8 then
    pos (∑ d : Fin 64, x (ix4 ⟨h.val / 16, by omega⟩ ⟨h.val % 16, by omega⟩ ⟨n, hk.1⟩ d) * w (ix2 d ⟨k, hk.2⟩))
  else false

/-- The bucket of token `n` of head `h`. -/
def bucketOf (x : S2x16x8192x64.Idx → EReal) (w : S64x8.Idx → EReal) (h : Fin 32) (n : ℕ) : ℕ := gray (code (sideOf x w h n))

/-- The first row of a head in the table of all rows. -/
def start (h : Fin 32) : BitVec 32 := IntOp.muli (BitVec.ofNat 32 h.val) 8192#32

/-- The rank of every token, in the table of all rows. -/
def ranks (x : S2x16x8192x64.Idx → EReal) (w : S64x8.Idx → EReal) (h : Fin 32) (n : Fin 8192) : BitVec 32 :=
  BitVec.ofNat 32 (rank (bucketOf x w h) 8192 n.val) + start h

/-- The token of every rank, in the table of all rows. -/
def order (x : S2x16x8192x64.Idx → EReal) (w : S64x8.Idx → EReal) (h : Fin 32) (r : Fin 64) (l : Fin 128) : BitVec 32 :=
  BitVec.ofNat 32 ((perm (bucketOf x w h) 8192).symm ⟨r.val * 128 + l.val, by omega⟩).val + start h

theorem bucketOf_lt (x : S2x16x8192x64.Idx → EReal) (w : S64x8.Idx → EReal) (h : Fin 32) (n : ℕ) : bucketOf x w h n < 256 :=
  gray_lt (code_lt _)

theorem code_congr (s s' : ℕ → Bool) (h : ∀ k < 8, s k = s' k) : code s = code s' :=
  Finset.sum_congr rfl fun k hk => by rw [h k (Finset.mem_range.mp hk)]

/-! ## The call -/

theorem idx0 (t : Fin cfg0.N) : win0_0.index t = ![(grid0.coords t 0).val, 0, 0] := by
  revert t; exact (by decide +kernel : ∀ t : Fin grid0.N, win0_0.index t = ![(grid0.coords t 0).val, 0, 0])
theorem idx1 (t : Fin cfg0.N) : win0_1.index t = ![(grid0.coords t 0).val, 0, 0] := idx0 t
theorem idx2 (t : Fin cfg0.N) : win0_2.index t = ![0, 0] := by
  revert t; exact (by decide +kernel : ∀ t : Fin grid0.N, win0_2.index t = ![0, 0])
theorem idx3 (t : Fin cfg0.N) : win0_3.index t = ![(grid0.coords t 0).val, 0, 0] := idx0 t
theorem idx4 (t : Fin cfg0.N) : win0_4.index t = ![(grid0.coords t 0).val, 0, 0] := idx0 t
theorem idx5 (t : Fin cfg0.N) : win0_5.index t = ![(grid0.coords t 0).val, 0, 0] := idx0 t

/-- The head of a grid point. -/
def head (t : Fin cfg0.N) : Fin 32 := ⟨(grid0.coords t 0).val, (grid0.coords t 0).isLt⟩

variable (m : (ℓ : Loc nD τ sig) → Buf (Elt Ideal) ℓ)

theorem blk0 (c : Dev nD) (t : Fin cfg0.N) (a : Fin 8192) (e : Fin 64) :
    iblk m c 0 t (ix3 0 a e) = V m c main_v1 (ix3 (head t) a e) := by
  unfold head
  blk_ext [iblk, idx0 t]

theorem blk1 (c : Dev nD) (t : Fin cfg0.N) (a : Fin 8192) (e : Fin 64) :
    iblk m c 1 t (ix3 0 a e) = V m c main_v2 (ix3 (head t) a e) := by
  unfold head
  blk_ext [iblk, idx1 t]

theorem blk2 (c : Dev nD) (t : Fin cfg0.N) (a : Fin 64) (e : Fin 128) :
    iblk m c 2 t (ix2 a e) = V m c main_v0 (ix2 a e) := by
  blk_ext [iblk, idx2 t]

theorem emb3 (t : Fin cfg0.N) (n : Fin 8192) : (win0_3.blk t).view.emb (ix3 0 0 n) = ix3 (head t) 0 n := by
  unfold head
  blk_ext [idx3 t]

theorem emb4 (t : Fin cfg0.N) (r : Fin 64) (l : Fin 128) : (win0_4.blk t).view.emb (ix3 0 r l) = ix3 (head t) r l := by
  unfold head
  blk_ext [idx4 t]

theorem emb5 (t : Fin cfg0.N) (r : Fin 64) (l : Fin 128) : (win0_5.blk t).view.emb (ix3 0 r l) = ix3 (head t) r l := by
  unfold head
  blk_ext [idx5 t]

theorem covers3 : (cfg0.win 3).Covers := by decide +kernel
theorem covers4 : (cfg0.win 4).Covers := by decide +kernel
theorem covers5 : (cfg0.win 5).Covers := by decide +kernel

theorem entry1 (c : Dev nD) :
    V m c main_v1 = shapeCast S32x8192x64 (m ((c : Thread nD τ).loc main_arg0)) shapeCasts_S2x16x8192x64_S32x8192x64 := by
  unfold V
  after_reads_simp
  rfl

theorem entry2 (c : Dev nD) :
    V m c main_v2 = shapeCast S32x8192x64 (m ((c : Thread nD τ).loc main_arg1)) shapeCasts_S2x16x8192x64_S32x8192x64 := by
  unfold V
  after_reads_simp
  rfl

theorem entry0 (c : Dev nD) :
    V m c main_v0 = pad S64x128 ![0, 0] ![0, 120] ![0, 0] (m ((c : Thread nD τ).loc main_arg2))
      (sitofp (F := Ideal) .f32 (constantI S_ 32 0#32)) pads_S64x8_S64x128_000_01200 h_S_ := by
  unfold V
  after_reads_simp
  rfl

theorem row_apply (x : S2x16x8192x64.Idx → EReal) (h : Fin 32) (a : Fin 8192) (e : Fin 64) :
    shapeCast S32x8192x64 x shapeCasts_S2x16x8192x64_S32x8192x64 (ix3 h a e)
      = x (ix4 ⟨h.val / 16, by omega⟩ ⟨h.val % 16, by omega⟩ a e) := by
  pointwise

theorem proj_apply (c : Dev nD) (d : Fin 64) (k : Fin 8) :
    V m c main_v0 (ix2 d ⟨k.val, by omega⟩) = m ((c : Thread nD τ).loc main_arg2) (ix2 d k) := by
  rw [entry0]
  refine pad_apply_of_inside _ _ _ _ _ _ _ _ (ix2 d k) fun a => ?_
  match a with
  | ⟨0, _⟩ => exact (show d.val = 0 + d.val * (0 + 1) by omega)
  | ⟨1, _⟩ => exact (show k.val = 0 + k.val * (0 + 1) by omega)

theorem bucket_eq (x : S2x16x8192x64.Idx → EReal) (c : Dev nD) (t : Fin cfg0.N) (y : Vec Ideal S1x8192x64 .f32)
    (hy : ∀ a e, y (ix3 0 a e) = x (ix4 ⟨(head t).val / 16, by omega⟩ ⟨(head t).val % 16, by omega⟩ a e)) :
    RankHead.bucket (iblk m c 2 t) y = bucketOf x (m ((c : Thread nD τ).loc main_arg2)) (head t) := by
  funext n
  refine congrArg gray (code_congr _ _ fun k hk => ?_)
  unfold RankHead.side sideOf
  by_cases hn : n < 8192
  · rw [dif_pos ⟨hn, by omega⟩, dif_pos ⟨hn, hk⟩]
    refine congrArg pos (Finset.sum_congr rfl fun d _ => ?_)
    exact congrArg₂ (· * ·) (hy _ _) ((blk2 m c t d _).trans (proj_apply m c d ⟨k, hk⟩))
  · rw [dif_neg (fun h => hn h.1), dif_neg (fun h => hn h.1)]

theorem bucketQ (c : Dev nD) (t : Fin cfg0.N) : RankHead.bucket (iblk m c 2 t) (iblk m c 0 t)
    = bucketOf (m ((c : Thread nD τ).loc main_arg0)) (m ((c : Thread nD τ).loc main_arg2)) (head t) :=
  bucket_eq m _ c t _ fun a e => (blk0 m c t a e).trans (by rw [entry1, row_apply])

theorem bucketK (c : Dev nD) (t : Fin cfg0.N) : RankHead.bucket (iblk m c 2 t) (iblk m c 1 t)
    = bucketOf (m ((c : Thread nD τ).loc main_arg1)) (m ((c : Thread nD τ).loc main_arg2)) (head t) :=
  bucket_eq m _ c t _ fun a e => (blk1 m c t a e).trans (by rw [entry2, row_apply])

theorem base_eq (t : Fin cfg0.N) : base (grid0.coords t) = start (head t) := rfl

theorem final3 (c : Dev nD) : (dats m 0 c).arrAt 3 cfg0.N = fun j : S32x1x8192.Idx =>
    ranks (m ((c : Thread nD τ).loc main_arg0)) (m ((c : Thread nD τ).loc main_arg2)) (j 0) (j 2) := by
  refine (dats m 0 c).arrAt_eq_of_covers 3 _ covers3 fun t hf y => ?_
  blk_simp
  rw [after_rank]
  obtain ⟨u, v, n, rfl⟩ : ∃ (u v : Fin 1) (n : Fin 8192), y = ix3 u v n := ⟨y 0, y 1, y 2, eq_ix3 y⟩
  obtain rfl : u = 0 := Subsingleton.elim _ _
  obtain rfl : v = 0 := Subsingleton.elim _ _
  rw [emb3]
  refine (RankHead.outRank_apply _ _ _ n).trans ?_
  rw [bucketQ, base_eq]
  rfl

theorem final4 (c : Dev nD) : (dats m 0 c).arrAt 4 cfg0.N = fun j : S32x64x128.Idx =>
    order (m ((c : Thread nD τ).loc main_arg0)) (m ((c : Thread nD τ).loc main_arg2)) (j 0) (j 1) (j 2) := by
  refine (dats m 0 c).arrAt_eq_of_covers 4 _ covers4 fun t hf y => ?_
  blk_simp
  rw [after_sortQ]
  obtain ⟨u, r, l, rfl⟩ : ∃ (u : Fin 1) (r : Fin 64) (l : Fin 128), y = ix3 u r l := ⟨y 0, y 1, y 2, eq_ix3 y⟩
  obtain rfl : u = 0 := Subsingleton.elim _ _
  rw [emb4]
  refine (RankHead.outSort_apply _ _ _ r l).trans ?_
  rw [bucketQ, base_eq]
  rfl

theorem final5 (c : Dev nD) : (dats m 0 c).arrAt 5 cfg0.N = fun j : S32x64x128.Idx =>
    order (m ((c : Thread nD τ).loc main_arg1)) (m ((c : Thread nD τ).loc main_arg2)) (j 0) (j 1) (j 2) := by
  refine (dats m 0 c).arrAt_eq_of_covers 5 _ covers5 fun t hf y => ?_
  blk_simp
  rw [after_sortK]
  obtain ⟨u, r, l, rfl⟩ : ∃ (u : Fin 1) (r : Fin 64) (l : Fin 128), y = ix3 u r l := ⟨y 0, y 1, y 2, eq_ix3 y⟩
  obtain rfl : u = 0 := Subsingleton.elim _ _
  rw [emb5]
  refine (RankHead.outSort_apply _ _ _ r l).trans ?_
  rw [bucketK, base_eq]
  rfl

/-- The run: the three result buffers hold the three arrays, and the arguments are as they were. -/
theorem run_rank (ρ : Dev nD → PrngReg) :
    θ_run defs (onTc (τ := τ) (main (F := Ideal))) ⟨m, fun _ => 0, ρ⟩ (fun r => ∀ c : Dev nD,
      r.2.mem ((c.tc : Thread nD τ).loc main_v3_0) = (fun j : S32x1x8192.Idx =>
        ranks (m ((c : Thread nD τ).loc main_arg0)) (m ((c : Thread nD τ).loc main_arg2)) (j 0) (j 2))
      ∧ r.2.mem ((c.tc : Thread nD τ).loc main_v3_1) = (fun j : S32x64x128.Idx =>
        order (m ((c : Thread nD τ).loc main_arg0)) (m ((c : Thread nD τ).loc main_arg2)) (j 0) (j 1) (j 2))
      ∧ r.2.mem ((c.tc : Thread nD τ).loc main_v3_2) = (fun j : S32x64x128.Idx =>
        order (m ((c : Thread nD τ).loc main_arg1)) (m ((c : Thread nD τ).loc main_arg2)) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final3 m c), ((h c).1 4).trans (final4 m c), ((h c).1 5).trans (final5 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_arrays m ρ)

/-! ## The reference -/

section Reference

open Cert.RankReferenceIdeal.Read

variable (x : S2x16x8192x64.Idx → EReal) (w : S64x8.Idx → EReal)

theorem hash_eq (h : Fin 32) (n : Fin 8192) :
    val_main_v198 (F := Ideal) x w (ix3 ⟨h.val / 16, by omega⟩ ⟨h.val % 16, by omega⟩ n) = BitVec.ofNat 32 (bucketOf x w h n.val) :=
  RankRef.hash_apply x w _ _ n (sideOf x w h n.val) fun k => by
    unfold sideOf
    rw [dif_pos ⟨n.isLt, k.isLt⟩]

theorem ranks_eq : val_main_v207 (F := Ideal) x w = fun j : S32x1x8192.Idx => ranks x w (j 0) (j 2) := by
  funext j
  obtain ⟨h, v, n, rfl⟩ : ∃ (h : Fin 32) (v : Fin 1) (n : Fin 8192), j = ix3 h v n := ⟨j 0, j 1, j 2, eq_ix3 j⟩
  obtain rfl : v = 0 := Subsingleton.elim _ _
  pointwise [val_main_v207, val_main_v206, val_main_v205, val_main_v204, val_main_v203, val_main_v202, val_main_v201, val_main_c_60]
  rw [RankRef.inverse_apply x w _ _ (bucketOf x w h) (bucketOf_lt x w h) (hash_eq x w h)]
  rfl

theorem orderQ_eq : val_main_v210 (F := Ideal) x w = fun j : S32x64x128.Idx => order x w (j 0) (j 1) (j 2) := by
  funext j
  obtain ⟨h, r, l, rfl⟩ : ∃ (h : Fin 32) (r : Fin 64) (l : Fin 128), j = ix3 h r l := ⟨j 0, j 1, j 2, eq_ix3 j⟩
  pointwise [val_main_v210, val_main_v209, val_main_v208, val_main_v204, val_main_v203, val_main_v202, val_main_v201, val_main_c_60]
  have e : ∀ b i n, val_main_v99 (F := Ideal) x w (ix3 b i n) = val_main_v199 (F := Ideal) x w (ix3 b i n) := fun _ _ _ => rfl
  rw [e, RankRef.argsort_apply x w _ _ (bucketOf x w h) (bucketOf_lt x w h) (hash_eq x w h)]
  rfl

theorem orderK_eq : val_main_v213 (F := Ideal) x w = fun j : S32x64x128.Idx => order x w (j 0) (j 1) (j 2) := by
  funext j
  obtain ⟨h, r, l, rfl⟩ : ∃ (h : Fin 32) (r : Fin 64) (l : Fin 128), j = ix3 h r l := ⟨j 0, j 1, j 2, eq_ix3 j⟩
  pointwise [val_main_v213, val_main_v212, val_main_v211, val_main_v204, val_main_v203, val_main_v202, val_main_v201, val_main_c_60]
  rw [RankRef.argsort_apply x w _ _ (bucketOf x w h) (bucketOf_lt x w h) (hash_eq x w h)]
  rfl

end Reference

end Cert.Proof.RankEqual

end
-- ==== Proof.lean ====
/-
  The proof of `Cert.Claim`: the SparseCore call of the row sort at both instances, its reference's run and their equality;
  then the same of the attention call with the gather that follows it, of the ranking call and of the padding call.
-/
module

public import proofs.«01_k».proof.Defs
public import proofs.«01_k».proof.Proof.ScLaunch
public import proofs.«01_k».proof.Proof.BitsLaunch
public import proofs.«01_k».proof.Proof.Ranges
public import proofs.«01_k».proof.Proof.RefValue
public import proofs.«01_k».proof.Proof.AttnEqual
public import proofs.«01_k».proof.Proof.PadEqual
public import proofs.«01_k».proof.Proof.RankFrame
public import proofs.«01_k».proof.Proof.RankBitsFrame
public import proofs.«01_k».proof.Proof.RankEqual
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_indices_in_range
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnReferenceIdeal
public import proofs.«01_k».proof.Proof.Gen.AttnReferenceIdeal.Run
public import proofs.«01_k».proof.Proof.Gen.AttnReferenceIdeal.Read
public import proofs.«01_k».proof.Proof.Gen.Pre_floats_finite
public import proofs.«01_k».proof.Proof.Gen.Rank
public import proofs.«01_k».proof.Proof.Gen.RankIdeal
public import proofs.«01_k».proof.Proof.Gen.RankReferenceIdeal
public import proofs.«01_k».proof.Proof.Gen.RankReferenceIdeal.Run
public import proofs.«01_k».proof.Proof.Gen.RankReferenceIdeal.Read
public import proofs.«01_k».proof.Proof.Gen.Pad
public import proofs.«01_k».proof.Proof.Gen.Pad.Frame
public import proofs.«01_k».proof.Proof.Gen.PadIdeal
public import proofs.«01_k».proof.Proof.Gen.PadIdeal.Frame
public import proofs.«01_k».proof.Proof.Gen.PadReferenceIdeal
public import proofs.«01_k».proof.Proof.Gen.PadReferenceIdeal.Run
public import proofs.«01_k».proof.Proof.Gen.PadReferenceIdeal.Read
public import Idealize.ShloMosaic.Adequacy
public import Idealize.ShloMosaic.Init

@[expose] public section

noncomputable section

namespace Cert.Proof

open Idealize.ShloMosaic Idealize.SL.Sem Cert.Kernel

/-- The stated range of the indices, at the idealized program, is what its run asks of the launch memory. -/
theorem preOK_ideal (m : (ℓ : Loc Cert.KernelIdeal.nD Cert.KernelIdeal.τ Cert.KernelIdeal.sig) → Buf (Elt Ideal) ℓ)
    (h : Pre_KernelIdeal m) : ScI.PreOK m where
  pq d := (Ranges.ranges _ _ _ _ _ _ (h d)).1
  pk d := (Ranges.ranges _ _ _ _ _ _ (h d)).2.1
  s d _ := (Ranges.ranges _ _ _ _ _ _ (h d)).2.2 _

/-- The stated range of the indices, at the program on bits, is what its run asks of the launch memory. -/
theorem preOK_bits (m : (ℓ : Loc Cert.Kernel.nD Cert.Kernel.τ Cert.Kernel.sig) → Buf (Elt Bits) ℓ)
    (h : Pre_Kernel m) : ScB.PreOK m where
  pq d := (Ranges.ranges _ _ _ _ _ _ (h d)).1
  pk d := (Ranges.ranges _ _ _ _ _ _ (h d)).2.1
  s d _ := (Ranges.ranges _ _ _ _ _ _ (h d)).2.2 _

/-- The program on bits terminates from every launch memory with its indices in range, its arguments unchanged and every
    semaphore at zero. -/
theorem frame_p : quiescent_Kernel := fun m g h =>
  (θ_run _ _ _).mono (fun _ e => ⟨fun c => ⟨(e.1 c).q, (e.1 c).k, (e.1 c).v, (e.1 c).pq, (e.1 c).pk, (e.1 c).raw⟩, e.2⟩)
    (ScB.run_main (F := Bits) m g (preOK_bits m h))

/-- The idealized program does the same. -/
theorem frame_pi : quiescent_KernelIdeal := fun m g h =>
  (θ_run _ _ _).mono (fun _ e => ⟨fun c => ⟨(e.1 c).q, (e.1 c).k, (e.1 c).v, (e.1 c).pq, (e.1 c).pk, (e.1 c).raw⟩, e.2⟩)
    (ScI.run_main (F := Ideal) m g (preOK_ideal m h))

/-- The reference terminates from every launch memory, its arguments unchanged and every semaphore at zero. -/
theorem frame_ri : quiescent_ReferenceIdeal := fun m g _ =>
  (θ_run _ _ _).mono (fun _ e => ⟨fun c => (e.1 c).2.2.2.2.2, e.2⟩) (RefValue.run_ref (F := Ideal) m g)

/-- The idealized program and the reference, launched with equal arguments whose indices are in range, end with equal
    results: the three sorted tables and the two arrays of sampled rows. -/
theorem equal : algebraic_KernelIdeal_ReferenceIdeal := fun m g m' g' h hm => by
  refine ⟨fun c => Spec.sorted ((ScI.ins m).q c) ((ScI.ins m).pq c), fun c => Spec.sorted ((ScI.ins m).k c) ((ScI.ins m).pk c),
    fun c => Spec.sorted ((ScI.ins m).v c) ((ScI.ins m).pk c),
    fun c => Spec.picked (Spec.sorted ((ScI.ins m).k c) ((ScI.ins m).pk c)) ((ScI.ins m).s c),
    fun c => Spec.picked (Spec.sorted ((ScI.ins m).v c) ((ScI.ins m).pk c)) ((ScI.ins m).s c), ?_, ?_⟩
  · exact (θ_run _ _ _).mono (fun _ e c => ⟨(e.1 c).oq, (e.1 c).ok, (e.1 c).ov, (e.1 c).jk, (e.1 c).jv,
      (e.1 c).q, (e.1 c).k, (e.1 c).v, (e.1 c).pq, (e.1 c).pk, (e.1 c).raw⟩) (ScI.run_main (F := Ideal) m g (preOK_ideal m h))
  · refine (θ_run _ _ _).mono (fun _ e c => ?_) (RefValue.run_ref (F := Ideal) m' g')
    obtain ⟨a0, a1, a2, a3, a4, a5⟩ := hm c
    obtain ⟨e0, e1, e2, e3, e4, er⟩ := e.1 c
    obtain ⟨r3, r4, r5⟩ := Ranges.ranges _ _ _ _ _ _ (h c)
    rw [a0, a3] at e0
    rw [a1, a4] at e1
    rw [a2, a4] at e2
    rw [a1, a4, a5] at e3
    rw [a2, a4, a5] at e4
    refine ⟨e0.trans (RefValue.rows_eq _ _ r3), e1.trans (RefValue.rows_eq _ _ r4), e2.trans (RefValue.rows_eq _ _ r4),
      e3.trans ?_, e4.trans ?_, er⟩
    · exact (RefValue.pick_eq _ _ r5 _).trans (congrArg (fun y => Spec.picked y _) (RefValue.rows_eq _ _ r4))
    · exact (RefValue.pick_eq _ _ r5 _).trans (congrArg (fun y => Spec.picked y _) (RefValue.rows_eq _ _ r4))

/-- The attention program on bits terminates from every launch memory, its arguments unchanged and every semaphore at zero. -/
theorem frame_a : quiescent_Attn := fun m g _ => Cert.Attn.Gen.frame m g

/-- The idealized attention program does the same. -/
theorem frame_ai : quiescent_AttnIdeal := fun m g _ => Cert.AttnIdeal.Gen.frame m g

/-- The attention reference does the same. -/
theorem frame_si : quiescent_AttnReferenceIdeal := fun m g _ =>
  (θ_run _ _ _).mono (fun r e => ⟨fun c => (e c).2, sem_eq_zero_of_no_sems (by decide) r.2⟩)
    (Cert.AttnReferenceIdeal.Value.run (F := Ideal) m g)

/-- The idealized attention program and its reference, launched with equal arguments whose query and sampled keys are
    finite, end with equal results. -/
theorem equal_attn : algebraic_AttnIdeal_AttnReferenceIdeal_pre_floats_finite := fun m g m' g' h hm => by
  refine ⟨fun c => AttnTail.answer
    (m ((c.tc : Thread Cert.AttnIdeal.nD Cert.AttnIdeal.τ).loc Cert.AttnIdeal.main_arg0))
    (m ((c.tc : Thread Cert.AttnIdeal.nD Cert.AttnIdeal.τ).loc Cert.AttnIdeal.main_arg1))
    (m ((c.tc : Thread Cert.AttnIdeal.nD Cert.AttnIdeal.τ).loc Cert.AttnIdeal.main_arg2))
    (m ((c.tc : Thread Cert.AttnIdeal.nD Cert.AttnIdeal.τ).loc Cert.AttnIdeal.main_arg3))
    (m ((c.tc : Thread Cert.AttnIdeal.nD Cert.AttnIdeal.τ).loc Cert.AttnIdeal.main_arg4))
    (m ((c.tc : Thread Cert.AttnIdeal.nD Cert.AttnIdeal.τ).loc Cert.AttnIdeal.main_arg5))
    (m ((c.tc : Thread Cert.AttnIdeal.nD Cert.AttnIdeal.τ).loc Cert.AttnIdeal.main_arg6)), ?_, ?_⟩
  · exact AttnTail.run_attn m g
  · refine (θ_run _ _ _).mono (fun _ e c => ?_) (Cert.AttnReferenceIdeal.Value.run (F := Ideal) m' g')
    obtain ⟨a0, a1, a2, a3, a4, a5, a6⟩ := hm c
    obtain ⟨ev, er⟩ := e c
    refine ⟨?_, er⟩
    rw [Cert.AttnReferenceIdeal.Read.val_main_v81_eq, a0, a1, a2, a3, a4, a5, a6] at ev
    exact ev.trans (AttnEqual.answer_eq _ _ _ _ _ _ _ (h c))

/-- The ranking program on bits terminates from every launch memory, its arguments unchanged and every semaphore at zero. -/
theorem frame_k : quiescent_Rank := fun m g _ => Cert.Rank.Run.frame m g

/-- The idealized ranking program does the same. -/
theorem frame_ki : quiescent_RankIdeal := fun m g _ => Cert.RankIdeal.Run.frame m g

/-- The ranking reference does the same. -/
theorem frame_ti : quiescent_RankReferenceIdeal := fun m g _ =>
  (θ_run _ _ _).mono (fun r e => ⟨fun c => (e c).2.2.2, sem_eq_zero_of_no_sems (by decide) r.2⟩)
    (Cert.RankReferenceIdeal.Value.run (F := Ideal) m g)

/-- The padding program on bits terminates from every launch memory, its argument unchanged and every semaphore at zero. -/
theorem frame_w : quiescent_Pad := fun m g _ => Cert.Pad.Gen.frame m g

/-- The idealized padding program does the same. -/
theorem frame_wi : quiescent_PadIdeal := fun m g _ => Cert.PadIdeal.Gen.frame m g

/-- The padding reference does the same. -/
theorem frame_zi : quiescent_PadReferenceIdeal := fun m g _ =>
  (θ_run _ _ _).mono (fun r e => ⟨fun c => (e c).2, sem_eq_zero_of_no_sems (by decide) r.2⟩)
    (Cert.PadReferenceIdeal.Value.run (F := Ideal) m g)

/-- The idealized padding program and its reference, launched with equal arguments, end with equal results. -/
theorem equal_pad : algebraic_PadIdeal_PadReferenceIdeal := fun m g m' g' _ hm => by
  refine ⟨fun c => fun j : Cert.PadIdeal.S32x8192x128.Idx => PadEqual.padded
    (shapeCast Cert.PadIdeal.S32x8192x64 (m ((c.tc : Thread Cert.PadIdeal.nD Cert.PadIdeal.τ).loc Cert.PadIdeal.main_arg0))
      Cert.PadIdeal.Facts₀.shapeCasts_S2x16x8192x64_S32x8192x64) (j 0) (j 1) (j 2), ?_, ?_⟩
  · exact PadEqual.run_pad m g
  · refine (θ_run _ _ _).mono (fun _ e c => ?_) (Cert.PadReferenceIdeal.Value.run (F := Ideal) m' g')
    obtain ⟨ev, er⟩ := e c
    refine ⟨?_, er⟩
    rw [Cert.PadReferenceIdeal.Read.val_main_v1_eq, hm c] at ev
    exact ev.trans (PadEqual.reference_eq _)

/-- From launches whose arguments are one and the same, the ranking program's three results are the reference's: the rank of
    every query, and the queries and the keys in the order of their buckets. -/
theorem equal_rank : algebraic_RankIdeal_RankReferenceIdeal := fun m g m' g' _ hm => by
  refine ⟨fun c => fun j : Cert.RankIdeal.S32x1x8192.Idx => RankEqual.ranks
      (m ((c.tc : Thread Cert.RankIdeal.nD Cert.RankIdeal.τ).loc Cert.RankIdeal.main_arg0))
      (m ((c.tc : Thread Cert.RankIdeal.nD Cert.RankIdeal.τ).loc Cert.RankIdeal.main_arg2)) (j 0) (j 2),
    fun c => fun j : Cert.RankIdeal.S32x64x128.Idx => RankEqual.order
      (m ((c.tc : Thread Cert.RankIdeal.nD Cert.RankIdeal.τ).loc Cert.RankIdeal.main_arg0))
      (m ((c.tc : Thread Cert.RankIdeal.nD Cert.RankIdeal.τ).loc Cert.RankIdeal.main_arg2)) (j 0) (j 1) (j 2),
    fun c => fun j : Cert.RankIdeal.S32x64x128.Idx => RankEqual.order
      (m ((c.tc : Thread Cert.RankIdeal.nD Cert.RankIdeal.τ).loc Cert.RankIdeal.main_arg1))
      (m ((c.tc : Thread Cert.RankIdeal.nD Cert.RankIdeal.τ).loc Cert.RankIdeal.main_arg2)) (j 0) (j 1) (j 2), ?_, ?_⟩
  · exact RankEqual.run_rank m g
  · refine (θ_run _ _ _).mono (fun _ e c => ?_) (Cert.RankReferenceIdeal.Value.run (F := Ideal) m' g')
    obtain ⟨a0, a1, a2⟩ := hm c
    obtain ⟨e0, e1, e2, er⟩ := e c
    refine ⟨?_, ?_, ?_, er⟩
    · rw [Cert.RankReferenceIdeal.Read.val_main_v207_eq] at e0
      exact e0.trans ((congrArg₂ Cert.RankReferenceIdeal.Read.val_main_v207 a0 a2).trans (RankEqual.ranks_eq _ _))
    · rw [Cert.RankReferenceIdeal.Read.val_main_v210_eq] at e1
      exact e1.trans ((congrArg₂ Cert.RankReferenceIdeal.Read.val_main_v210 a0 a2).trans (RankEqual.orderQ_eq _ _))
    · rw [Cert.RankReferenceIdeal.Read.val_main_v213_eq] at e2
      exact e2.trans ((congrArg₂ Cert.RankReferenceIdeal.Read.val_main_v213 a1 a2).trans (RankEqual.orderK_eq _ _))

theorem claim : Cert.Claim := ⟨Cert.Kernel.Gen.facts, Cert.KernelIdeal.Gen.facts, Cert.ReferenceIdeal.Gen.facts,
  Cert.Attn.Gen.facts, Cert.AttnIdeal.Gen.facts, Cert.AttnReferenceIdeal.Gen.facts,
  Cert.Rank.Gen.facts, Cert.RankIdeal.Gen.facts, Cert.RankReferenceIdeal.Gen.facts,
  Cert.Pad.Gen.facts, Cert.PadIdeal.Gen.facts, Cert.PadReferenceIdeal.Gen.facts,
  Cert.Pre_indices_in_range.Gen.facts, Cert.Pre_floats_finite.Gen.facts,
  frame_p, frame_pi, frame_ri, fun m g _ => frame_ri m g trivial,
  frame_a, frame_ai, fun m g _ => frame_ai m g trivial, frame_si, fun m g _ => frame_si m g trivial,
  frame_k, frame_ki, frame_ti,
  frame_w, frame_wi, frame_zi,
  trivial, equal, trivial, equal_attn, trivial, equal_rank, trivial, equal_pad⟩

end Cert.Proof

end
